-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelFfnSample (m : (ℓ : Loc Cert.KernelFfnSample.nD Cert.KernelFfnSample.τ Cert.KernelFfnSample.sig) → Buf (Elt Bits) ℓ) : Prop :=
  True

def Pre_KernelFfnSampleIdeal (m : (ℓ : Loc Cert.KernelFfnSampleIdeal.nD Cert.KernelFfnSampleIdeal.τ Cert.KernelFfnSampleIdeal.sig) → Buf (Elt Ideal) ℓ) : Prop :=
  True

def Pre_ReferenceFfnSampleIdeal (m : (ℓ : Loc Cert.ReferenceFfnSampleIdeal.nD Cert.ReferenceFfnSampleIdeal.τ Cert.ReferenceFfnSampleIdeal.sig) → Buf (Elt Ideal) ℓ) : Prop :=
  True

def Pre_KernelStep (m : (ℓ : Loc Cert.KernelStep.nD Cert.KernelStep.τ Cert.KernelStep.sig) → Buf (Elt Bits) ℓ) : Prop :=
  True

def Pre_KernelStepIdeal (m : (ℓ : Loc Cert.KernelStepIdeal.nD Cert.KernelStepIdeal.τ Cert.KernelStepIdeal.sig) → Buf (Elt Ideal) ℓ) : Prop :=
  True

def Pre_ReferenceStepIdeal (m : (ℓ : Loc Cert.ReferenceStepIdeal.nD Cert.ReferenceStepIdeal.τ Cert.ReferenceStepIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7)
      ∧ r.2.mem ((c.tc : Thread Cert.KernelFfn.nD Cert.KernelFfn.τ).loc Cert.KernelFfn.main_arg8) = m ((c.tc : Thread Cert.KernelFfn.nD Cert.KernelFfn.τ).loc Cert.KernelFfn.main_arg8))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7)
      ∧ r.2.mem ((c.tc : Thread Cert.ReferenceFfnIdeal.nD Cert.ReferenceFfnIdeal.τ).loc Cert.ReferenceFfnIdeal.main_arg8) = m ((c.tc : Thread Cert.ReferenceFfnIdeal.nD Cert.ReferenceFfnIdeal.τ).loc Cert.ReferenceFfnIdeal.main_arg8))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelFfnSample [hKernelFfnSample : Cert.KernelFfnSample.Facts] : Prop :=
  ∀ (m : (ℓ : Loc Cert.KernelFfnSample.nD Cert.KernelFfnSample.τ Cert.KernelFfnSample.sig) → Buf (Elt Bits) ℓ) (g : Dev Cert.KernelFfnSample.nD → PrngReg), Pre_KernelFfnSample m →
    θ_run (Cert.KernelFfnSample.defs (F := Bits)) (onTc (τ := Cert.KernelFfnSample.τ) (Cert.KernelFfnSample.main (F := Bits))) ⟨m, fun _ => 0, g⟩ (fun r => (∀ c : Dev Cert.KernelFfnSample.nD,
      r.2.mem ((c.tc : Thread Cert.KernelFfnSample.nD Cert.KernelFfnSample.τ).loc Cert.KernelFfnSample.main_arg0) = m ((c.tc : Thread Cert.KernelFfnSample.nD Cert.KernelFfnSample.τ).loc Cert.KernelFfnSample.main_arg0)
      ∧ r.2.mem ((c.tc : Thread Cert.KernelFfnSample.nD Cert.KernelFfnSample.τ).loc Cert.KernelFfnSample.main_arg1) = m ((c.tc : Thread Cert.KernelFfnSample.nD Cert.KernelFfnSample.τ).loc Cert.KernelFfnSample.main_arg1)
      ∧ r.2.mem ((c.tc : Thread Cert.KernelFfnSample.nD Cert.KernelFfnSample.τ).loc Cert.KernelFfnSample.main_arg2) = m ((c.tc : Thread Cert.KernelFfnSample.nD Cert.KernelFfnSample.τ).loc Cert.KernelFfnSample.main_arg2)
      ∧ r.2.mem ((c.tc : Thread Cert.KernelFfnSample.nD Cert.KernelFfnSample.τ).loc Cert.KernelFfnSample.main_arg3) = m ((c.tc : Thread Cert.KernelFfnSample.nD Cert.KernelFfnSample.τ).loc Cert.KernelFfnSample.main_arg3)
      ∧ r.2.mem ((c.tc : Thread Cert.KernelFfnSample.nD Cert.KernelFfnSample.τ).loc Cert.KernelFfnSample.main_arg4) = m ((c.tc : Thread Cert.KernelFfnSample.nD Cert.KernelFfnSample.τ).loc Cert.KernelFfnSample.main_arg4)
      ∧ r.2.mem ((c.tc : Thread Cert.KernelFfnSample.nD Cert.KernelFfnSample.τ).loc Cert.KernelFfnSample.main_arg5) = m ((c.tc : Thread Cert.KernelFfnSample.nD Cert.KernelFfnSample.τ).loc Cert.KernelFfnSample.main_arg5)
      ∧ r.2.mem ((c.tc : Thread Cert.KernelFfnSample.nD Cert.KernelFfnSample.τ).loc Cert.KernelFfnSample.main_arg6) = m ((c.tc : Thread Cert.KernelFfnSample.nD Cert.KernelFfnSample.τ).loc Cert.KernelFfnSample.main_arg6)
      ∧ r.2.mem ((c.tc : Thread Cert.KernelFfnSample.nD Cert.KernelFfnSample.τ).loc Cert.KernelFfnSample.main_arg7) = m ((c.tc : Thread Cert.KernelFfnSample.nD Cert.KernelFfnSample.τ).loc Cert.KernelFfnSample.main_arg7)
      ∧ r.2.mem ((c.tc : Thread Cert.KernelFfnSample.nD Cert.KernelFfnSample.τ).loc Cert.KernelFfnSample.main_arg8) = m ((c.tc : Thread Cert.KernelFfnSample.nD Cert.KernelFfnSample.τ).loc Cert.KernelFfnSample.main_arg8))
      ∧ r.2.sem = fun _ => 0)

def quiescent_KernelFfnSampleIdeal [hKernelFfnSampleIdeal : Cert.KernelFfnSampleIdeal.Facts] : Prop :=
  ∀ (m : (ℓ : Loc Cert.KernelFfnSampleIdeal.nD Cert.KernelFfnSampleIdeal.τ Cert.KernelFfnSampleIdeal.sig) → Buf (Elt Ideal) ℓ) (g : Dev Cert.KernelFfnSampleIdeal.nD → PrngReg), Pre_KernelFfnSampleIdeal m →
    θ_run (Cert.KernelFfnSampleIdeal.defs (F := Ideal)) (onTc (τ := Cert.KernelFfnSampleIdeal.τ) (Cert.KernelFfnSampleIdeal.main (F := Ideal))) ⟨m, fun _ => 0, g⟩ (fun r => (∀ c : Dev Cert.KernelFfnSampleIdeal.nD,
      r.2.mem ((c.tc : Thread Cert.KernelFfnSampleIdeal.nD Cert.KernelFfnSampleIdeal.τ).loc Cert.KernelFfnSampleIdeal.main_arg0) = m ((c.tc : Thread Cert.KernelFfnSampleIdeal.nD Cert.KernelFfnSampleIdeal.τ).loc Cert.KernelFfnSampleIdeal.main_arg0)
      ∧ r.2.mem ((c.tc : Thread Cert.KernelFfnSampleIdeal.nD Cert.KernelFfnSampleIdeal.τ).loc Cert.KernelFfnSampleIdeal.main_arg1) = m ((c.tc : Thread Cert.KernelFfnSampleIdeal.nD Cert.KernelFfnSampleIdeal.τ).loc Cert.KernelFfnSampleIdeal.main_arg1)
      ∧ r.2.mem ((c.tc : Thread Cert.KernelFfnSampleIdeal.nD Cert.KernelFfnSampleIdeal.τ).loc Cert.KernelFfnSampleIdeal.main_arg2) = m ((c.tc : Thread Cert.KernelFfnSampleIdeal.nD Cert.KernelFfnSampleIdeal.τ).loc Cert.KernelFfnSampleIdeal.main_arg2)
      ∧ r.2.mem ((c.tc : Thread Cert.KernelFfnSampleIdeal.nD Cert.KernelFfnSampleIdeal.τ).loc Cert.KernelFfnSampleIdeal.main_arg3) = m ((c.tc : Thread Cert.KernelFfnSampleIdeal.nD Cert.KernelFfnSampleIdeal.τ).loc Cert.KernelFfnSampleIdeal.main_arg3)
      ∧ r.2.mem ((c.tc : Thread Cert.KernelFfnSampleIdeal.nD Cert.KernelFfnSampleIdeal.τ).loc Cert.KernelFfnSampleIdeal.main_arg4) = m ((c.tc : Thread Cert.KernelFfnSampleIdeal.nD Cert.KernelFfnSampleIdeal.τ).loc Cert.KernelFfnSampleIdeal.main_arg4)
      ∧ r.2.mem ((c.tc : Thread Cert.KernelFfnSampleIdeal.nD Cert.KernelFfnSampleIdeal.τ).loc Cert.KernelFfnSampleIdeal.main_arg5) = m ((c.tc : Thread Cert.KernelFfnSampleIdeal.nD Cert.KernelFfnSampleIdeal.τ).loc Cert.KernelFfnSampleIdeal.main_arg5)
      ∧ r.2.mem ((c.tc : Thread Cert.KernelFfnSampleIdeal.nD Cert.KernelFfnSampleIdeal.τ).loc Cert.KernelFfnSampleIdeal.main_arg6) = m ((c.tc : Thread Cert.KernelFfnSampleIdeal.nD Cert.KernelFfnSampleIdeal.τ).loc Cert.KernelFfnSampleIdeal.main_arg6)
      ∧ r.2.mem ((c.tc : Thread Cert.KernelFfnSampleIdeal.nD Cert.KernelFfnSampleIdeal.τ).loc Cert.KernelFfnSampleIdeal.main_arg7) = m ((c.tc : Thread Cert.KernelFfnSampleIdeal.nD Cert.KernelFfnSampleIdeal.τ).loc Cert.KernelFfnSampleIdeal.main_arg7)
      ∧ r.2.mem ((c.tc : Thread Cert.KernelFfnSampleIdeal.nD Cert.KernelFfnSampleIdeal.τ).loc Cert.KernelFfnSampleIdeal.main_arg8) = m ((c.tc : Thread Cert.KernelFfnSampleIdeal.nD Cert.KernelFfnSampleIdeal.τ).loc Cert.KernelFfnSampleIdeal.main_arg8))
      ∧ r.2.sem = fun _ => 0)

def quiescent_ReferenceFfnSampleIdeal [hReferenceFfnSampleIdeal : Cert.ReferenceFfnSampleIdeal.Facts] : Prop :=
  ∀ (m : (ℓ : Loc Cert.ReferenceFfnSampleIdeal.nD Cert.ReferenceFfnSampleIdeal.τ Cert.ReferenceFfnSampleIdeal.sig) → Buf (Elt Ideal) ℓ) (g : Dev Cert.ReferenceFfnSampleIdeal.nD → PrngReg), Pre_ReferenceFfnSampleIdeal m →
    θ_run (Cert.ReferenceFfnSampleIdeal.defs (F := Ideal)) (onTc (τ := Cert.ReferenceFfnSampleIdeal.τ) (Cert.ReferenceFfnSampleIdeal.main (F := Ideal))) ⟨m, fun _ => 0, g⟩ (fun r => (∀ c : Dev Cert.ReferenceFfnSampleIdeal.nD,
      r.2.mem ((c.tc : Thread Cert.ReferenceFfnSampleIdeal.nD Cert.ReferenceFfnSampleIdeal.τ).loc Cert.ReferenceFfnSampleIdeal.main_arg0) = m ((c.tc : Thread Cert.ReferenceFfnSampleIdeal.nD Cert.ReferenceFfnSampleIdeal.τ).loc Cert.ReferenceFfnSampleIdeal.main_arg0)
      ∧ r.2.mem ((c.tc : Thread Cert.ReferenceFfnSampleIdeal.nD Cert.ReferenceFfnSampleIdeal.τ).loc Cert.ReferenceFfnSampleIdeal.main_arg1) = m ((c.tc : Thread Cert.ReferenceFfnSampleIdeal.nD Cert.ReferenceFfnSampleIdeal.τ).loc Cert.ReferenceFfnSampleIdeal.main_arg1)
      ∧ r.2.mem ((c.tc : Thread Cert.ReferenceFfnSampleIdeal.nD Cert.ReferenceFfnSampleIdeal.τ).loc Cert.ReferenceFfnSampleIdeal.main_arg2) = m ((c.tc : Thread Cert.ReferenceFfnSampleIdeal.nD Cert.ReferenceFfnSampleIdeal.τ).loc Cert.ReferenceFfnSampleIdeal.main_arg2)
      ∧ r.2.mem ((c.tc : Thread Cert.ReferenceFfnSampleIdeal.nD Cert.ReferenceFfnSampleIdeal.τ).loc Cert.ReferenceFfnSampleIdeal.main_arg3) = m ((c.tc : Thread Cert.ReferenceFfnSampleIdeal.nD Cert.ReferenceFfnSampleIdeal.τ).loc Cert.ReferenceFfnSampleIdeal.main_arg3)
      ∧ r.2.mem ((c.tc : Thread Cert.ReferenceFfnSampleIdeal.nD Cert.ReferenceFfnSampleIdeal.τ).loc Cert.ReferenceFfnSampleIdeal.main_arg4) = m ((c.tc : Thread Cert.ReferenceFfnSampleIdeal.nD Cert.ReferenceFfnSampleIdeal.τ).loc Cert.ReferenceFfnSampleIdeal.main_arg4)
      ∧ r.2.mem ((c.tc : Thread Cert.ReferenceFfnSampleIdeal.nD Cert.ReferenceFfnSampleIdeal.τ).loc Cert.ReferenceFfnSampleIdeal.main_arg5) = m ((c.tc : Thread Cert.ReferenceFfnSampleIdeal.nD Cert.ReferenceFfnSampleIdeal.τ).loc Cert.ReferenceFfnSampleIdeal.main_arg5)
      ∧ r.2.mem ((c.tc : Thread Cert.ReferenceFfnSampleIdeal.nD Cert.ReferenceFfnSampleIdeal.τ).loc Cert.ReferenceFfnSampleIdeal.main_arg6) = m ((c.tc : Thread Cert.ReferenceFfnSampleIdeal.nD Cert.ReferenceFfnSampleIdeal.τ).loc Cert.ReferenceFfnSampleIdeal.main_arg6)
      ∧ r.2.mem ((c.tc : Thread Cert.ReferenceFfnSampleIdeal.nD Cert.ReferenceFfnSampleIdeal.τ).loc Cert.ReferenceFfnSampleIdeal.main_arg7) = m ((c.tc : Thread Cert.ReferenceFfnSampleIdeal.nD Cert.ReferenceFfnSampleIdeal.τ).loc Cert.ReferenceFfnSampleIdeal.main_arg7)
      ∧ r.2.mem ((c.tc : Thread Cert.ReferenceFfnSampleIdeal.nD Cert.ReferenceFfnSampleIdeal.τ).loc Cert.ReferenceFfnSampleIdeal.main_arg8) = m ((c.tc : Thread Cert.ReferenceFfnSampleIdeal.nD Cert.ReferenceFfnSampleIdeal.τ).loc Cert.ReferenceFfnSampleIdeal.main_arg8))
      ∧ r.2.sem = fun _ => 0)

def quiescent_KernelStep [hKernelStep : Cert.KernelStep.Facts] : Prop :=
  ∀ (m : (ℓ : Loc Cert.KernelStep.nD Cert.KernelStep.τ Cert.KernelStep.sig) → Buf (Elt Bits) ℓ) (g : Dev Cert.KernelStep.nD → PrngReg), Pre_KernelStep m →
    θ_run (Cert.KernelStep.defs (F := Bits)) (onTc (τ := Cert.KernelStep.τ) (Cert.KernelStep.main (F := Bits))) ⟨m, fun _ => 0, g⟩ (fun r => (∀ c : Dev Cert.KernelStep.nD,
      r.2.mem ((c.tc : Thread Cert.KernelStep.nD Cert.KernelStep.τ).loc Cert.KernelStep.main_arg0) = m ((c.tc : Thread Cert.KernelStep.nD Cert.KernelStep.τ).loc Cert.KernelStep.main_arg0)
      ∧ r.2.mem ((c.tc : Thread Cert.KernelStep.nD Cert.KernelStep.τ).loc Cert.KernelStep.main_arg1) = m ((c.tc : Thread Cert.KernelStep.nD Cert.KernelStep.τ).loc Cert.KernelStep.main_arg1))
      ∧ r.2.sem = fun _ => 0)

def quiescent_KernelStepIdeal [hKernelStepIdeal : Cert.KernelStepIdeal.Facts] : Prop :=
  ∀ (m : (ℓ : Loc Cert.KernelStepIdeal.nD Cert.KernelStepIdeal.τ Cert.KernelStepIdeal.sig) → Buf (Elt Ideal) ℓ) (g : Dev Cert.KernelStepIdeal.nD → PrngReg), Pre_KernelStepIdeal m →
    θ_run (Cert.KernelStepIdeal.defs (F := Ideal)) (onTc (τ := Cert.KernelStepIdeal.τ) (Cert.KernelStepIdeal.main (F := Ideal))) ⟨m, fun _ => 0, g⟩ (fun r => (∀ c : Dev Cert.KernelStepIdeal.nD,
      r.2.mem ((c.tc : Thread Cert.KernelStepIdeal.nD Cert.KernelStepIdeal.τ).loc Cert.KernelStepIdeal.main_arg0) = m ((c.tc : Thread Cert.KernelStepIdeal.nD Cert.KernelStepIdeal.τ).loc Cert.KernelStepIdeal.main_arg0)
      ∧ r.2.mem ((c.tc : Thread Cert.KernelStepIdeal.nD Cert.KernelStepIdeal.τ).loc Cert.KernelStepIdeal.main_arg1) = m ((c.tc : Thread Cert.KernelStepIdeal.nD Cert.KernelStepIdeal.τ).loc Cert.KernelStepIdeal.main_arg1))
      ∧ r.2.sem = fun _ => 0)

def quiescent_ReferenceStepIdeal [hReferenceStepIdeal : Cert.ReferenceStepIdeal.Facts] : Prop :=
  ∀ (m : (ℓ : Loc Cert.ReferenceStepIdeal.nD Cert.ReferenceStepIdeal.τ Cert.ReferenceStepIdeal.sig) → Buf (Elt Ideal) ℓ) (g : Dev Cert.ReferenceStepIdeal.nD → PrngReg), Pre_ReferenceStepIdeal m →
    θ_run (Cert.ReferenceStepIdeal.defs (F := Ideal)) (onTc (τ := Cert.ReferenceStepIdeal.τ) (Cert.ReferenceStepIdeal.main (F := Ideal))) ⟨m, fun _ => 0, g⟩ (fun r => (∀ c : Dev Cert.ReferenceStepIdeal.nD,
      r.2.mem ((c.tc : Thread Cert.ReferenceStepIdeal.nD Cert.ReferenceStepIdeal.τ).loc Cert.ReferenceStepIdeal.main_arg0) = m ((c.tc : Thread Cert.ReferenceStepIdeal.nD Cert.ReferenceStepIdeal.τ).loc Cert.ReferenceStepIdeal.main_arg0)
      ∧ r.2.mem ((c.tc : Thread Cert.ReferenceStepIdeal.nD Cert.ReferenceStepIdeal.τ).loc Cert.ReferenceStepIdeal.main_arg1) = m ((c.tc : Thread Cert.ReferenceStepIdeal.nD Cert.ReferenceStepIdeal.τ).loc Cert.ReferenceStepIdeal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)
      ∧ m' ((c.tc : Thread Cert.ReferenceFfnIdeal.nD Cert.ReferenceFfnIdeal.τ).loc Cert.ReferenceFfnIdeal.main_arg8) = m ((c.tc : Thread Cert.KernelFfnIdeal.nD Cert.KernelFfnIdeal.τ).loc Cert.KernelFfnIdeal.main_arg8)) →
    ∃ (v0 : (c : Dev Cert.KernelFfnIdeal.nD) → Buf (Elt Ideal) ((c.tc : Thread Cert.KernelFfnIdeal.nD Cert.KernelFfnIdeal.τ).loc Cert.KernelFfnIdeal.main_v10)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v10) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
          ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v55) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7)
          ∧ r.2.mem ((c.tc : Thread Cert.ReferenceFfnIdeal.nD Cert.ReferenceFfnIdeal.τ).loc Cert.ReferenceFfnIdeal.main_arg8) = m' ((c.tc : Thread Cert.ReferenceFfnIdeal.nD Cert.ReferenceFfnIdeal.τ).loc Cert.ReferenceFfnIdeal.main_arg8))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v21)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v21) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v91) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v26_0)) (v1 : (c : Dev Cert.KernelInIdeal.nD) → Buf (Elt Ideal) ((c.tc : Thread Cert.KernelInIdeal.nD Cert.KernelInIdeal.τ).loc Cert.KernelInIdeal.main_v26_1)) (v2 : (c : Dev Cert.KernelInIdeal.nD) → Buf (Elt Ideal) ((c.tc : Thread Cert.KernelInIdeal.nD Cert.KernelInIdeal.τ).loc Cert.KernelInIdeal.main_v26_2)) (v3 : (c : Dev Cert.KernelInIdeal.nD) → Buf (Elt Ideal) ((c.tc : Thread Cert.KernelInIdeal.nD Cert.KernelInIdeal.τ).loc Cert.KernelInIdeal.main_v26_3)) (v4 : (c : Dev Cert.KernelInIdeal.nD) → Buf (Elt Ideal) ((c.tc : Thread Cert.KernelInIdeal.nD Cert.KernelInIdeal.τ).loc Cert.KernelInIdeal.main_v26_5)) (v5 : (c : Dev Cert.KernelInIdeal.nD) → Buf (Elt Ideal) ((c.tc : Thread Cert.KernelInIdeal.nD Cert.KernelInIdeal.τ).loc Cert.KernelInIdeal.main_v26_7)) (v6 : (c : Dev Cert.KernelInIdeal.nD) → Buf (Elt Ideal) ((c.tc : Thread Cert.KernelInIdeal.nD Cert.KernelInIdeal.τ).loc Cert.KernelInIdeal.main_v26_8)) (v7 : (c : Dev Cert.KernelInIdeal.nD) → Buf (Elt Ideal) ((c.tc : Thread Cert.KernelInIdeal.nD Cert.KernelInIdeal.τ).loc Cert.KernelInIdeal.main_v26_9)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v26_0) = v0 c
          ∧ r.2.mem ((c.tc : Thread Cert.KernelInIdeal.nD Cert.KernelInIdeal.τ).loc Cert.KernelInIdeal.main_v26_1) = v1 c
          ∧ r.2.mem ((c.tc : Thread Cert.KernelInIdeal.nD Cert.KernelInIdeal.τ).loc Cert.KernelInIdeal.main_v26_2) = v2 c
          ∧ r.2.mem ((c.tc : Thread Cert.KernelInIdeal.nD Cert.KernelInIdeal.τ).loc Cert.KernelInIdeal.main_v26_3) = v3 c
          ∧ r.2.mem ((c.tc : Thread Cert.KernelInIdeal.nD Cert.KernelInIdeal.τ).loc Cert.KernelInIdeal.main_v26_5) = v4 c
          ∧ r.2.mem ((c.tc : Thread Cert.KernelInIdeal.nD Cert.KernelInIdeal.τ).loc Cert.KernelInIdeal.main_v26_7) = v5 c
          ∧ r.2.mem ((c.tc : Thread Cert.KernelInIdeal.nD Cert.KernelInIdeal.τ).loc Cert.KernelInIdeal.main_v26_8) = v6 c
          ∧ r.2.mem ((c.tc : Thread Cert.KernelInIdeal.nD Cert.KernelInIdeal.τ).loc Cert.KernelInIdeal.main_v26_9) = v7 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v123) = v0 c
          ∧ r.2.mem ((c.tc : Thread Cert.ReferenceInIdeal.nD Cert.ReferenceInIdeal.τ).loc Cert.ReferenceInIdeal.main_v124) = v1 c
          ∧ r.2.mem ((c.tc : Thread Cert.ReferenceInIdeal.nD Cert.ReferenceInIdeal.τ).loc Cert.ReferenceInIdeal.main_v125) = v2 c
          ∧ r.2.mem ((c.tc : Thread Cert.ReferenceInIdeal.nD Cert.ReferenceInIdeal.τ).loc Cert.ReferenceInIdeal.main_v104) = v3 c
          ∧ r.2.mem ((c.tc : Thread Cert.ReferenceInIdeal.nD Cert.ReferenceInIdeal.τ).loc Cert.ReferenceInIdeal.main_v126) = v4 c
          ∧ r.2.mem ((c.tc : Thread Cert.ReferenceInIdeal.nD Cert.ReferenceInIdeal.τ).loc Cert.ReferenceInIdeal.main_v120) = v5 c
          ∧ r.2.mem ((c.tc : Thread Cert.ReferenceInIdeal.nD Cert.ReferenceInIdeal.τ).loc Cert.ReferenceInIdeal.main_v122) = v6 c
          ∧ r.2.mem ((c.tc : Thread Cert.ReferenceInIdeal.nD Cert.ReferenceInIdeal.τ).loc Cert.ReferenceInIdeal.main_v118) = v7 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelFfnSample_KernelFfnSampleIdeal : Prop :=
  True

def algebraic_KernelFfnSampleIdeal_ReferenceFfnSampleIdeal [hKernelFfnSampleIdeal : Cert.KernelFfnSampleIdeal.Facts] [hReferenceFfnSampleIdeal : Cert.ReferenceFfnSampleIdeal.Facts] : Prop :=
  ∀ (m : (ℓ : Loc Cert.KernelFfnSampleIdeal.nD Cert.KernelFfnSampleIdeal.τ Cert.KernelFfnSampleIdeal.sig) → Buf (Elt Ideal) ℓ) (g : Dev Cert.KernelFfnSampleIdeal.nD → PrngReg)
    (m' : (ℓ : Loc Cert.ReferenceFfnSampleIdeal.nD Cert.ReferenceFfnSampleIdeal.τ Cert.ReferenceFfnSampleIdeal.sig) → Buf (Elt Ideal) ℓ) (g' : Dev Cert.ReferenceFfnSampleIdeal.nD → PrngReg), Pre_KernelFfnSampleIdeal m →
    (∀ c : Dev Cert.KernelFfnSampleIdeal.nD,
      m' ((c.tc : Thread Cert.ReferenceFfnSampleIdeal.nD Cert.ReferenceFfnSampleIdeal.τ).loc Cert.ReferenceFfnSampleIdeal.main_arg0) = m ((c.tc : Thread Cert.KernelFfnSampleIdeal.nD Cert.KernelFfnSampleIdeal.τ).loc Cert.KernelFfnSampleIdeal.main_arg0)
      ∧ m' ((c.tc : Thread Cert.ReferenceFfnSampleIdeal.nD Cert.ReferenceFfnSampleIdeal.τ).loc Cert.ReferenceFfnSampleIdeal.main_arg1) = m ((c.tc : Thread Cert.KernelFfnSampleIdeal.nD Cert.KernelFfnSampleIdeal.τ).loc Cert.KernelFfnSampleIdeal.main_arg1)
      ∧ m' ((c.tc : Thread Cert.ReferenceFfnSampleIdeal.nD Cert.ReferenceFfnSampleIdeal.τ).loc Cert.ReferenceFfnSampleIdeal.main_arg2) = m ((c.tc : Thread Cert.KernelFfnSampleIdeal.nD Cert.KernelFfnSampleIdeal.τ).loc Cert.KernelFfnSampleIdeal.main_arg2)
      ∧ m' ((c.tc : Thread Cert.ReferenceFfnSampleIdeal.nD Cert.ReferenceFfnSampleIdeal.τ).loc Cert.ReferenceFfnSampleIdeal.main_arg3) = m ((c.tc : Thread Cert.KernelFfnSampleIdeal.nD Cert.KernelFfnSampleIdeal.τ).loc Cert.KernelFfnSampleIdeal.main_arg3)
      ∧ m' ((c.tc : Thread Cert.ReferenceFfnSampleIdeal.nD Cert.ReferenceFfnSampleIdeal.τ).loc Cert.ReferenceFfnSampleIdeal.main_arg4) = m ((c.tc : Thread Cert.KernelFfnSampleIdeal.nD Cert.KernelFfnSampleIdeal.τ).loc Cert.KernelFfnSampleIdeal.main_arg4)
      ∧ m' ((c.tc : Thread Cert.ReferenceFfnSampleIdeal.nD Cert.ReferenceFfnSampleIdeal.τ).loc Cert.ReferenceFfnSampleIdeal.main_arg5) = m ((c.tc : Thread Cert.KernelFfnSampleIdeal.nD Cert.KernelFfnSampleIdeal.τ).loc Cert.KernelFfnSampleIdeal.main_arg5)
      ∧ m' ((c.tc : Thread Cert.ReferenceFfnSampleIdeal.nD Cert.ReferenceFfnSampleIdeal.τ).loc Cert.ReferenceFfnSampleIdeal.main_arg6) = m ((c.tc : Thread Cert.KernelFfnSampleIdeal.nD Cert.KernelFfnSampleIdeal.τ).loc Cert.KernelFfnSampleIdeal.main_arg6)
      ∧ m' ((c.tc : Thread Cert.ReferenceFfnSampleIdeal.nD Cert.ReferenceFfnSampleIdeal.τ).loc Cert.ReferenceFfnSampleIdeal.main_arg7) = m ((c.tc : Thread Cert.KernelFfnSampleIdeal.nD Cert.KernelFfnSampleIdeal.τ).loc Cert.KernelFfnSampleIdeal.main_arg7)
      ∧ m' ((c.tc : Thread Cert.ReferenceFfnSampleIdeal.nD Cert.ReferenceFfnSampleIdeal.τ).loc Cert.ReferenceFfnSampleIdeal.main_arg8) = m ((c.tc : Thread Cert.KernelFfnSampleIdeal.nD Cert.KernelFfnSampleIdeal.τ).loc Cert.KernelFfnSampleIdeal.main_arg8)) →
    ∃ (v0 : (c : Dev Cert.KernelFfnSampleIdeal.nD) → Buf (Elt Ideal) ((c.tc : Thread Cert.KernelFfnSampleIdeal.nD Cert.KernelFfnSampleIdeal.τ).loc Cert.KernelFfnSampleIdeal.main_v10)),
      θ_run (Cert.KernelFfnSampleIdeal.defs (F := Ideal)) (onTc (τ := Cert.KernelFfnSampleIdeal.τ) (Cert.KernelFfnSampleIdeal.main (F := Ideal))) ⟨m, fun _ => 0, g⟩ (fun r => ∀ c : Dev Cert.KernelFfnSampleIdeal.nD,
          r.2.mem ((c.tc : Thread Cert.KernelFfnSampleIdeal.nD Cert.KernelFfnSampleIdeal.τ).loc Cert.KernelFfnSampleIdeal.main_v10) = v0 c
          ∧ r.2.mem ((c.tc : Thread Cert.KernelFfnSampleIdeal.nD Cert.KernelFfnSampleIdeal.τ).loc Cert.KernelFfnSampleIdeal.main_arg0) = m ((c.tc : Thread Cert.KernelFfnSampleIdeal.nD Cert.KernelFfnSampleIdeal.τ).loc Cert.KernelFfnSampleIdeal.main_arg0)
          ∧ r.2.mem ((c.tc : Thread Cert.KernelFfnSampleIdeal.nD Cert.KernelFfnSampleIdeal.τ).loc Cert.KernelFfnSampleIdeal.main_arg1) = m ((c.tc : Thread Cert.KernelFfnSampleIdeal.nD Cert.KernelFfnSampleIdeal.τ).loc Cert.KernelFfnSampleIdeal.main_arg1)
          ∧ r.2.mem ((c.tc : Thread Cert.KernelFfnSampleIdeal.nD Cert.KernelFfnSampleIdeal.τ).loc Cert.KernelFfnSampleIdeal.main_arg2) = m ((c.tc : Thread Cert.KernelFfnSampleIdeal.nD Cert.KernelFfnSampleIdeal.τ).loc Cert.KernelFfnSampleIdeal.main_arg2)
          ∧ r.2.mem ((c.tc : Thread Cert.KernelFfnSampleIdeal.nD Cert.KernelFfnSampleIdeal.τ).loc Cert.KernelFfnSampleIdeal.main_arg3) = m ((c.tc : Thread Cert.KernelFfnSampleIdeal.nD Cert.KernelFfnSampleIdeal.τ).loc Cert.KernelFfnSampleIdeal.main_arg3)
          ∧ r.2.mem ((c.tc : Thread Cert.KernelFfnSampleIdeal.nD Cert.KernelFfnSampleIdeal.τ).loc Cert.KernelFfnSampleIdeal.main_arg4) = m ((c.tc : Thread Cert.KernelFfnSampleIdeal.nD Cert.KernelFfnSampleIdeal.τ).loc Cert.KernelFfnSampleIdeal.main_arg4)
          ∧ r.2.mem ((c.tc : Thread Cert.KernelFfnSampleIdeal.nD Cert.KernelFfnSampleIdeal.τ).loc Cert.KernelFfnSampleIdeal.main_arg5) = m ((c.tc : Thread Cert.KernelFfnSampleIdeal.nD Cert.KernelFfnSampleIdeal.τ).loc Cert.KernelFfnSampleIdeal.main_arg5)
          ∧ r.2.mem ((c.tc : Thread Cert.KernelFfnSampleIdeal.nD Cert.KernelFfnSampleIdeal.τ).loc Cert.KernelFfnSampleIdeal.main_arg6) = m ((c.tc : Thread Cert.KernelFfnSampleIdeal.nD Cert.KernelFfnSampleIdeal.τ).loc Cert.KernelFfnSampleIdeal.main_arg6)
          ∧ r.2.mem ((c.tc : Thread Cert.KernelFfnSampleIdeal.nD Cert.KernelFfnSampleIdeal.τ).loc Cert.KernelFfnSampleIdeal.main_arg7) = m ((c.tc : Thread Cert.KernelFfnSampleIdeal.nD Cert.KernelFfnSampleIdeal.τ).loc Cert.KernelFfnSampleIdeal.main_arg7)
          ∧ r.2.mem ((c.tc : Thread Cert.KernelFfnSampleIdeal.nD Cert.KernelFfnSampleIdeal.τ).loc Cert.KernelFfnSampleIdeal.main_arg8) = m ((c.tc : Thread Cert.KernelFfnSampleIdeal.nD Cert.KernelFfnSampleIdeal.τ).loc Cert.KernelFfnSampleIdeal.main_arg8))
      ∧ θ_run (Cert.ReferenceFfnSampleIdeal.defs (F := Ideal)) (onTc (τ := Cert.ReferenceFfnSampleIdeal.τ) (Cert.ReferenceFfnSampleIdeal.main (F := Ideal))) ⟨m', fun _ => 0, g'⟩ (fun r => ∀ c : Dev Cert.ReferenceFfnSampleIdeal.nD,
          r.2.mem ((c.tc : Thread Cert.ReferenceFfnSampleIdeal.nD Cert.ReferenceFfnSampleIdeal.τ).loc Cert.ReferenceFfnSampleIdeal.main_v55) = v0 c
          ∧ r.2.mem ((c.tc : Thread Cert.ReferenceFfnSampleIdeal.nD Cert.ReferenceFfnSampleIdeal.τ).loc Cert.ReferenceFfnSampleIdeal.main_arg0) = m' ((c.tc : Thread Cert.ReferenceFfnSampleIdeal.nD Cert.ReferenceFfnSampleIdeal.τ).loc Cert.ReferenceFfnSampleIdeal.main_arg0)
          ∧ r.2.mem ((c.tc : Thread Cert.ReferenceFfnSampleIdeal.nD Cert.ReferenceFfnSampleIdeal.τ).loc Cert.ReferenceFfnSampleIdeal.main_arg1) = m' ((c.tc : Thread Cert.ReferenceFfnSampleIdeal.nD Cert.ReferenceFfnSampleIdeal.τ).loc Cert.ReferenceFfnSampleIdeal.main_arg1)
          ∧ r.2.mem ((c.tc : Thread Cert.ReferenceFfnSampleIdeal.nD Cert.ReferenceFfnSampleIdeal.τ).loc Cert.ReferenceFfnSampleIdeal.main_arg2) = m' ((c.tc : Thread Cert.ReferenceFfnSampleIdeal.nD Cert.ReferenceFfnSampleIdeal.τ).loc Cert.ReferenceFfnSampleIdeal.main_arg2)
          ∧ r.2.mem ((c.tc : Thread Cert.ReferenceFfnSampleIdeal.nD Cert.ReferenceFfnSampleIdeal.τ).loc Cert.ReferenceFfnSampleIdeal.main_arg3) = m' ((c.tc : Thread Cert.ReferenceFfnSampleIdeal.nD Cert.ReferenceFfnSampleIdeal.τ).loc Cert.ReferenceFfnSampleIdeal.main_arg3)
          ∧ r.2.mem ((c.tc : Thread Cert.ReferenceFfnSampleIdeal.nD Cert.ReferenceFfnSampleIdeal.τ).loc Cert.ReferenceFfnSampleIdeal.main_arg4) = m' ((c.tc : Thread Cert.ReferenceFfnSampleIdeal.nD Cert.ReferenceFfnSampleIdeal.τ).loc Cert.ReferenceFfnSampleIdeal.main_arg4)
          ∧ r.2.mem ((c.tc : Thread Cert.ReferenceFfnSampleIdeal.nD Cert.ReferenceFfnSampleIdeal.τ).loc Cert.ReferenceFfnSampleIdeal.main_arg5) = m' ((c.tc : Thread Cert.ReferenceFfnSampleIdeal.nD Cert.ReferenceFfnSampleIdeal.τ).loc Cert.ReferenceFfnSampleIdeal.main_arg5)
          ∧ r.2.mem ((c.tc : Thread Cert.ReferenceFfnSampleIdeal.nD Cert.ReferenceFfnSampleIdeal.τ).loc Cert.ReferenceFfnSampleIdeal.main_arg6) = m' ((c.tc : Thread Cert.ReferenceFfnSampleIdeal.nD Cert.ReferenceFfnSampleIdeal.τ).loc Cert.ReferenceFfnSampleIdeal.main_arg6)
          ∧ r.2.mem ((c.tc : Thread Cert.ReferenceFfnSampleIdeal.nD Cert.ReferenceFfnSampleIdeal.τ).loc Cert.ReferenceFfnSampleIdeal.main_arg7) = m' ((c.tc : Thread Cert.ReferenceFfnSampleIdeal.nD Cert.ReferenceFfnSampleIdeal.τ).loc Cert.ReferenceFfnSampleIdeal.main_arg7)
          ∧ r.2.mem ((c.tc : Thread Cert.ReferenceFfnSampleIdeal.nD Cert.ReferenceFfnSampleIdeal.τ).loc Cert.ReferenceFfnSampleIdeal.main_arg8) = m' ((c.tc : Thread Cert.ReferenceFfnSampleIdeal.nD Cert.ReferenceFfnSampleIdeal.τ).loc Cert.ReferenceFfnSampleIdeal.main_arg8))

def preserves_KernelStep_KernelStepIdeal : Prop :=
  True

def algebraic_KernelStepIdeal_ReferenceStepIdeal [hKernelStepIdeal : Cert.KernelStepIdeal.Facts] [hReferenceStepIdeal : Cert.ReferenceStepIdeal.Facts] : Prop :=
  ∀ (m : (ℓ : Loc Cert.KernelStepIdeal.nD Cert.KernelStepIdeal.τ Cert.KernelStepIdeal.sig) → Buf (Elt Ideal) ℓ) (g : Dev Cert.KernelStepIdeal.nD → PrngReg)
    (m' : (ℓ : Loc Cert.ReferenceStepIdeal.nD Cert.ReferenceStepIdeal.τ Cert.ReferenceStepIdeal.sig) → Buf (Elt Ideal) ℓ) (g' : Dev Cert.ReferenceStepIdeal.nD → PrngReg), Pre_KernelStepIdeal m →
    (∀ c : Dev Cert.KernelStepIdeal.nD,
      m' ((c.tc : Thread Cert.ReferenceStepIdeal.nD Cert.ReferenceStepIdeal.τ).loc Cert.ReferenceStepIdeal.main_arg0) = m ((c.tc : Thread Cert.KernelStepIdeal.nD Cert.KernelStepIdeal.τ).loc Cert.KernelStepIdeal.main_arg0)
      ∧ m' ((c.tc : Thread Cert.ReferenceStepIdeal.nD Cert.ReferenceStepIdeal.τ).loc Cert.ReferenceStepIdeal.main_arg1) = m ((c.tc : Thread Cert.KernelStepIdeal.nD Cert.KernelStepIdeal.τ).loc Cert.KernelStepIdeal.main_arg1)) →
    ∃ (v0 : (c : Dev Cert.KernelStepIdeal.nD) → Buf (Elt Ideal) ((c.tc : Thread Cert.KernelStepIdeal.nD Cert.KernelStepIdeal.τ).loc Cert.KernelStepIdeal.main_v11_0)) (v1 : (c : Dev Cert.KernelStepIdeal.nD) → Buf (Elt Ideal) ((c.tc : Thread Cert.KernelStepIdeal.nD Cert.KernelStepIdeal.τ).loc Cert.KernelStepIdeal.main_v11_1)),
      θ_run (Cert.KernelStepIdeal.defs (F := Ideal)) (onTc (τ := Cert.KernelStepIdeal.τ) (Cert.KernelStepIdeal.main (F := Ideal))) ⟨m, fun _ => 0, g⟩ (fun r => ∀ c : Dev Cert.KernelStepIdeal.nD,
          r.2.mem ((c.tc : Thread Cert.KernelStepIdeal.nD Cert.KernelStepIdeal.τ).loc Cert.KernelStepIdeal.main_v11_0) = v0 c
          ∧ r.2.mem ((c.tc : Thread Cert.KernelStepIdeal.nD Cert.KernelStepIdeal.τ).loc Cert.KernelStepIdeal.main_v11_1) = v1 c
          ∧ r.2.mem ((c.tc : Thread Cert.KernelStepIdeal.nD Cert.KernelStepIdeal.τ).loc Cert.KernelStepIdeal.main_arg0) = m ((c.tc : Thread Cert.KernelStepIdeal.nD Cert.KernelStepIdeal.τ).loc Cert.KernelStepIdeal.main_arg0)
          ∧ r.2.mem ((c.tc : Thread Cert.KernelStepIdeal.nD Cert.KernelStepIdeal.τ).loc Cert.KernelStepIdeal.main_arg1) = m ((c.tc : Thread Cert.KernelStepIdeal.nD Cert.KernelStepIdeal.τ).loc Cert.KernelStepIdeal.main_arg1))
      ∧ θ_run (Cert.ReferenceStepIdeal.defs (F := Ideal)) (onTc (τ := Cert.ReferenceStepIdeal.τ) (Cert.ReferenceStepIdeal.main (F := Ideal))) ⟨m', fun _ => 0, g'⟩ (fun r => ∀ c : Dev Cert.ReferenceStepIdeal.nD,
          r.2.mem ((c.tc : Thread Cert.ReferenceStepIdeal.nD Cert.ReferenceStepIdeal.τ).loc Cert.ReferenceStepIdeal.main_v91) = v0 c
          ∧ r.2.mem ((c.tc : Thread Cert.ReferenceStepIdeal.nD Cert.ReferenceStepIdeal.τ).loc Cert.ReferenceStepIdeal.main_v92) = v1 c
          ∧ r.2.mem ((c.tc : Thread Cert.ReferenceStepIdeal.nD Cert.ReferenceStepIdeal.τ).loc Cert.ReferenceStepIdeal.main_arg0) = m' ((c.tc : Thread Cert.ReferenceStepIdeal.nD Cert.ReferenceStepIdeal.τ).loc Cert.ReferenceStepIdeal.main_arg0)
          ∧ r.2.mem ((c.tc : Thread Cert.ReferenceStepIdeal.nD Cert.ReferenceStepIdeal.τ).loc Cert.ReferenceStepIdeal.main_arg1) = m' ((c.tc : Thread Cert.ReferenceStepIdeal.nD Cert.ReferenceStepIdeal.τ).loc Cert.ReferenceStepIdeal.main_arg1))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelProj : Cert.KernelProj.Facts) (hKernelProjIdeal : Cert.KernelProjIdeal.Facts) (hReferenceProjIdeal : Cert.ReferenceProjIdeal.Facts) (hKernelIn : Cert.KernelIn.Facts) (hKernelInIdeal : Cert.KernelInIdeal.Facts) (hReferenceInIdeal : Cert.ReferenceInIdeal.Facts) (hKernelFfnSample : Cert.KernelFfnSample.Facts) (hKernelFfnSampleIdeal : Cert.KernelFfnSampleIdeal.Facts) (hReferenceFfnSampleIdeal : Cert.ReferenceFfnSampleIdeal.Facts) (hKernelStep : Cert.KernelStep.Facts) (hKernelStepIdeal : Cert.KernelStepIdeal.Facts) (hReferenceStepIdeal : Cert.ReferenceStepIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelFfnSample (hKernelFfnSample := hKernelFfnSample)
    ∧ quiescent_KernelFfnSampleIdeal (hKernelFfnSampleIdeal := hKernelFfnSampleIdeal)
    ∧ quiescent_ReferenceFfnSampleIdeal (hReferenceFfnSampleIdeal := hReferenceFfnSampleIdeal)
    ∧ quiescent_KernelStep (hKernelStep := hKernelStep)
    ∧ quiescent_KernelStepIdeal (hKernelStepIdeal := hKernelStepIdeal)
    ∧ quiescent_ReferenceStepIdeal (hReferenceStepIdeal := hReferenceStepIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelProj_KernelProjIdeal
    ∧ algebraic_KernelProjIdeal_ReferenceProjIdeal (hKernelProjIdeal := hKernelProjIdeal) (hReferenceProjIdeal := hReferenceProjIdeal)
    ∧ preserves_KernelIn_KernelInIdeal
    ∧ algebraic_KernelInIdeal_ReferenceInIdeal (hKernelInIdeal := hKernelInIdeal) (hReferenceInIdeal := hReferenceInIdeal)
    ∧ preserves_KernelFfnSample_KernelFfnSampleIdeal
    ∧ algebraic_KernelFfnSampleIdeal_ReferenceFfnSampleIdeal (hKernelFfnSampleIdeal := hKernelFfnSampleIdeal) (hReferenceFfnSampleIdeal := hReferenceFfnSampleIdeal)
    ∧ preserves_KernelStep_KernelStepIdeal
    ∧ algebraic_KernelStepIdeal_ReferenceStepIdeal (hKernelStepIdeal := hKernelStepIdeal) (hReferenceStepIdeal := hReferenceStepIdeal)
-- ==== Pre_finite_scores.lean ====
abbrev S16x4096x8x2x64 : Shape := ⟨5, ![16, 4096, 8, 2, 64]⟩
abbrev S16x8x2x64 : Shape := ⟨4, ![16, 8, 2, 64]⟩
abbrev S16x8x128 : Shape := ⟨3, ![16, 8, 128]⟩
abbrev S16x4096x8x128 : Shape := ⟨4, ![16, 4096, 8, 128]⟩
abbrev S1x64 : Shape := ⟨2, ![1, 64]⟩
abbrev S1x128 : Shape := ⟨2, ![1, 128]⟩
abbrev S16x4096x1024 : Shape := ⟨3, ![16, 4096, 1024]⟩
abbrev S_ : Shape := ⟨0, ![]⟩

class Facts : Prop where
  bcast_S_S16x4096x8x2x64 : S_.BroadcastsInDim S16x4096x8x2x64 (![] : Fin 0 → Fin S16x4096x8x2x64.rank)
  bcast_S_S16x8x2x64 : S_.BroadcastsInDim S16x8x2x64 (![] : Fin 0 → Fin S16x8x2x64.rank)

variable [Facts]

def fn {F : FTy → Type} [FloatOps F] (main_arg0 : FVec F S16x4096x8x2x64 .f32) (main_arg1 : FVec F S16x8x2x64 .f32) (main_arg2 : FVec F S16x8x128 .f32) (main_arg3 : FVec F S16x4096x8x2x64 .f32) (main_arg4 : FVec F S16x4096x8x128 .f32) (main_arg5 : FVec F S1x64 .f32) (main_arg6 : FVec F S1x64 .f32) (main_arg7 : FVec F S1x64 .f32) (main_arg8 : FVec F S1x64 .f32) (main_arg9 : FVec F S1x128 .f32) (main_arg10 : FVec F S16x4096x1024 .f32) (main_arg11 : FVec F S16x4096x1024 .f32) : IVec S16x4096x8x2x64 1 × IVec S16x8x2x64 1 × IVec S16x4096x8x2x64 1 :=
  let main_cst : FVec F S_ .f32 := constant S_ .f32 0xFF800000#32
  let main_v0 : FVec F S16x4096x8x2x64 .f32 := broadcastInDim S16x4096x8x2x64 ![] bcast_S_S16x4096x8x2x64 main_cst
  let main_v1 : IVec S16x4096x8x2x64 1 := cmpf .ogt main_arg0 main_v0
  let main_cst_0 : FVec F S_ .f32 := constant S_ .f32 0x7F800000#32
  let main_v2 : FVec F S16x4096x8x2x64 .f32 := broadcastInDim S16x4096x8x2x64 ![] bcast_S_S16x4096x8x2x64 main_cst_0
  let main_v3 : IVec S16x4096x8x2x64 1 := cmpf .olt main_arg0 main_v2
  let main_v4 : IVec S16x4096x8x2x64 1 := andi main_v1 main_v3
  let main_cst_1 : FVec F S_ .f32 := constant S_ .f32 0xFF800000#32
  let main_v5 : FVec F S16x8x2x64 .f32 := broadcastInDim S16x8x2x64 ![] bcast_S_S16x8x2x64 main_cst_1
  let main_v6 : IVec S16x8x2x64 1 := cmpf .ogt main_arg1 main_v5
  let main_cst_2 : FVec F S_ .f32 := constant S_ .f32 0x7F800000#32
  let main_v7 : FVec F S16x8x2x64 .f32 := broadcastInDim S16x8x2x64 ![] bcast_S_S16x8x2x64 main_cst_2
  let main_v8 : IVec S16x8x2x64 1 := cmpf .olt main_arg1 main_v7
  let main_v9 : IVec S16x8x2x64 1 := andi main_v6 main_v8
  let main_cst_3 : FVec F S_ .f32 := constant S_ .f32 0xFF800000#32
  let main_v10 : FVec F S16x4096x8x2x64 .f32 := broadcastInDim S16x4096x8x2x64 ![] bcast_S_S16x4096x8x2x64 main_cst_3
  let main_v11 : IVec S16x4096x8x2x64 1 := cmpf .ogt main_arg3 main_v10
  let main_cst_4 : FVec F S_ .f32 := constant S_ .f32 0x7F800000#32
  let main_v12 : FVec F S16x4096x8x2x64 .f32 := broadcastInDim S16x4096x8x2x64 ![] bcast_S_S16x4096x8x2x64 main_cst_4
  let main_v13 : IVec S16x4096x8x2x64 1 := cmpf .olt main_arg3 main_v12
  let main_v14 : IVec S16x4096x8x2x64 1 := andi main_v11 main_v13
  (main_v4, main_v9, main_v14)
-- ==== Kernel.lean ====
abbrev S16x4096x8x2x64 : Shape := ⟨5, ![16, 4096, 8, 2, 64]⟩
abbrev S16x8x2x64 : Shape := ⟨4, ![16, 8, 2, 64]⟩
abbrev S16x8x128 : Shape := ⟨3, ![16, 8, 128]⟩
abbrev S16x4096x8x128 : Shape := ⟨4, ![16, 4096, 8, 128]⟩
abbrev S1x64 : Shape := ⟨2, ![1, 64]⟩
abbrev S1x128 : Shape := ⟨2, ![1, 128]⟩
abbrev S16x4096x1024 : Shape := ⟨3, ![16, 4096, 1024]⟩
abbrev S1x1x1x128 : Shape := ⟨4, ![1, 1, 1, 128]⟩
abbrev S1x1x8x128 : Shape := ⟨4, ![1, 1, 8, 128]⟩
abbrev S1x1024 : Shape := ⟨2, ![1, 1024]⟩
abbrev S_ : Shape := ⟨0, ![]⟩
abbrev S1x1x1024 : Shape := ⟨3, ![1, 1, 1024]⟩
abbrev S16x32x128x8x128 : Shape := ⟨5, ![16, 32, 128, 8, 128]⟩
abbrev S16x8x32x128x128 : Shape := ⟨5, ![16, 8, 32, 128, 128]⟩
abbrev S16x1024 : Shape := ⟨2, ![16, 1024]⟩
abbrev S128x1024 : Shape := ⟨2, ![128, 1024]⟩
abbrev S16x16x256x8x128 : Shape := ⟨5, ![16, 16, 256, 8, 128]⟩
abbrev S16x8x16x128x256 : Shape := ⟨5, ![16, 8, 16, 128, 256]⟩
abbrev S16x8x16x16x256 : Shape := ⟨5, ![16, 8, 16, 16, 256]⟩
abbrev S16x8x16x144x256 : Shape := ⟨5, ![16, 8, 16, 144, 256]⟩
abbrev S128x8x128 : Shape := ⟨3, ![128, 8, 128]⟩
abbrev S8x128x128 : Shape := ⟨3, ![8, 128, 128]⟩
abbrev S8x16x128 : Shape := ⟨3, ![8, 16, 128]⟩
abbrev S8x144x128 : Shape := ⟨3, ![8, 144, 128]⟩
abbrev S1x8x2x128x128 : Shape := ⟨5, ![1, 8, 2, 128, 128]⟩
abbrev S1x4096x1024 : Shape := ⟨3, ![1, 4096, 1024]⟩
abbrev S1x8x16x144x256 : Shape := ⟨5, ![1, 8, 16, 144, 256]⟩
abbrev S1x256x1024 : Shape := ⟨3, ![1, 256, 1024]⟩
abbrev S16x128x256 : Shape := ⟨3, ![16, 128, 256]⟩
abbrev S16x1x256 : Shape := ⟨3, ![16, 1, 256]⟩
abbrev S16x144x256 : Shape := ⟨3, ![16, 144, 256]⟩
abbrev S128x256 : Shape := ⟨2, ![128, 256]⟩
abbrev S1x1x1x128x128 : Shape := ⟨5, ![1, 1, 1, 128, 128]⟩
abbrev S128x128 : Shape := ⟨2, ![128, 128]⟩
abbrev S1x128x256 : Shape := ⟨3, ![1, 128, 256]⟩
abbrev S16x128 : Shape := ⟨2, ![16, 128]⟩
abbrev S16x256 : Shape := ⟨2, ![16, 256]⟩
abbrev S1x144x128 : Shape := ⟨3, ![1, 144, 128]⟩
abbrev S144x128 : Shape := ⟨2, ![144, 128]⟩
abbrev S144x16 : Shape := ⟨2, ![144, 16]⟩
abbrev S1x1x256 : Shape := ⟨3, ![1, 1, 256]⟩
abbrev S1x256 : Shape := ⟨2, ![1, 256]⟩
abbrev S256 : Shape := ⟨1, ![256]⟩
abbrev S1x144x256 : Shape := ⟨3, ![1, 144, 256]⟩
abbrev S144x256 : Shape := ⟨2, ![144, 256]⟩
abbrev S1x256x128 : Shape := ⟨3, ![1, 256, 128]⟩
abbrev S256x128 : Shape := ⟨2, ![256, 128]⟩
abbrev S256x256 : Shape := ⟨2, ![256, 256]⟩
abbrev S1x1x1x144x256 : Shape := ⟨5, ![1, 1, 1, 144, 256]⟩
abbrev S1x128x128 : Shape := ⟨3, ![1, 128, 128]⟩
abbrev S1 : Shape := ⟨1, ![1]⟩
abbrev S1x1 : Shape := ⟨2, ![1, 1]⟩
abbrev S128 : Shape := ⟨1, ![128]⟩

abbrev nBuf : Space → Nat
  | .hbm => 76
  | .vmem => 21
  | .smem => 0
  | _ => 0

abbrev bufTy : (tb : Table) → Fin (tcTables nBuf tb) → BufTy
  | .hbm, ⟨0, _⟩ => ⟨S16x4096x8x2x64, .f32⟩
  | .hbm, ⟨1, _⟩ => ⟨S16x8x2x64, .f32⟩
  | .hbm, ⟨2, _⟩ => ⟨S16x8x128, .f32⟩
  | .hbm, ⟨3, _⟩ => ⟨S16x4096x8x2x64, .f32⟩
  | .hbm, ⟨4, _⟩ => ⟨S16x4096x8x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S16x4096x1024, .f32⟩
  | .hbm, ⟨11, _⟩ => ⟨S16x4096x1024, .f32⟩
  | .hbm, ⟨12, _⟩ => ⟨S1x1x1x128, .f32⟩
  | .hbm, ⟨13, _⟩ => ⟨S1x1x8x128, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S16x4096x1024, .f32⟩
  | .hbm, ⟨19, _⟩ => ⟨S16x4096x1024, .f32⟩
  | .hbm, ⟨20, _⟩ => ⟨S_, .f32⟩
  | .hbm, ⟨21, _⟩ => ⟨S16x4096x1024, .f32⟩
  | .hbm, ⟨22, _⟩ => ⟨S16x4096x1024, .f32⟩
  | .hbm, ⟨23, _⟩ => ⟨S_, .f32⟩
  | .hbm, ⟨24, _⟩ => ⟨S16x4096x1024, .f32⟩
  | .hbm, ⟨25, _⟩ => ⟨S16x4096x1024, .f32⟩
  | .hbm, ⟨26, _⟩ => ⟨S1x1x1024, .f32⟩
  | .hbm, ⟨27, _⟩ => ⟨S16x4096x1024, .f32⟩
  | .hbm, ⟨28, _⟩ => ⟨S16x4096x1024, .f32⟩
  | .hbm, ⟨29, _⟩ => ⟨S16x32x128x8x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16x32x128x8x128, .f32⟩
  | .hbm, ⟨35, _⟩ => ⟨S16x32x128x8x128, .f32⟩
  | .hbm, ⟨36, _⟩ => ⟨S16x8x32x128x128, .f32⟩
  | .hbm, ⟨37, _⟩ => ⟨S16x8x32x128x128, .bf16⟩
  | .hbm, ⟨38, _⟩ => ⟨S16x4096x1024, .f32⟩
  | .hbm, ⟨39, _⟩ => ⟨S16x4096x1024, .bf16⟩
  | .hbm, ⟨40, _⟩ => ⟨S16x1024, .f32⟩
  | .hbm, ⟨41, _⟩ => ⟨S_, .i32⟩
  | .hbm, ⟨42, _⟩ => ⟨S_, .f32⟩
  | .hbm, ⟨43, _⟩ => ⟨S128x1024, .f32⟩
  | .hbm, ⟨44, _⟩ => ⟨S128x1024, .bf16⟩
  | .hbm, ⟨45, _⟩ => ⟨S16x16x256x8x128, .f32⟩
  | .hbm, ⟨46, _⟩ => ⟨S16x8x16x128x256, .f32⟩
  | .hbm, ⟨47, _⟩ => ⟨S16x8x16x16x256, .i32⟩
  | .hbm, ⟨48, _⟩ => ⟨S_, .i32⟩
  | .hbm, ⟨49, _⟩ => ⟨S16x8x16x16x256, .i32⟩
  | .hbm, ⟨50, _⟩ => ⟨S16x8x16x16x256, .i1⟩
  | .hbm, ⟨51, _⟩ => ⟨S_, .f32⟩
  | .hbm, ⟨52, _⟩ => ⟨S_, .f32⟩
  | .hbm, ⟨53, _⟩ => ⟨S16x8x16x16x256, .f32⟩
  | .hbm, ⟨54, _⟩ => ⟨S16x8x16x16x256, .f32⟩
  | .hbm, ⟨55, _⟩ => ⟨S16x8x16x16x256, .f32⟩
  | .hbm, ⟨56, _⟩ => ⟨S16x8x16x16x256, .f32⟩
  | .hbm, ⟨57, _⟩ => ⟨S16x8x16x144x256, .f32⟩
  | .hbm, ⟨58, _⟩ => ⟨S16x8x16x144x256, .bf16⟩
  | .hbm, ⟨59, _⟩ => ⟨S_, .i32⟩
  | .hbm, ⟨60, _⟩ => ⟨S_, .f32⟩
  | .hbm, ⟨61, _⟩ => ⟨S128x8x128, .f32⟩
  | .hbm, ⟨62, _⟩ => ⟨S8x128x128, .f32⟩
  | .hbm, ⟨63, _⟩ => ⟨S8x16x128, .i32⟩
  | .hbm, ⟨64, _⟩ => ⟨S_, .i32⟩
  | .hbm, ⟨65, _⟩ => ⟨S8x16x128, .i32⟩
  | .hbm, ⟨66, _⟩ => ⟨S8x16x128, .i1⟩
  | .hbm, ⟨67, _⟩ => ⟨S_, .f32⟩
  | .hbm, ⟨68, _⟩ => ⟨S_, .f32⟩
  | .hbm, ⟨69, _⟩ => ⟨S8x16x128, .f32⟩
  | .hbm, ⟨70, _⟩ => ⟨S8x16x128, .f32⟩
  | .hbm, ⟨71, _⟩ => ⟨S8x16x128, .f32⟩
  | .hbm, ⟨72, _⟩ => ⟨S8x16x128, .f32⟩
  | .hbm, ⟨73, _⟩ => ⟨S8x144x128, .f32⟩
  | .hbm, ⟨74, _⟩ => ⟨S8x144x128, .bf16⟩
  | .hbm, ⟨75, _⟩ => ⟨S16x4096x1024, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x8x2x128x128, .bf16⟩
  | .local _ .vmem, ⟨5, _⟩ => ⟨S1x8x2x128x128, .bf16⟩
  | .local _ .vmem, ⟨6, _⟩ => ⟨S1x4096x1024, .bf16⟩
  | .local _ .vmem, ⟨7, _⟩ => ⟨S1x4096x1024, .bf16⟩
  | .local _ .vmem, ⟨8, _⟩ => ⟨S1x8x16x144x256, .bf16⟩
  | .local _ .vmem, ⟨9, _⟩ => ⟨S1x8x16x144x256, .bf16⟩
  | .local _ .vmem, ⟨10, _⟩ => ⟨S128x1024, .bf16⟩
  | .local _ .vmem, ⟨11, _⟩ => ⟨S8x144x128, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .bf16⟩
  | .local _ .vmem, ⟨17, _⟩ => ⟨S1x256x1024, .bf16⟩
  | .local _ .vmem, ⟨18, _⟩ => ⟨S16x128x256, .bf16⟩
  | .local _ .vmem, ⟨19, _⟩ => ⟨S16x1x256, .f32⟩
  | .local _ .vmem, ⟨20, _⟩ => ⟨S16x144x256, .f32⟩
  | _, _ => ⟨S16x4096x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_call0_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_cst_6 : Ref sig .tc := ⟨.hbm, 52, rfl⟩
abbrev main_call1_v0 : Ref sig .tc := ⟨.hbm, 53, rfl⟩
abbrev main_call1_v1 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_call2_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_cst_10 : Ref sig .tc := ⟨.hbm, 68, rfl⟩
abbrev main_call3_v0 : Ref sig .tc := ⟨.hbm, 69, rfl⟩
abbrev main_call3_v1 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨3, ![16, 1, 16], ![false, false, false]⟩

@[reducible] def k0_t1_loop (i : grid0.Coords) : Scf.Loop 32 :=
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_498 : BitVec 32 := 1#32
  ⟨c0_i32_497, v644, c1_i32_498⟩
def k0_mult1 (i : grid0.Coords) (k0_t1 : Fin (k0_t1_loop i).trips) : BitVec 32 :=
  let c0_i32_497 : BitVec 32 := 0#32
  let c1_i32_498 : BitVec 32 := 1#32
  let arg18 : BitVec 32 := Scf.iv c0_i32_497 c1_i32_498 k0_t1
  let c256_i32_1246 : BitVec 32 := 256#32
  let v1870 : BitVec 32 := Scalar.muli arg18 c256_i32_1246
  v1870
def k0_off1 (i : grid0.Coords) (k0_t1 : Fin (k0_t1_loop i).trips) : Fin 3 → Nat :=
  let c0_1247 : Index := 0#32
  let c0_i32_497 : BitVec 32 := 0#32
  let c1_i32_498 : BitVec 32 := 1#32
  let arg18 : BitVec 32 := Scf.iv c0_i32_497 c1_i32_498 k0_t1
  let c256_i32_1246 : BitVec 32 := 256#32
  let v1870 : BitVec 32 := Scalar.muli arg18 c256_i32_1246
  let v1871 : BitVec 32 := v1870
  let v1872 : Index := Scalar.indexCast v1871
  let c0_1248 : Index := 0#32
  ![0, v1872.toNat, 0]
def k0_off2 (i : grid0.Coords) (k0_t1 : Fin (k0_t1_loop i).trips) : Fin 3 → Nat :=
  let c0_1251 : Index := 0#32
  let c0_i32_497 : BitVec 32 := 0#32
  let c1_i32_498 : BitVec 32 := 1#32
  let arg18 : BitVec 32 := Scf.iv c0_i32_497 c1_i32_498 k0_t1
  let c256_i32_1246 : BitVec 32 := 256#32
  let v1870 : BitVec 32 := Scalar.muli arg18 c256_i32_1246
  let v1871 : BitVec 32 := v1870
  let v1878 : Index := Scalar.indexCast v1871
  let c128_1252 : Index := 128#32
  ![0, v1878.toNat, 128]
def k0_off3 (i : grid0.Coords) (k0_t1 : Fin (k0_t1_loop i).trips) : Fin 3 → Nat :=
  let c0_1255 : Index := 0#32
  let c0_i32_497 : BitVec 32 := 0#32
  let c1_i32_498 : BitVec 32 := 1#32
  let arg18 : BitVec 32 := Scf.iv c0_i32_497 c1_i32_498 k0_t1
  let c256_i32_1246 : BitVec 32 := 256#32
  let v1870 : BitVec 32 := Scalar.muli arg18 c256_i32_1246
  let v1871 : BitVec 32 := v1870
  let v1884 : Index := Scalar.indexCast v1871
  let c256_1256 : Index := 256#32
  ![0, v1884.toNat, 256]
def k0_off4 (i : grid0.Coords) (k0_t1 : Fin (k0_t1_loop i).trips) : Fin 3 → Nat :=
  let c0_1259 : Index := 0#32
  let c0_i32_497 : BitVec 32 := 0#32
  let c1_i32_498 : BitVec 32 := 1#32
  let arg18 : BitVec 32 := Scf.iv c0_i32_497 c1_i32_498 k0_t1
  let c256_i32_1246 : BitVec 32 := 256#32
  let v1870 : BitVec 32 := Scalar.muli arg18 c256_i32_1246
  let v1871 : BitVec 32 := v1870
  let v1890 : Index := Scalar.indexCast v1871
  let c384_1260 : Index := 384#32
  ![0, v1890.toNat, 384]
def k0_off5 (i : grid0.Coords) (k0_t1 : Fin (k0_t1_loop i).trips) : Fin 3 → Nat :=
  let c0_1263 : Index := 0#32
  let c0_i32_497 : BitVec 32 := 0#32
  let c1_i32_498 : BitVec 32 := 1#32
  let arg18 : BitVec 32 := Scf.iv c0_i32_497 c1_i32_498 k0_t1
  let c256_i32_1246 : BitVec 32 := 256#32
  let v1870 : BitVec 32 := Scalar.muli arg18 c256_i32_1246
  let v1871 : BitVec 32 := v1870
  let v1896 : Index := Scalar.indexCast v1871
  let c512_1264 : Index := 512#32
  ![0, v1896.toNat, 512]
def k0_off6 (i : grid0.Coords) (k0_t1 : Fin (k0_t1_loop i).trips) : Fin 3 → Nat :=
  let c0_1267 : Index := 0#32
  let c0_i32_497 : BitVec 32 := 0#32
  let c1_i32_498 : BitVec 32 := 1#32
  let arg18 : BitVec 32 := Scf.iv c0_i32_497 c1_i32_498 k0_t1
  let c256_i32_1246 : BitVec 32 := 256#32
  let v1870 : BitVec 32 := Scalar.muli arg18 c256_i32_1246
  let v1871 : BitVec 32 := v1870
  let v1902 : Index := Scalar.indexCast v1871
  let c640_1268 : Index := 640#32
  ![0, v1902.toNat, 640]
def k0_off7 (i : grid0.Coords) (k0_t1 : Fin (k0_t1_loop i).trips) : Fin 3 → Nat :=
  let c0_1271 : Index := 0#32
  let c0_i32_497 : BitVec 32 := 0#32
  let c1_i32_498 : BitVec 32 := 1#32
  let arg18 : BitVec 32 := Scf.iv c0_i32_497 c1_i32_498 k0_t1
  let c256_i32_1246 : BitVec 32 := 256#32
  let v1870 : BitVec 32 := Scalar.muli arg18 c256_i32_1246
  let v1871 : BitVec 32 := v1870
  let v1908 : Index := Scalar.indexCast v1871
  let c768_1272 : Index := 768#32
  ![0, v1908.toNat, 768]
def k0_off8 (i : grid0.Coords) (k0_t1 : Fin (k0_t1_loop i).trips) : Fin 3 → Nat :=
  let c0_1275 : Index := 0#32
  let c0_i32_497 : BitVec 32 := 0#32
  let c1_i32_498 : BitVec 32 := 1#32
  let arg18 : BitVec 32 := Scf.iv c0_i32_497 c1_i32_498 k0_t1
  let c256_i32_1246 : BitVec 32 := 256#32
  let v1870 : BitVec 32 := Scalar.muli arg18 c256_i32_1246
  let v1871 : BitVec 32 := v1870
  let v1914 : Index := Scalar.indexCast v1871
  let c896_1276 : Index := 896#32
  ![0, v1914.toNat, 896]
def k0_off9 (i : grid0.Coords) (k0_t1 : Fin (k0_t1_loop i).trips) : Fin 5 → Nat :=
  let c0_1343 : Index := 0#32
  let c0_1344 : Index := 0#32
  let c0_i32_497 : BitVec 32 := 0#32
  let c1_i32_498 : BitVec 32 := 1#32
  let arg18 : BitVec 32 := Scf.iv c0_i32_497 c1_i32_498 k0_t1
  let v1968 : Index := Scalar.indexCast arg18
  let c0_1345 : Index := 0#32
  let c0_1346 : Index := 0#32
  ![0, 0, v1968.toNat, 0, 0]
def k0_off10 (i : grid0.Coords) (k0_t1 : Fin (k0_t1_loop i).trips) : Fin 5 → Nat :=
  let c0_1351 : Index := 0#32
  let c1_1352 : Index := 1#32
  let c0_i32_497 : BitVec 32 := 0#32
  let c1_i32_498 : BitVec 32 := 1#32
  let arg18 : BitVec 32 := Scf.iv c0_i32_497 c1_i32_498 k0_t1
  let v1974 : Index := Scalar.indexCast arg18
  let c0_1353 : Index := 0#32
  let c0_1354 : Index := 0#32
  ![0, 1, v1974.toNat, 0, 0]
def k0_off11 (i : grid0.Coords) (k0_t1 : Fin (k0_t1_loop i).trips) : Fin 5 → Nat :=
  let c0_1359 : Index := 0#32
  let c2_1360 : Index := 2#32
  let c0_i32_497 : BitVec 32 := 0#32
  let c1_i32_498 : BitVec 32 := 1#32
  let arg18 : BitVec 32 := Scf.iv c0_i32_497 c1_i32_498 k0_t1
  let v1980 : Index := Scalar.indexCast arg18
  let c0_1361 : Index := 0#32
  let c0_1362 : Index := 0#32
  ![0, 2, v1980.toNat, 0, 0]
def k0_off12 (i : grid0.Coords) (k0_t1 : Fin (k0_t1_loop i).trips) : Fin 5 → Nat :=
  let c0_1367 : Index := 0#32
  let c3_1368 : Index := 3#32
  let c0_i32_497 : BitVec 32 := 0#32
  let c1_i32_498 : BitVec 32 := 1#32
  let arg18 : BitVec 32 := Scf.iv c0_i32_497 c1_i32_498 k0_t1
  let v1986 : Index := Scalar.indexCast arg18
  let c0_1369 : Index := 0#32
  let c0_1370 : Index := 0#32
  ![0, 3, v1986.toNat, 0, 0]
def k0_off13 (i : grid0.Coords) (k0_t1 : Fin (k0_t1_loop i).trips) : Fin 5 → Nat :=
  let c0_1375 : Index := 0#32
  let c4_1376 : Index := 4#32
  let c0_i32_497 : BitVec 32 := 0#32
  let c1_i32_498 : BitVec 32 := 1#32
  let arg18 : BitVec 32 := Scf.iv c0_i32_497 c1_i32_498 k0_t1
  let v1992 : Index := Scalar.indexCast arg18
  let c0_1377 : Index := 0#32
  let c0_1378 : Index := 0#32
  ![0, 4, v1992.toNat, 0, 0]
def k0_off14 (i : grid0.Coords) (k0_t1 : Fin (k0_t1_loop i).trips) : Fin 5 → Nat :=
  let c0_1383 : Index := 0#32
  let c5_1384 : Index := 5#32
  let c0_i32_497 : BitVec 32 := 0#32
  let c1_i32_498 : BitVec 32 := 1#32
  let arg18 : BitVec 32 := Scf.iv c0_i32_497 c1_i32_498 k0_t1
  let v1998 : Index := Scalar.indexCast arg18
  let c0_1385 : Index := 0#32
  let c0_1386 : Index := 0#32
  ![0, 5, v1998.toNat, 0, 0]
def k0_off15 (i : grid0.Coords) (k0_t1 : Fin (k0_t1_loop i).trips) : Fin 5 → Nat :=
  let c0_1391 : Index := 0#32
  let c6_1392 : Index := 6#32
  let c0_i32_497 : BitVec 32 := 0#32
  let c1_i32_498 : BitVec 32 := 1#32
  let arg18 : BitVec 32 := Scf.iv c0_i32_497 c1_i32_498 k0_t1
  let v2004 : Index := Scalar.indexCast arg18
  let c0_1393 : Index := 0#32
  let c0_1394 : Index := 0#32
  ![0, 6, v2004.toNat, 0, 0]
def k0_off16 (i : grid0.Coords) (k0_t1 : Fin (k0_t1_loop i).trips) : Fin 5 → Nat :=
  let c0_1399 : Index := 0#32
  let c7_1400 : Index := 7#32
  let c0_i32_497 : BitVec 32 := 0#32
  let c1_i32_498 : BitVec 32 := 1#32
  let arg18 : BitVec 32 := Scf.iv c0_i32_497 c1_i32_498 k0_t1
  let v2010 : Index := Scalar.indexCast arg18
  let c0_1401 : Index := 0#32
  let c0_1402 : Index := 0#32
  ![0, 7, v2010.toNat, 0, 0]
@[reducible] def k0_t2_loop (i : grid0.Coords) : Scf.Loop 32 :=
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let v641 : BitVec 32 := Scalar.addi c0_i32_497 v640
  let c1_i32_499 : BitVec 32 := 1#32
  ⟨v644, v641, c1_i32_499⟩
def k0_mult2 (i : grid0.Coords) (k0_t2 : Fin (k0_t2_loop i).trips) : BitVec 32 :=
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let c256_i32_1246 : BitVec 32 := 256#32
  let v1870 : BitVec 32 := Scalar.muli arg18 c256_i32_1246
  v1870
def k0_off17 (i : grid0.Coords) (k0_t2 : Fin (k0_t2_loop i).trips) : Fin 3 → Nat :=
  let c0_1247 : Index := 0#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let c256_i32_1246 : BitVec 32 := 256#32
  let v1870 : BitVec 32 := Scalar.muli arg18 c256_i32_1246
  let v1871 : BitVec 32 := v1870
  let v1872 : Index := Scalar.indexCast v1871
  let c0_1248 : Index := 0#32
  ![0, v1872.toNat, 0]
def k0_off18 (i : grid0.Coords) (k0_t2 : Fin (k0_t2_loop i).trips) : Fin 3 → Nat :=
  let c0_1251 : Index := 0#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let c256_i32_1246 : BitVec 32 := 256#32
  let v1870 : BitVec 32 := Scalar.muli arg18 c256_i32_1246
  let v1871 : BitVec 32 := v1870
  let v1878 : Index := Scalar.indexCast v1871
  let c128_1252 : Index := 128#32
  ![0, v1878.toNat, 128]
def k0_off19 (i : grid0.Coords) (k0_t2 : Fin (k0_t2_loop i).trips) : Fin 3 → Nat :=
  let c0_1255 : Index := 0#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let c256_i32_1246 : BitVec 32 := 256#32
  let v1870 : BitVec 32 := Scalar.muli arg18 c256_i32_1246
  let v1871 : BitVec 32 := v1870
  let v1884 : Index := Scalar.indexCast v1871
  let c256_1256 : Index := 256#32
  ![0, v1884.toNat, 256]
def k0_off20 (i : grid0.Coords) (k0_t2 : Fin (k0_t2_loop i).trips) : Fin 3 → Nat :=
  let c0_1259 : Index := 0#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let c256_i32_1246 : BitVec 32 := 256#32
  let v1870 : BitVec 32 := Scalar.muli arg18 c256_i32_1246
  let v1871 : BitVec 32 := v1870
  let v1890 : Index := Scalar.indexCast v1871
  let c384_1260 : Index := 384#32
  ![0, v1890.toNat, 384]
def k0_off21 (i : grid0.Coords) (k0_t2 : Fin (k0_t2_loop i).trips) : Fin 3 → Nat :=
  let c0_1263 : Index := 0#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let c256_i32_1246 : BitVec 32 := 256#32
  let v1870 : BitVec 32 := Scalar.muli arg18 c256_i32_1246
  let v1871 : BitVec 32 := v1870
  let v1896 : Index := Scalar.indexCast v1871
  let c512_1264 : Index := 512#32
  ![0, v1896.toNat, 512]
def k0_off22 (i : grid0.Coords) (k0_t2 : Fin (k0_t2_loop i).trips) : Fin 3 → Nat :=
  let c0_1267 : Index := 0#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let c256_i32_1246 : BitVec 32 := 256#32
  let v1870 : BitVec 32 := Scalar.muli arg18 c256_i32_1246
  let v1871 : BitVec 32 := v1870
  let v1902 : Index := Scalar.indexCast v1871
  let c640_1268 : Index := 640#32
  ![0, v1902.toNat, 640]
def k0_off23 (i : grid0.Coords) (k0_t2 : Fin (k0_t2_loop i).trips) : Fin 3 → Nat :=
  let c0_1271 : Index := 0#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let c256_i32_1246 : BitVec 32 := 256#32
  let v1870 : BitVec 32 := Scalar.muli arg18 c256_i32_1246
  let v1871 : BitVec 32 := v1870
  let v1908 : Index := Scalar.indexCast v1871
  let c768_1272 : Index := 768#32
  ![0, v1908.toNat, 768]
def k0_off24 (i : grid0.Coords) (k0_t2 : Fin (k0_t2_loop i).trips) : Fin 3 → Nat :=
  let c0_1275 : Index := 0#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let c256_i32_1246 : BitVec 32 := 256#32
  let v1870 : BitVec 32 := Scalar.muli arg18 c256_i32_1246
  let v1871 : BitVec 32 := v1870
  let v1914 : Index := Scalar.indexCast v1871
  let c896_1276 : Index := 896#32
  ![0, v1914.toNat, 896]
def k0_off25 (i : grid0.Coords) (k0_t2 : Fin (k0_t2_loop i).trips) : Fin 5 → Nat :=
  let c0_1343 : Index := 0#32
  let c0_1344 : Index := 0#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let v1968 : Index := Scalar.indexCast arg18
  let c0_1345 : Index := 0#32
  let c0_1346 : Index := 0#32
  ![0, 0, v1968.toNat, 0, 0]
def k0_off26 (i : grid0.Coords) (k0_t2 : Fin (k0_t2_loop i).trips) : Fin 5 → Nat :=
  let c0_1351 : Index := 0#32
  let c1_1352 : Index := 1#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let v1974 : Index := Scalar.indexCast arg18
  let c0_1353 : Index := 0#32
  let c0_1354 : Index := 0#32
  ![0, 1, v1974.toNat, 0, 0]
def k0_off27 (i : grid0.Coords) (k0_t2 : Fin (k0_t2_loop i).trips) : Fin 5 → Nat :=
  let c0_1359 : Index := 0#32
  let c2_1360 : Index := 2#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let v1980 : Index := Scalar.indexCast arg18
  let c0_1361 : Index := 0#32
  let c0_1362 : Index := 0#32
  ![0, 2, v1980.toNat, 0, 0]
def k0_off28 (i : grid0.Coords) (k0_t2 : Fin (k0_t2_loop i).trips) : Fin 5 → Nat :=
  let c0_1367 : Index := 0#32
  let c3_1368 : Index := 3#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let v1986 : Index := Scalar.indexCast arg18
  let c0_1369 : Index := 0#32
  let c0_1370 : Index := 0#32
  ![0, 3, v1986.toNat, 0, 0]
def k0_off29 (i : grid0.Coords) (k0_t2 : Fin (k0_t2_loop i).trips) : Fin 5 → Nat :=
  let c0_1375 : Index := 0#32
  let c4_1376 : Index := 4#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let v1992 : Index := Scalar.indexCast arg18
  let c0_1377 : Index := 0#32
  let c0_1378 : Index := 0#32
  ![0, 4, v1992.toNat, 0, 0]
def k0_off30 (i : grid0.Coords) (k0_t2 : Fin (k0_t2_loop i).trips) : Fin 5 → Nat :=
  let c0_1383 : Index := 0#32
  let c5_1384 : Index := 5#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let v1998 : Index := Scalar.indexCast arg18
  let c0_1385 : Index := 0#32
  let c0_1386 : Index := 0#32
  ![0, 5, v1998.toNat, 0, 0]
def k0_off31 (i : grid0.Coords) (k0_t2 : Fin (k0_t2_loop i).trips) : Fin 5 → Nat :=
  let c0_1391 : Index := 0#32
  let c6_1392 : Index := 6#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let v2004 : Index := Scalar.indexCast arg18
  let c0_1393 : Index := 0#32
  let c0_1394 : Index := 0#32
  ![0, 6, v2004.toNat, 0, 0]
def k0_off32 (i : grid0.Coords) (k0_t2 : Fin (k0_t2_loop i).trips) : Fin 5 → Nat :=
  let c0_1399 : Index := 0#32
  let c7_1400 : Index := 7#32
  let c0_i32_497 : BitVec 32 := 0#32
  let arg2 : BitVec 32 := BitVec.ofNat 32 (i 2).val
  let v640 : BitVec 32 := Scalar.subi arg2 c0_i32_497
  let c1_i32 : BitVec 32 := 1#32
  let v642 : BitVec 32 := Scalar.divsi v640 c1_i32
  let v643 : BitVec 32 := Scalar.muli v642 c1_i32
  let v644 : BitVec 32 := Scalar.addi c0_i32_497 v643
  let c1_i32_499 : BitVec 32 := 1#32
  let arg18 : BitVec 32 := Scf.iv v644 c1_i32_499 k0_t2
  let v2010 : Index := Scalar.indexCast arg18
  let c0_1401 : Index := 0#32
  let c0_1402 : Index := 0#32
  ![0, 7, v2010.toNat, 0, 0]
def k0_mult3 (i : grid0.Coords) : BitVec 32 :=
  let arg2 : BitVec 32 := BitVec.ofNat 32 (i 2).val
  let c256_i32 : BitVec 32 := 256#32
  let v645 : BitVec 32 := Scalar.muli arg2 c256_i32
  v645
def k0_off33 (i : grid0.Coords) : Fin 3 → Nat :=
  let c0_500 : Index := 0#32
  let arg2 : BitVec 32 := BitVec.ofNat 32 (i 2).val
  let c256_i32 : BitVec 32 := 256#32
  let v645 : BitVec 32 := Scalar.muli arg2 c256_i32
  let v646 : BitVec 32 := v645
  let v647 : Index := Scalar.indexCast v646
  let c0_501 : Index := 0#32
  ![0, v647.toNat, 0]
def k0_off34 (i : grid0.Coords) : Fin 3 → Nat :=
  let c0_502 : Index := 0#32
  let arg2 : BitVec 32 := BitVec.ofNat 32 (i 2).val
  let c256_i32 : BitVec 32 := 256#32
  let v645 : BitVec 32 := Scalar.muli arg2 c256_i32
  let v646 : BitVec 32 := v645
  let v650 : Index := Scalar.indexCast v646
  let c0_503 : Index := 0#32
  ![0, v650.toNat, 0]
def k0_off35 (i : grid0.Coords) : Fin 3 → Nat :=
  let c0_504 : Index := 0#32
  let arg2 : BitVec 32 := BitVec.ofNat 32 (i 2).val
  let c256_i32 : BitVec 32 := 256#32
  let v645 : BitVec 32 := Scalar.muli arg2 c256_i32
  let v646 : BitVec 32 := v645
  let v653 : Index := Scalar.indexCast v646
  let c128_505 : Index := 128#32
  ![0, v653.toNat, 128]
def k0_off36 (i : grid0.Coords) : Fin 3 → Nat :=
  let c0_506 : Index := 0#32
  let arg2 : BitVec 32 := BitVec.ofNat 32 (i 2).val
  let c256_i32 : BitVec 32 := 256#32
  let v645 : BitVec 32 := Scalar.muli arg2 c256_i32
  let v646 : BitVec 32 := v645
  let v656 : Index := Scalar.indexCast v646
  let c128_507 : Index := 128#32
  ![0, v656.toNat, 128]
def k0_off37 (i : grid0.Coords) : Fin 3 → Nat :=
  let c0_508 : Index := 0#32
  let arg2 : BitVec 32 := BitVec.ofNat 32 (i 2).val
  let c256_i32 : BitVec 32 := 256#32
  let v645 : BitVec 32 := Scalar.muli arg2 c256_i32
  let v646 : BitVec 32 := v645
  let v659 : Index := Scalar.indexCast v646
  let c256_509 : Index := 256#32
  ![0, v659.toNat, 256]
def k0_off38 (i : grid0.Coords) : Fin 3 → Nat :=
  let c0_510 : Index := 0#32
  let arg2 : BitVec 32 := BitVec.ofNat 32 (i 2).val
  let c256_i32 : BitVec 32 := 256#32
  let v645 : BitVec 32 := Scalar.muli arg2 c256_i32
  let v646 : BitVec 32 := v645
  let v662 : Index := Scalar.indexCast v646
  let c256_511 : Index := 256#32
  ![0, v662.toNat, 256]
def k0_off39 (i : grid0.Coords) : Fin 3 → Nat :=
  let c0_512 : Index := 0#32
  let arg2 : BitVec 32 := BitVec.ofNat 32 (i 2).val
  let c256_i32 : BitVec 32 := 256#32
  let v645 : BitVec 32 := Scalar.muli arg2 c256_i32
  let v646 : BitVec 32 := v645
  let v665 : Index := Scalar.indexCast v646
  let c384_513 : Index := 384#32
  ![0, v665.toNat, 384]
def k0_off40 (i : grid0.Coords) : Fin 3 → Nat :=
  let c0_514 : Index := 0#32
  let arg2 : BitVec 32 := BitVec.ofNat 32 (i 2).val
  let c256_i32 : BitVec 32 := 256#32
  let v645 : BitVec 32 := Scalar.muli arg2 c256_i32
  let v646 : BitVec 32 := v645
  let v668 : Index := Scalar.indexCast v646
  let c384_515 : Index := 384#32
  ![0, v668.toNat, 384]
def k0_off41 (i : grid0.Coords) : Fin 3 → Nat :=
  let c0_516 : Index := 0#32
  let arg2 : BitVec 32 := BitVec.ofNat 32 (i 2).val
  let c256_i32 : BitVec 32 := 256#32
  let v645 : BitVec 32 := Scalar.muli arg2 c256_i32
  let v646 : BitVec 32 := v645
  let v671 : Index := Scalar.indexCast v646
  let c512_517 : Index := 512#32
  ![0, v671.toNat, 512]
def k0_off42 (i : grid0.Coords) : Fin 3 → Nat :=
  let c0_518 : Index := 0#32
  let arg2 : BitVec 32 := BitVec.ofNat 32 (i 2).val
  let c256_i32 : BitVec 32 := 256#32
  let v645 : BitVec 32 := Scalar.muli arg2 c256_i32
  let v646 : BitVec 32 := v645
  let v674 : Index := Scalar.indexCast v646
  let c512_519 : Index := 512#32
  ![0, v674.toNat, 512]
def k0_off43 (i : grid0.Coords) : Fin 3 → Nat :=
  let c0_520 : Index := 0#32
  let arg2 : BitVec 32 := BitVec.ofNat 32 (i 2).val
  let c256_i32 : BitVec 32 := 256#32
  let v645 : BitVec 32 := Scalar.muli arg2 c256_i32
  let v646 : BitVec 32 := v645
  let v677 : Index := Scalar.indexCast v646
  let c640_521 : Index := 640#32
  ![0, v677.toNat, 640]
def k0_off44 (i : grid0.Coords) : Fin 3 → Nat :=
  let c0_522 : Index := 0#32
  let arg2 : BitVec 32 := BitVec.ofNat 32 (i 2).val
  let c256_i32 : BitVec 32 := 256#32
  let v645 : BitVec 32 := Scalar.muli arg2 c256_i32
  let v646 : BitVec 32 := v645
  let v680 : Index := Scalar.indexCast v646
  let c640_523 : Index := 640#32
  ![0, v680.toNat, 640]
def k0_off45 (i : grid0.Coords) : Fin 3 → Nat :=
  let c0_524 : Index := 0#32
  let arg2 : BitVec 32 := BitVec.ofNat 32 (i 2).val
  let c256_i32 : BitVec 32 := 256#32
  let v645 : BitVec 32 := Scalar.muli arg2 c256_i32
  let v646 : BitVec 32 := v645
  let v683 : Index := Scalar.indexCast v646
  let c768_525 : Index := 768#32
  ![0, v683.toNat, 768]
def k0_off46 (i : grid0.Coords) : Fin 3 → Nat :=
  let c0_526 : Index := 0#32
  let arg2 : BitVec 32 := BitVec.ofNat 32 (i 2).val
  let c256_i32 : BitVec 32 := 256#32
  let v645 : BitVec 32 := Scalar.muli arg2 c256_i32
  let v646 : BitVec 32 := v645
  let v686 : Index := Scalar.indexCast v646
  let c768_527 : Index := 768#32
  ![0, v686.toNat, 768]
def k0_off47 (i : grid0.Coords) : Fin 3 → Nat :=
  let c0_528 : Index := 0#32
  let arg2 : BitVec 32 := BitVec.ofNat 32 (i 2).val
  let c256_i32 : BitVec 32 := 256#32
  let v645 : BitVec 32 := Scalar.muli arg2 c256_i32
  let v646 : BitVec 32 := v645
  let v689 : Index := Scalar.indexCast v646
  let c896_529 : Index := 896#32
  ![0, v689.toNat, 896]
def k0_off48 (i : grid0.Coords) : Fin 3 → Nat :=
  let c0_530 : Index := 0#32
  let arg2 : BitVec 32 := BitVec.ofNat 32 (i 2).val
  let c256_i32 : BitVec 32 := 256#32
  let v645 : BitVec 32 := Scalar.muli arg2 c256_i32
  let v646 : BitVec 32 := v645
  let v692 : Index := Scalar.indexCast v646
  let c896_531 : Index := 896#32
  ![0, v692.toNat, 896]
def k0_off49 (i : grid0.Coords) : Fin 5 → Nat :=
  let c0_643 : Index := 0#32
  let c0_644 : Index := 0#32
  let arg2 : BitVec 32 := BitVec.ofNat 32 (i 2).val
  let v887 : Index := Scalar.indexCast arg2
  let c0_645 : Index := 0#32
  let c0_646 : Index := 0#32
  ![0, 0, v887.toNat, 0, 0]
def k0_off50 (i : grid0.Coords) : Fin 5 → Nat :=
  let c0_651 : Index := 0#32
  let c1_652 : Index := 1#32
  let arg2 : BitVec 32 := BitVec.ofNat 32 (i 2).val
  let v894 : Index := Scalar.indexCast arg2
  let c0_653 : Index := 0#32
  let c0_654 : Index := 0#32
  ![0, 1, v894.toNat, 0, 0]
def k0_off51 (i : grid0.Coords) : Fin 5 → Nat :=
  let c0_659 : Index := 0#32
  let c2_660 : Index := 2#32
  let arg2 : BitVec 32 := BitVec.ofNat 32 (i 2).val
  let v901 : Index := Scalar.indexCast arg2
  let c0_661 : Index := 0#32
  let c0_662 : Index := 0#32
  ![0, 2, v901.toNat, 0, 0]
def k0_off52 (i : grid0.Coords) : Fin 5 → Nat :=
  let c0_667 : Index := 0#32
  let c3_668 : Index := 3#32
  let arg2 : BitVec 32 := BitVec.ofNat 32 (i 2).val
  let v908 : Index := Scalar.indexCast arg2
  let c0_669 : Index := 0#32
  let c0_670 : Index := 0#32
  ![0, 3, v908.toNat, 0, 0]
def k0_off53 (i : grid0.Coords) : Fin 5 → Nat :=
  let c0_675 : Index := 0#32
  let c4_676 : Index := 4#32
  let arg2 : BitVec 32 := BitVec.ofNat 32 (i 2).val
  let v915 : Index := Scalar.indexCast arg2
  let c0_677 : Index := 0#32
  let c0_678 : Index := 0#32
  ![0, 4, v915.toNat, 0, 0]
def k0_off54 (i : grid0.Coords) : Fin 5 → Nat :=
  let c0_683 : Index := 0#32
  let c5_684 : Index := 5#32
  let arg2 : BitVec 32 := BitVec.ofNat 32 (i 2).val
  let v922 : Index := Scalar.indexCast arg2
  let c0_685 : Index := 0#32
  let c0_686 : Index := 0#32
  ![0, 5, v922.toNat, 0, 0]
def k0_off55 (i : grid0.Coords) : Fin 5 → Nat :=
  let c0_691 : Index := 0#32
  let c6_692 : Index := 6#32
  let arg2 : BitVec 32 := BitVec.ofNat 32 (i 2).val
  let v929 : Index := Scalar.indexCast arg2
  let c0_693 : Index := 0#32
  let c0_694 : Index := 0#32
  ![0, 6, v929.toNat, 0, 0]
def k0_off56 (i : grid0.Coords) : Fin 5 → Nat :=
  let c0_699 : Index := 0#32
  let c7_700 : Index := 7#32
  let arg2 : BitVec 32 := BitVec.ofNat 32 (i 2).val
  let v936 : Index := Scalar.indexCast arg2
  let c0_701 : Index := 0#32
  let c0_702 : Index := 0#32
  ![0, 7, v936.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x8x2x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4096x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x8x16x144x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S8x144x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S16x4096x8x2x64 : Shape := ⟨5, ![16, 4096, 8, 2, 64]⟩
abbrev S16x8x2x64 : Shape := ⟨4, ![16, 8, 2, 64]⟩
abbrev S16x8x128 : Shape := ⟨3, ![16, 8, 128]⟩
abbrev S16x4096x8x128 : Shape := ⟨4, ![16, 4096, 8, 128]⟩
abbrev S1x64 : Shape := ⟨2, ![1, 64]⟩
abbrev S1x128 : Shape := ⟨2, ![1, 128]⟩
abbrev S16x4096x1024 : Shape := ⟨3, ![16, 4096, 1024]⟩
abbrev S1x16x8x2x64 : Shape := ⟨5, ![1, 16, 8, 2, 64]⟩
abbrev S16x16x8x2x64 : Shape := ⟨5, ![16, 16, 8, 2, 64]⟩
abbrev S16x4112x8x2x64 : Shape := ⟨5, ![16, 4112, 8, 2, 64]⟩
abbrev S1x16x8x128 : Shape := ⟨4, ![1, 16, 8, 128]⟩
abbrev S16x16x8x128 : Shape := ⟨4, ![16, 16, 8, 128]⟩
abbrev S16x4112x8x128 : Shape := ⟨4, ![16, 4112, 8, 128]⟩
abbrev S64 : Shape := ⟨1, ![64]⟩
abbrev S_ : Shape := ⟨0, ![]⟩
abbrev S16x8x2x4096x4112 : Shape := ⟨5, ![16, 8, 2, 4096, 4112]⟩
abbrev S4112 : Shape := ⟨1, ![4112]⟩
abbrev S4096 : Shape := ⟨1, ![4096]⟩
abbrev S1x4112 : Shape := ⟨2, ![1, 4112]⟩
abbrev S4096x1 : Shape := ⟨2, ![4096, 1]⟩
abbrev S4096x4112 : Shape := ⟨2, ![4096, 4112]⟩
abbrev S16x8x2x4096 : Shape := ⟨4, ![16, 8, 2, 4096]⟩
abbrev S16x8x2x4096x1 : Shape := ⟨5, ![16, 8, 2, 4096, 1]⟩
abbrev S16x8x128x2x4096 : Shape := ⟨5, ![16, 8, 128, 2, 4096]⟩
abbrev S16x4096x8x2x128 : Shape := ⟨5, ![16, 4096, 8, 2, 128]⟩
abbrev S16x4096x8x1x128 : Shape := ⟨5, ![16, 4096, 8, 1, 128]⟩
abbrev S16x4096x8 : Shape := ⟨3, ![16, 4096, 8]⟩
abbrev S16x4096x8x1 : Shape := ⟨4, ![16, 4096, 8, 1]⟩
abbrev S128 : Shape := ⟨1, ![128]⟩
abbrev S1x1x1x128 : Shape := ⟨4, ![1, 1, 1, 128]⟩

abbrev nBuf : Space → Nat
  | .hbm => 107
  | .vmem => 0
  | .smem => 0
  | _ => 0

abbrev bufTy : (tb : Table) → Fin (tcTables nBuf tb) → BufTy
  | .hbm, ⟨0, _⟩ => ⟨S16x4096x8x2x64, .f32⟩
  | .hbm, ⟨1, _⟩ => ⟨S16x8x2x64, .f32⟩
  | .hbm, ⟨2, _⟩ => ⟨S16x8x128, .f32⟩
  | .hbm, ⟨3, _⟩ => ⟨S16x4096x8x2x64, .f32⟩
  | .hbm, ⟨4, _⟩ => ⟨S16x4096x8x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S16x4096x1024, .f32⟩
  | .hbm, ⟨11, _⟩ => ⟨S16x4096x1024, .f32⟩
  | .hbm, ⟨12, _⟩ => ⟨S1x16x8x2x64, .f32⟩
  | .hbm, ⟨13, _⟩ => ⟨S16x16x8x2x64, .f32⟩
  | .hbm, ⟨14, _⟩ => ⟨S16x4112x8x2x64, .f32⟩
  | .hbm, ⟨15, _⟩ => ⟨S1x16x8x128, .f32⟩
  | .hbm, ⟨16, _⟩ => ⟨S16x16x8x128, .f32⟩
  | .hbm, ⟨17, _⟩ => ⟨S16x4112x8x128, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16x8x2x4096x4112, .f32⟩
  | .hbm, ⟨34, _⟩ => ⟨S_, .f32⟩
  | .hbm, ⟨35, _⟩ => ⟨S16x8x2x4096x4112, .f32⟩
  | .hbm, ⟨36, _⟩ => ⟨S16x8x2x4096x4112, .f32⟩
  | .hbm, ⟨37, _⟩ => ⟨S4112, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S1x4112, .i32⟩
  | .hbm, ⟨43, _⟩ => ⟨S4096x1, .i32⟩
  | .hbm, ⟨44, _⟩ => ⟨S4096x4112, .i32⟩
  | .hbm, ⟨45, _⟩ => ⟨S4096x4112, .i32⟩
  | .hbm, ⟨46, _⟩ => ⟨S4096x4112, .i1⟩
  | .hbm, ⟨47, _⟩ => ⟨S_, .f32⟩
  | .hbm, ⟨48, _⟩ => ⟨S_, .f32⟩
  | .hbm, ⟨49, _⟩ => ⟨S16x8x2x4096x4112, .i1⟩
  | .hbm, ⟨50, _⟩ => ⟨S16x8x2x4096x4112, .f32⟩
  | .hbm, ⟨51, _⟩ => ⟨S16x8x2x4096x4112, .f32⟩
  | .hbm, ⟨52, _⟩ => ⟨S_, .f32⟩
  | .hbm, ⟨53, _⟩ => ⟨S16x8x2x4096, .f32⟩
  | .hbm, ⟨54, _⟩ => ⟨S_, .f32⟩
  | .hbm, ⟨55, _⟩ => ⟨S16x8x2x4096, .f32⟩
  | .hbm, ⟨56, _⟩ => ⟨S16x8x2x4096, .f32⟩
  | .hbm, ⟨57, _⟩ => ⟨S16x8x2x4096x1, .f32⟩
  | .hbm, ⟨58, _⟩ => ⟨S16x8x2x4096x4112, .f32⟩
  | .hbm, ⟨59, _⟩ => ⟨S16x8x2x4096x4112, .f32⟩
  | .hbm, ⟨60, _⟩ => ⟨S16x8x2x4096x4112, .f32⟩
  | .hbm, ⟨61, _⟩ => ⟨S_, .f32⟩
  | .hbm, ⟨62, _⟩ => ⟨S16x8x2x4096, .f32⟩
  | .hbm, ⟨63, _⟩ => ⟨S16x8x2x4096x1, .f32⟩
  | .hbm, ⟨64, _⟩ => ⟨S16x8x2x4096x4112, .f32⟩
  | .hbm, ⟨65, _⟩ => ⟨S16x8x2x4096x4112, .f32⟩
  | .hbm, ⟨66, _⟩ => ⟨S16x8x128x2x4096, .f32⟩
  | .hbm, ⟨67, _⟩ => ⟨S16x4096x8x2x128, .f32⟩
  | .hbm, ⟨68, _⟩ => ⟨S16x4096x8x1x128, .f32⟩
  | .hbm, ⟨69, _⟩ => ⟨S16x4096x8x128, .f32⟩
  | .hbm, ⟨70, _⟩ => ⟨S16x4096x8x1x128, .f32⟩
  | .hbm, ⟨71, _⟩ => ⟨S16x4096x8x128, .f32⟩
  | .hbm, ⟨72, _⟩ => ⟨S16x4096x8x128, .f32⟩
  | .hbm, ⟨73, _⟩ => ⟨S16x4096x8x128, .f32⟩
  | .hbm, ⟨74, _⟩ => ⟨S16x4096x8x128, .f32⟩
  | .hbm, ⟨75, _⟩ => ⟨S16x4096x8x128, .f32⟩
  | .hbm, ⟨76, _⟩ => ⟨S_, .f32⟩
  | .hbm, ⟨77, _⟩ => ⟨S16x4096x8, .f32⟩
  | .hbm, ⟨78, _⟩ => ⟨S16x4096x8x1, .f32⟩
  | .hbm, ⟨79, _⟩ => ⟨S_, .f32⟩
  | .hbm, ⟨80, _⟩ => ⟨S16x4096x8x1, .f32⟩
  | .hbm, ⟨81, _⟩ => ⟨S16x4096x8x1, .f32⟩
  | .hbm, ⟨82, _⟩ => ⟨S_, .f32⟩
  | .hbm, ⟨83, _⟩ => ⟨S16x4096x8x1, .f32⟩
  | .hbm, ⟨84, _⟩ => ⟨S16x4096x8x1, .f32⟩
  | .hbm, ⟨85, _⟩ => ⟨S16x4096x8x1, .f32⟩
  | .hbm, ⟨86, _⟩ => ⟨S16x4096x8x128, .f32⟩
  | .hbm, ⟨87, _⟩ => ⟨S16x4096x8x128, .f32⟩
  | .hbm, ⟨88, _⟩ => ⟨S128, .f32⟩
  | .hbm, ⟨89, _⟩ => ⟨S1x1x1x128, .f32⟩
  | .hbm, ⟨90, _⟩ => ⟨S16x4096x8x128, .f32⟩
  | .hbm, ⟨91, _⟩ => ⟨S16x4096x8x128, .f32⟩
  | .hbm, ⟨92, _⟩ => ⟨S_, .f32⟩
  | .hbm, ⟨93, _⟩ => ⟨S16x4096x8x128, .f32⟩
  | .hbm, ⟨94, _⟩ => ⟨S16x4096x8x128, .f32⟩
  | .hbm, ⟨95, _⟩ => ⟨S16x4096x1024, .f32⟩
  | .hbm, ⟨96, _⟩ => ⟨S16x4096x1024, .f32⟩
  | .hbm, ⟨97, _⟩ => ⟨S16x4096x1024, .f32⟩
  | .hbm, ⟨98, _⟩ => ⟨S_, .f32⟩
  | .hbm, ⟨99, _⟩ => ⟨S16x4096x1024, .f32⟩
  | .hbm, ⟨100, _⟩ => ⟨S16x4096x1024, .f32⟩
  | .hbm, ⟨101, _⟩ => ⟨S_, .f32⟩
  | .hbm, ⟨102, _⟩ => ⟨S16x4096x1024, .f32⟩
  | .hbm, ⟨103, _⟩ => ⟨S16x4096x1024, .f32⟩
  | .hbm, ⟨104, _⟩ => ⟨S16x4096x1024, .f32⟩
  | .hbm, ⟨105, _⟩ => ⟨S16x4096x1024, .f32⟩
  | .hbm, ⟨106, _⟩ => ⟨S16x4096x1024, .bf16⟩
  | _, _ => ⟨S16x4096x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_10 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_11 : Ref sig .tc := ⟨.hbm, 98, rfl⟩
abbrev main_v70 : Ref sig .tc := ⟨.hbm, 99, rfl⟩
abbrev main_v71 : Ref sig .tc := ⟨.hbm, 100, rfl⟩
abbrev main_cst_12 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== KernelFfn.lean ====
abbrev S16x4096x1024 : Shape := ⟨3, ![16, 4096, 1024]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024x2816 : Shape := ⟨2, ![1024, 2816]⟩
abbrev S2816x1024 : Shape := ⟨2, ![2816, 1024]⟩
abbrev S65536x1024 : Shape := ⟨2, ![65536, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 20
  | .vmem => 13
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .f32⟩
  | .hbm, ⟨2, _⟩ => ⟨S1x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1024x1024, .f32⟩
  | .hbm, ⟨10, _⟩ => ⟨S1024x1024, .bf16⟩
  | .hbm, ⟨11, _⟩ => ⟨S1024x2816, .f32⟩
  | .hbm, ⟨12, _⟩ => ⟨S1024x2816, .bf16⟩
  | .hbm, ⟨13, _⟩ => ⟨S1024x2816, .f32⟩
  | .hbm, ⟨14, _⟩ => ⟨S1024x2816, .bf16⟩
  | .hbm, ⟨15, _⟩ => ⟨S2816x1024, .f32⟩
  | .hbm, ⟨16, _⟩ => ⟨S2816x1024, .bf16⟩
  | .hbm, ⟨17, _⟩ => ⟨S65536x1024, .bf16⟩
  | .hbm, ⟨18, _⟩ => ⟨S65536x1024, .f32⟩
  | .hbm, ⟨19, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFfnIdeal.lean ====
abbrev S16x4096x1024 : Shape := ⟨3, ![16, 4096, 1024]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S16x4096x2816 : Shape := ⟨3, ![16, 4096, 2816]⟩
abbrev S65536x1024 : Shape := ⟨2, ![65536, 1024]⟩

abbrev nBuf : Space → Nat
  | .hbm => 82
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .f32⟩
  | .hbm, ⟨2, _⟩ => ⟨S1x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S16x4096x1024, .f32⟩
  | .hbm, ⟨10, _⟩ => ⟨S1024x1024, .f32⟩
  | .hbm, ⟨11, _⟩ => ⟨S16x4096x1024, .f32⟩
  | .hbm, ⟨12, _⟩ => ⟨S1024, .f32⟩
  | .hbm, ⟨13, _⟩ => ⟨S16x4096x1024, .f32⟩
  | .hbm, ⟨14, _⟩ => ⟨S_, .f32⟩
  | .hbm, ⟨15, _⟩ => ⟨S16x4096, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S_, .f32⟩
  | .hbm, ⟨21, _⟩ => ⟨S16x4096x1, .f32⟩
  | .hbm, ⟨22, _⟩ => ⟨S16x4096x1, .f32⟩
  | .hbm, ⟨23, _⟩ => ⟨S16x4096x1, .f32⟩
  | .hbm, ⟨24, _⟩ => ⟨S16x4096x1024, .f32⟩
  | .hbm, ⟨25, _⟩ => ⟨S16x4096x1024, .f32⟩
  | .hbm, ⟨26, _⟩ => ⟨S1x1x1024, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S1024, .f32⟩
  | .hbm, ⟨31, _⟩ => ⟨S16x4096x1024, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S_, .f32⟩
  | .hbm, ⟨36, _⟩ => ⟨S16x4096x1, .f32⟩
  | .hbm, ⟨37, _⟩ => ⟨S16x4096x1, .f32⟩
  | .hbm, ⟨38, _⟩ => ⟨S_, .f32⟩
  | .hbm, ⟨39, _⟩ => ⟨S16x4096x1, .f32⟩
  | .hbm, ⟨40, _⟩ => ⟨S16x4096x1, .f32⟩
  | .hbm, ⟨41, _⟩ => ⟨S16x4096x1, .f32⟩
  | .hbm, ⟨42, _⟩ => ⟨S16x4096x1024, .f32⟩
  | .hbm, ⟨43, _⟩ => ⟨S16x4096x1024, .f32⟩
  | .hbm, ⟨44, _⟩ => ⟨S1x1x1024, .f32⟩
  | .hbm, ⟨45, _⟩ => ⟨S16x4096x1024, .f32⟩
  | .hbm, ⟨46, _⟩ => ⟨S16x4096x1024, .f32⟩
  | .hbm, ⟨47, _⟩ => ⟨S1024x2816, .f32⟩
  | .hbm, ⟨48, _⟩ => ⟨S1024x2816, .f32⟩
  | .hbm, ⟨49, _⟩ => ⟨S2816x1024, .f32⟩
  | .hbm, ⟨50, _⟩ => ⟨S16x4096x2816, .f32⟩
  | .hbm, ⟨51, _⟩ => ⟨S16x4096x2816, .f32⟩
  | .hbm, ⟨52, _⟩ => ⟨S16x4096x2816, .f32⟩
  | .hbm, ⟨53, _⟩ => ⟨S16x4096x2816, .f32⟩
  | .hbm, ⟨54, _⟩ => ⟨S_, .f32⟩
  | .hbm, ⟨55, _⟩ => ⟨S16x4096x2816, .f32⟩
  | .hbm, ⟨56, _⟩ => ⟨S16x4096x2816, .f32⟩
  | .hbm, ⟨57, _⟩ => ⟨S_, .f32⟩
  | .hbm, ⟨58, _⟩ => ⟨S16x4096x2816, .f32⟩
  | .hbm, ⟨59, _⟩ => ⟨S16x4096x2816, .f32⟩
  | .hbm, ⟨60, _⟩ => ⟨S16x4096x2816, .f32⟩
  | .hbm, ⟨61, _⟩ => ⟨S16x4096x2816, .f32⟩
  | .hbm, ⟨62, _⟩ => ⟨S16x4096x1024, .f32⟩
  | .hbm, ⟨63, _⟩ => ⟨S1024, .f32⟩
  | .hbm, ⟨64, _⟩ => ⟨S16x4096x1024, .f32⟩
  | .hbm, ⟨65, _⟩ => ⟨S_, .f32⟩
  | .hbm, ⟨66, _⟩ => ⟨S16x4096, .f32⟩
  | .hbm, ⟨67, _⟩ => ⟨S16x4096x1, .f32⟩
  | .hbm, ⟨68, _⟩ => ⟨S_, .f32⟩
  | .hbm, ⟨69, _⟩ => ⟨S16x4096x1, .f32⟩
  | .hbm, ⟨70, _⟩ => ⟨S16x4096x1, .f32⟩
  | .hbm, ⟨71, _⟩ => ⟨S_, .f32⟩
  | .hbm, ⟨72, _⟩ => ⟨S16x4096x1, .f32⟩
  | .hbm, ⟨73, _⟩ => ⟨S16x4096x1, .f32⟩
  | .hbm, ⟨74, _⟩ => ⟨S16x4096x1, .f32⟩
  | .hbm, ⟨75, _⟩ => ⟨S16x4096x1024, .f32⟩
  | .hbm, ⟨76, _⟩ => ⟨S16x4096x1024, .f32⟩
  | .hbm, ⟨77, _⟩ => ⟨S1x1x1024, .f32⟩
  | .hbm, ⟨78, _⟩ => ⟨S16x4096x1024, .f32⟩
  | .hbm, ⟨79, _⟩ => ⟨S16x4096x1024, .f32⟩
  | .hbm, ⟨80, _⟩ => ⟨S16x4096x1024, .f32⟩
  | .hbm, ⟨81, _⟩ => ⟨S65536x1024, .f32⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== KernelProj.lean ====
abbrev S128x1x1024 : Shape := ⟨3, ![128, 1, 1024]⟩
abbrev S1x1024 : Shape := ⟨2, ![1, 1024]⟩
abbrev S1x1024x8192 : Shape := ⟨3, ![1, 1024, 8192]⟩
abbrev S1024x8192 : Shape := ⟨2, ![1024, 8192]⟩
abbrev S1 : Shape := ⟨1, ![1]⟩
abbrev S_ : Shape := ⟨0, ![]⟩
abbrev S64 : Shape := ⟨1, ![64]⟩
abbrev S1x1 : Shape := ⟨2, ![1, 1]⟩
abbrev S1x64 : Shape := ⟨2, ![1, 64]⟩
abbrev S1x128 : Shape := ⟨2, ![1, 128]⟩
abbrev S128x1024 : Shape := ⟨2, ![128, 1024]⟩
abbrev S128x8192 : Shape := ⟨2, ![128, 8192]⟩
abbrev S1024x1024 : Shape := ⟨2, ![1024, 1024]⟩
abbrev S128 : Shape := ⟨1, ![128]⟩
abbrev S128x1 : Shape := ⟨2, ![128, 1]⟩
abbrev S128x128 : Shape := ⟨2, ![128, 128]⟩

abbrev nBuf : Space → Nat
  | .hbm => 28
  | .vmem => 8
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x8192, .f32⟩
  | .hbm, ⟨3, _⟩ => ⟨S1024x8192, .f32⟩
  | .hbm, ⟨4, _⟩ => ⟨S1024x8192, .bf16⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S1x1, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x128, .f32⟩
  | .hbm, ⟨24, _⟩ => ⟨S1x64, .f32⟩
  | .hbm, ⟨25, _⟩ => ⟨S1x128, .f32⟩
  | .hbm, ⟨26, _⟩ => ⟨S128x1024, .f32⟩
  | .hbm, ⟨27, _⟩ => ⟨S128x8192, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x128, .f32⟩
  | .local _ .vmem, ⟨5, _⟩ => ⟨S1x128, .f32⟩
  | .local _ .vmem, ⟨6, _⟩ => ⟨S128x1024, .f32⟩
  | .local _ .vmem, ⟨7, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_8 : BitVec 32 := 0#32
  let v21 : BitVec 1 := Scalar.cmpi .ne v20 c0_i32_8
  v21

def k0_cond2 (i : grid0.Coords) : BitVec 1 :=
  let arg0 : BitVec 32 := BitVec.ofNat 32 (i 0).val
  let c0_i32_9 : BitVec 32 := 0#32
  let v22 : BitVec 1 := Scalar.cmpi .ne arg0 c0_i32_9
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceProjIdeal.lean ====
abbrev S128x1x1024 : Shape := ⟨3, ![128, 1, 1024]⟩
abbrev S1x1024 : Shape := ⟨2, ![1, 1024]⟩
abbrev S1x1024x8192 : Shape := ⟨3, ![1, 1024, 8192]⟩
abbrev S1 : Shape := ⟨1, ![1]⟩
abbrev S_ : Shape := ⟨0, ![]⟩
abbrev S1024 : Shape := ⟨1, ![1024]⟩
abbrev S128x1 : Shape := ⟨2, ![128, 1]⟩
abbrev S128x1x1 : Shape := ⟨3, ![128, 1, 1]⟩
abbrev S1x1x1024 : Shape := ⟨3, ![1, 1, 1024]⟩
abbrev S1024x8192 : Shape := ⟨2, ![1024, 8192]⟩
abbrev S128x1x8192 : Shape := ⟨3, ![128, 1, 8192]⟩
abbrev S128x1x512 : Shape := ⟨3, ![128, 1, 512]⟩
abbrev S128x1x7168 : Shape := ⟨3, ![128, 1, 7168]⟩
abbrev S128x1x4x128 : Shape := ⟨4, ![128, 1, 4, 128]⟩
abbrev S64 : Shape := ⟨1, ![64]⟩
abbrev S1x1 : Shape := ⟨2, ![1, 1]⟩
abbrev S1x64 : Shape := ⟨2, ![1, 64]⟩
abbrev S1x1x64 : Shape := ⟨3, ![1, 1, 64]⟩
abbrev S128x1x4x64 : Shape := ⟨4, ![128, 1, 4, 64]⟩
abbrev S1x1x1x64 : Shape := ⟨4, ![1, 1, 1, 64]⟩
abbrev S128x512 : Shape := ⟨2, ![128, 512]⟩
abbrev S128x7168 : Shape := ⟨2, ![128, 7168]⟩
abbrev S128x8192 : Shape := ⟨2, ![128, 8192]⟩

abbrev nBuf : Space → Nat
  | .hbm => 104
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x8192, .f32⟩
  | .hbm, ⟨3, _⟩ => ⟨S1, .f32⟩
  | .hbm, ⟨4, _⟩ => ⟨S_, .f32⟩
  | .hbm, ⟨5, _⟩ => ⟨S1, .f32⟩
  | .hbm, ⟨6, _⟩ => ⟨S1, .f32⟩
  | .hbm, ⟨7, _⟩ => ⟨S1024, .f32⟩
  | .hbm, ⟨8, _⟩ => ⟨S128x1x1024, .f32⟩
  | .hbm, ⟨9, _⟩ => ⟨S_, .f32⟩
  | .hbm, ⟨10, _⟩ => ⟨S128x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S128x1x1, .f32⟩
  | .hbm, ⟨19, _⟩ => ⟨S128x1x1024, .f32⟩
  | .hbm, ⟨20, _⟩ => ⟨S128x1x1024, .f32⟩
  | .hbm, ⟨21, _⟩ => ⟨S1x1x1024, .f32⟩
  | .hbm, ⟨22, _⟩ => ⟨S128x1x1024, .f32⟩
  | .hbm, ⟨23, _⟩ => ⟨S128x1x1024, .f32⟩
  | .hbm, ⟨24, _⟩ => ⟨S1024x8192, .f32⟩
  | .hbm, ⟨25, _⟩ => ⟨S128x1x8192, .f32⟩
  | .hbm, ⟨26, _⟩ => ⟨S128x1x512, .f32⟩
  | .hbm, ⟨27, _⟩ => ⟨S128x1x512, .f32⟩
  | .hbm, ⟨28, _⟩ => ⟨S128x1x7168, .f32⟩
  | .hbm, ⟨29, _⟩ => ⟨S128x1x4x128, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S1x1, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x1x64, .f32⟩
  | .hbm, ⟨44, _⟩ => ⟨S1x64, .f32⟩
  | .hbm, ⟨45, _⟩ => ⟨S1x1x64, .f32⟩
  | .hbm, ⟨46, _⟩ => ⟨S128x1x4x64, .f32⟩
  | .hbm, ⟨47, _⟩ => ⟨S128x1x4x64, .f32⟩
  | .hbm, ⟨48, _⟩ => ⟨S1x1x1x64, .f32⟩
  | .hbm, ⟨49, _⟩ => ⟨S128x1x4x64, .f32⟩
  | .hbm, ⟨50, _⟩ => ⟨S128x1x4x64, .f32⟩
  | .hbm, ⟨51, _⟩ => ⟨S1x1x1x64, .f32⟩
  | .hbm, ⟨52, _⟩ => ⟨S128x1x4x64, .f32⟩
  | .hbm, ⟨53, _⟩ => ⟨S128x1x4x64, .f32⟩
  | .hbm, ⟨54, _⟩ => ⟨S128x1x4x64, .f32⟩
  | .hbm, ⟨55, _⟩ => ⟨S1x1x1x64, .f32⟩
  | .hbm, ⟨56, _⟩ => ⟨S128x1x4x64, .f32⟩
  | .hbm, ⟨57, _⟩ => ⟨S128x1x4x64, .f32⟩
  | .hbm, ⟨58, _⟩ => ⟨S1x1x1x64, .f32⟩
  | .hbm, ⟨59, _⟩ => ⟨S128x1x4x64, .f32⟩
  | .hbm, ⟨60, _⟩ => ⟨S128x1x4x64, .f32⟩
  | .hbm, ⟨61, _⟩ => ⟨S128x1x4x64, .f32⟩
  | .hbm, ⟨62, _⟩ => ⟨S128x1x4x128, .f32⟩
  | .hbm, ⟨63, _⟩ => ⟨S128x1x4x128, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S1x1, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S1x1x64, .f32⟩
  | .hbm, ⟨78, _⟩ => ⟨S1x64, .f32⟩
  | .hbm, ⟨79, _⟩ => ⟨S1x1x64, .f32⟩
  | .hbm, ⟨80, _⟩ => ⟨S128x1x4x64, .f32⟩
  | .hbm, ⟨81, _⟩ => ⟨S128x1x4x64, .f32⟩
  | .hbm, ⟨82, _⟩ => ⟨S1x1x1x64, .f32⟩
  | .hbm, ⟨83, _⟩ => ⟨S128x1x4x64, .f32⟩
  | .hbm, ⟨84, _⟩ => ⟨S128x1x4x64, .f32⟩
  | .hbm, ⟨85, _⟩ => ⟨S1x1x1x64, .f32⟩
  | .hbm, ⟨86, _⟩ => ⟨S128x1x4x64, .f32⟩
  | .hbm, ⟨87, _⟩ => ⟨S128x1x4x64, .f32⟩
  | .hbm, ⟨88, _⟩ => ⟨S128x1x4x64, .f32⟩
  | .hbm, ⟨89, _⟩ => ⟨S1x1x1x64, .f32⟩
  | .hbm, ⟨90, _⟩ => ⟨S128x1x4x64, .f32⟩
  | .hbm, ⟨91, _⟩ => ⟨S128x1x4x64, .f32⟩
  | .hbm, ⟨92, _⟩ => ⟨S1x1x1x64, .f32⟩
  | .hbm, ⟨93, _⟩ => ⟨S128x1x4x64, .f32⟩
  | .hbm, ⟨94, _⟩ => ⟨S128x1x4x64, .f32⟩
  | .hbm, ⟨95, _⟩ => ⟨S128x1x4x64, .f32⟩
  | .hbm, ⟨96, _⟩ => ⟨S128x1x4x128, .f32⟩
  | .hbm, ⟨97, _⟩ => ⟨S_, .f32⟩
  | .hbm, ⟨98, _⟩ => ⟨S128x1x4x128, .f32⟩
  | .hbm, ⟨99, _⟩ => ⟨S128x1x4x128, .f32⟩
  | .hbm, ⟨100, _⟩ => ⟨S128x512, .f32⟩
  | .hbm, ⟨101, _⟩ => ⟨S128x512, .f32⟩
  | .hbm, ⟨102, _⟩ => ⟨S128x7168, .f32⟩
  | .hbm, ⟨103, _⟩ => ⟨S128x8192, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_5 : Ref sig .tc := ⟨.hbm, 66, rfl⟩
abbrev main_v57 : Ref sig .tc := ⟨.hbm, 67, rfl⟩
abbrev main_v58 : Ref sig .tc := ⟨.hbm, 68, rfl⟩
abbrev main_cst_6 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_cst_7 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩

abbrev nD : Nat := 1
abbrev τ : Topo := Topo.v7x

variable {F : FTy → Type} [FloatOps F]
-- ==== KernelIn.lean ====
abbrev S16x4096x1024 : Shape := ⟨3, ![16, 4096, 1024]⟩
abbrev S1x1024 : Shape := ⟨2, ![1, 1024]⟩
abbrev S1x1024x8192 : Shape := ⟨3, ![1, 1024, 8192]⟩
abbrev S1x128 : Shape := ⟨2, ![1, 128]⟩
abbrev S1024x8192 : Shape := ⟨2, ![1024, 8192]⟩
abbrev S1x1x1x128 : Shape := ⟨4, ![1, 1, 1, 128]⟩
abbrev S1x1x8x128 : Shape := ⟨4, ![1, 1, 8, 128]⟩
abbrev S_ : Shape := ⟨0, ![]⟩
abbrev S4112 : Shape := ⟨1, ![4112]⟩
abbrev S64 : Shape := ⟨1, ![64]⟩
abbrev S4112x1 : Shape := ⟨2, ![4112, 1]⟩
abbrev S1x64 : Shape := ⟨2, ![1, 64]⟩
abbrev S4112x64 : Shape := ⟨2, ![4112, 64]⟩
abbrev S4112x128 : Shape := ⟨2, ![4112, 128]⟩
abbrev S4096x128 : Shape := ⟨2, ![4096, 128]⟩
abbrev S16x4096x512 : Shape := ⟨3, ![16, 4096, 512]⟩
abbrev S16x8x32x128x128 : Shape := ⟨5, ![16, 8, 32, 128, 128]⟩
abbrev S16x8x16x144x256 : Shape := ⟨5, ![16, 8, 16, 144, 256]⟩
abbrev S1x16x4096x8x128 : Shape := ⟨5, ![1, 16, 4096, 8, 128]⟩
abbrev S1x256x1024 : Shape := ⟨3, ![1, 256, 1024]⟩
abbrev S256x128 : Shape := ⟨2, ![256, 128]⟩
abbrev S1x256x512 : Shape := ⟨3, ![1, 256, 512]⟩
abbrev S1x8x2x128x128 : Shape := ⟨5, ![1, 8, 2, 128, 128]⟩
abbrev S1x8x1x144x256 : Shape := ⟨5, ![1, 8, 1, 144, 256]⟩
abbrev S1x1x256x8x128 : Shape := ⟨5, ![1, 1, 256, 8, 128]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1024x1024 : Shape := ⟨2, ![1024, 1024]⟩
abbrev S128x128 : Shape := ⟨2, ![128, 128]⟩
abbrev S1x1x1x128x128 : Shape := ⟨5, ![1, 1, 1, 128, 128]⟩
abbrev S1x1x256x1x128 : Shape := ⟨5, ![1, 1, 256, 1, 128]⟩
abbrev S16x256 : Shape := ⟨2, ![16, 256]⟩
abbrev S128x256 : Shape := ⟨2, ![128, 256]⟩
abbrev S144x256 : Shape := ⟨2, ![144, 256]⟩
abbrev S1x1x1x144x256 : Shape := ⟨5, ![1, 1, 1, 144, 256]⟩

abbrev nBuf : Space → Nat
  | .hbm => 43
  | .vmem => 29
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x8192, .f32⟩
  | .hbm, ⟨3, _⟩ => ⟨S1x128, .f32⟩
  | .hbm, ⟨4, _⟩ => ⟨S1024x8192, .f32⟩
  | .hbm, ⟨5, _⟩ => ⟨S1024x8192, .bf16⟩
  | .hbm, ⟨6, _⟩ => ⟨S1x1x1x128, .f32⟩
  | .hbm, ⟨7, _⟩ => ⟨S1x1x8x128, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4112, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S4112x1, .f32⟩
  | .hbm, ⟨22, _⟩ => ⟨S1x64, .f32⟩
  | .hbm, ⟨23, _⟩ => ⟨S4112x64, .f32⟩
  | .hbm, ⟨24, _⟩ => ⟨S4112x64, .f32⟩
  | .hbm, ⟨25, _⟩ => ⟨S4112x64, .f32⟩
  | .hbm, ⟨26, _⟩ => ⟨S4112x64, .f32⟩
  | .hbm, ⟨27, _⟩ => ⟨S4112x64, .f32⟩
  | .hbm, ⟨28, _⟩ => ⟨S4112x128, .f32⟩
  | .hbm, ⟨29, _⟩ => ⟨S4112x64, .f32⟩
  | .hbm, ⟨30, _⟩ => ⟨S4112x128, .f32⟩
  | .hbm, ⟨31, _⟩ => ⟨S4096x128, .f32⟩
  | .hbm, ⟨32, _⟩ => ⟨S4096x128, .f32⟩
  | .hbm, ⟨33, _⟩ => ⟨S16x4096x512, .bf16⟩
  | .hbm, ⟨34, _⟩ => ⟨S16x4096x512, .bf16⟩
  | .hbm, ⟨35, _⟩ => ⟨S16x4096x1024, .bf16⟩
  | .hbm, ⟨36, _⟩ => ⟨S16x4096x1024, .f32⟩
  | .hbm, ⟨37, _⟩ => ⟨S16x8x32x128x128, .bf16⟩
  | .hbm, ⟨38, _⟩ => ⟨S16x4096x1024, .bf16⟩
  | .hbm, ⟨39, _⟩ => ⟨S16x8x16x144x256, .bf16⟩
  | .hbm, ⟨40, _⟩ => ⟨S1x16x4096x8x128, .f32⟩
  | .hbm, ⟨41, _⟩ => ⟨S1x16x4096x8x128, .f32⟩
  | .hbm, ⟨42, _⟩ => ⟨S16x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x8192, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x1024, .f32⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .f32⟩
  | .local _ .vmem, ⟨16, _⟩ => ⟨S1x256x1024, .f32⟩
  | .local _ .vmem, ⟨17, _⟩ => ⟨S1x8x2x128x128, .bf16⟩
  | .local _ .vmem, ⟨18, _⟩ => ⟨S1x8x2x128x128, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x8x1x144x256, .bf16⟩
  | .local _ .vmem, ⟨22, _⟩ => ⟨S1x8x1x144x256, .bf16⟩
  | .local _ .vmem, ⟨23, _⟩ => ⟨S1x1x256x8x128, .f32⟩
  | .local _ .vmem, ⟨24, _⟩ => ⟨S1x1x256x8x128, .f32⟩
  | .local _ .vmem, ⟨25, _⟩ => ⟨S1x1x256x8x128, .f32⟩
  | .local _ .vmem, ⟨26, _⟩ => ⟨S1x1x256x8x128, .f32⟩
  | .local _ .vmem, ⟨27, _⟩ => ⟨S1x256x1024, .f32⟩
  | .local _ .vmem, ⟨28, _⟩ => ⟨S1x256x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26_0 : Ref sig .tc := ⟨.hbm, 33, rfl⟩
abbrev main_v26_1 : Ref sig .tc := ⟨.hbm, 34, rfl⟩
abbrev main_v26_2 : Ref sig .tc := ⟨.hbm, 35, rfl⟩
abbrev main_v26_3 : Ref sig .tc := ⟨.hbm, 36, rfl⟩
abbrev main_v26_4 : Ref sig .tc := ⟨.hbm, 37, rfl⟩
abbrev main_v26_5 : Ref sig .tc := ⟨.hbm, 38, rfl⟩
abbrev main_v26_6 : Ref sig .tc := ⟨.hbm, 39, rfl⟩
abbrev main_v26_7 : Ref sig .tc := ⟨.hbm, 40, rfl⟩
abbrev main_v26_8 : Ref sig .tc := ⟨.hbm, 41, rfl⟩
abbrev main_v26_9 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x2x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1x144x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x256x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x256x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceInIdeal.lean ====
abbrev S16x4096x1024 : Shape := ⟨3, ![16, 4096, 1024]⟩
abbrev S1x1024 : Shape := ⟨2, ![1, 1024]⟩
abbrev S1x1024x8192 : Shape := ⟨3, ![1, 1024, 8192]⟩
abbrev S1x128 : Shape := ⟨2, ![1, 128]⟩
abbrev S4112 : Shape := ⟨1, ![4112]⟩
abbrev S4096 : Shape := ⟨1, ![4096]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x8192 : Shape := ⟨2, ![1024, 8192]⟩
abbrev S16x4096x8192 : Shape := ⟨3, ![16, 4096, 8192]⟩
abbrev S16x4096x512 : Shape := ⟨3, ![16, 4096, 512]⟩
abbrev S16x4096x4x128 : Shape := ⟨4, ![16, 4096, 4, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S16x4096x4x64 : Shape := ⟨4, ![16, 4096, 4, 64]⟩
abbrev S1x4096x1x64 : Shape := ⟨4, ![1, 4096, 1, 64]⟩
abbrev S16x4096x8x128 : Shape := ⟨4, ![16, 4096, 8, 128]⟩
abbrev S128 : Shape := ⟨1, ![128]⟩
abbrev S1x1x1x128 : Shape := ⟨4, ![1, 1, 1, 128]⟩
abbrev S1x16x4096x8x128 : Shape := ⟨5, ![1, 16, 4096, 8, 128]⟩

abbrev nBuf : Space → Nat
  | .hbm => 152
  | .vmem => 0
  | .smem => 0
  | _ => 0

abbrev hbmTy0_0 (i : Nat) : BufTy := match i % 128 with
  | 0 => ⟨S16x4096x1024, .f32⟩
  | 1 => ⟨S1x1024, .f32⟩
  | 2 => ⟨S1x1024x8192, .f32⟩
  | 3 => ⟨S1x128, .f32⟩
  | 4 => ⟨S4112, .f32⟩
  | 5 => ⟨S4096, .f32⟩
  | 6 => ⟨S1024, .f32⟩
  | 7 => ⟨S16x4096x1024, .f32⟩
  | 8 => ⟨S_, .f32⟩
  | 9 => ⟨S16x4096, .f32⟩
  | 10 => ⟨S16x4096x1, .f32⟩
  | 11 => ⟨S_, .f32⟩
  | 12 => ⟨S16x4096x1, .f32⟩
  | 13 => ⟨S16x4096x1, .f32⟩
  | 14 => ⟨S_, .f32⟩
  | 15 => ⟨S16x4096x1, .f32⟩
  | 16 => ⟨S16x4096x1, .f32⟩
  | 17 => ⟨S16x4096x1, .f32⟩
  | 18 => ⟨S16x4096x1024, .f32⟩
  | 19 => ⟨S16x4096x1024, .f32⟩
  | 20 => ⟨S1x1x1024, .f32⟩
  | 21 => ⟨S16x4096x1024, .f32⟩
  | 22 => ⟨S16x4096x1024, .f32⟩
  | 23 => ⟨S1024x8192, .f32⟩
  | 24 => ⟨S16x4096x8192, .f32⟩
  | 25 => ⟨S16x4096x512, .f32⟩
  | 26 => ⟨S16x4096x512, .f32⟩
  | 27 => ⟨S16x4096x1024, .f32⟩
  | 28 => ⟨S16x4096x1024, .f32⟩
  | 29 => ⟨S16x4096x1024, .f32⟩
  | 30 => ⟨S16x4096x1024, .f32⟩
  | 31 => ⟨S16x4096x1024, .f32⟩
  | 32 => ⟨S16x4096x1024, .f32⟩
  | 33 => ⟨S16x4096x1024, .f32⟩
  | 34 => ⟨S16x4096x4x128, .f32⟩
  | 35 => ⟨S64, .f32⟩
  | 36 => ⟨S64, .f32⟩
  | 37 => ⟨S_, .f32⟩
  | 38 => ⟨S64, .f32⟩
  | 39 => ⟨S64, .f32⟩
  | 40 => ⟨S_, .f32⟩
  | 41 => ⟨S64, .f32⟩
  | 42 => ⟨S64, .f32⟩
  | 43 => ⟨S4096x1, .f32⟩
  | 44 => ⟨S1x64, .f32⟩
  | 45 => ⟨S4096x64, .f32⟩
  | 46 => ⟨S4096x64, .f32⟩
  | 47 => ⟨S4096x64, .f32⟩
  | 48 => ⟨S4096x64, .f32⟩
  | 49 => ⟨S4096x1x64, .f32⟩
  | 50 => ⟨S4096x64, .f32⟩
  | 51 => ⟨S4096x1x64, .f32⟩
  | 52 => ⟨S16x4096x4x64, .f32⟩
  | 53 => ⟨S16x4096x4x64, .f32⟩
  | 54 => ⟨S1x4096x1x64, .f32⟩
  | 55 => ⟨S16x4096x4x64, .f32⟩
  | 56 => ⟨S16x4096x4x64, .f32⟩
  | 57 => ⟨S1x4096x1x64, .f32⟩
  | 58 => ⟨S16x4096x4x64, .f32⟩
  | 59 => ⟨S16x4096x4x64, .f32⟩
  | 60 => ⟨S16x4096x4x64, .f32⟩
  | 61 => ⟨S1x4096x1x64, .f32⟩
  | 62 => ⟨S16x4096x4x64, .f32⟩
  | 63 => ⟨S16x4096x4x64, .f32⟩
  | 64 => ⟨S1x4096x1x64, .f32⟩
  | 65 => ⟨S16x4096x4x64, .f32⟩
  | 66 => ⟨S16x4096x4x64, .f32⟩
  | 67 => ⟨S16x4096x4x64, .f32⟩
  | 68 => ⟨S16x4096x4x128, .f32⟩
  | 69 => ⟨S16x4096x512, .f32⟩
  | 70 => ⟨S16x4096x4x128, .f32⟩
  | 71 => ⟨S64, .f32⟩
  | 72 => ⟨S64, .f32⟩
  | 73 => ⟨S_, .f32⟩
  | 74 => ⟨S64, .f32⟩
  | 75 => ⟨S64, .f32⟩
  | 76 => ⟨S_, .f32⟩
  | 77 => ⟨S64, .f32⟩
  | 78 => ⟨S64, .f32⟩
  | 79 => ⟨S4096x1, .f32⟩
  | 80 => ⟨S1x64, .f32⟩
  | 81 => ⟨S4096x64, .f32⟩
  | 82 => ⟨S4096x64, .f32⟩
  | 83 => ⟨S4096x64, .f32⟩
  | 84 => ⟨S4096x64, .f32⟩
  | 85 => ⟨S4096x1x64, .f32⟩
  | 86 => ⟨S4096x64, .f32⟩
  | 87 => ⟨S4096x1x64, .f32⟩
  | 88 => ⟨S16x4096x4x64, .f32⟩
  | 89 => ⟨S16x4096x4x64, .f32⟩
  | 90 => ⟨S1x4096x1x64, .f32⟩
  | 91 => ⟨S16x4096x4x64, .f32⟩
  | 92 => ⟨S16x4096x4x64, .f32⟩
  | 93 => ⟨S1x4096x1x64, .f32⟩
  | 94 => ⟨S16x4096x4x64, .f32⟩
  | 95 => ⟨S16x4096x4x64, .f32⟩
  | 96 => ⟨S16x4096x4x64, .f32⟩
  | 97 => ⟨S1x4096x1x64, .f32⟩
  | 98 => ⟨S16x4096x4x64, .f32⟩
  | 99 => ⟨S16x4096x4x64, .f32⟩
  | 100 => ⟨S1x4096x1x64, .f32⟩
  | 101 => ⟨S16x4096x4x64, .f32⟩
  | 102 => ⟨S16x4096x4x64, .f32⟩
  | 103 => ⟨S16x4096x4x64, .f32⟩
  | 104 => ⟨S16x4096x4x128, .f32⟩
  | 105 => ⟨S_, .f32⟩
  | 106 => ⟨S16x4096x4x128, .f32⟩
  | 107 => ⟨S16x4096x4x128, .f32⟩
  | 108 => ⟨S16x4096x512, .f32⟩
  | 109 => ⟨S16x4096x1024, .f32⟩
  | 110 => ⟨S16x4096x1024, .f32⟩
  | 111 => ⟨S_, .f32⟩
  | 112 => ⟨S16x4096x1024, .f32⟩
  | 113 => ⟨S16x4096x1024, .f32⟩
  | 114 => ⟨S_, .f32⟩
  | 115 => ⟨S16x4096x1024, .f32⟩
  | 116 => ⟨S16x4096x1024, .f32⟩
  | 117 => ⟨S16x4096x1024, .f32⟩
  | 118 => ⟨S16x4096x1024, .f32⟩
  | 119 => ⟨S_, .f32⟩
  | 120 => ⟨S16x4096x1024, .f32⟩
  | 121 => ⟨S16x4096x1024, .f32⟩
  | 122 => ⟨S_, .f32⟩
  | 123 => ⟨S16x4096x1024, .f32⟩
  | 124 => ⟨S16x4096x1024, .f32⟩
  | 125 => ⟨S16x4096x1024, .f32⟩
  | 126 => ⟨S16x4096x1024, .f32⟩
  | 127 => ⟨S16x4096x1024, .f32⟩
  | _ => ⟨S16x4096x1024, .f32⟩

abbrev hbmTy0_1 (i : Nat) : BufTy := match i % 128 with
  | 0 => ⟨S16x4096x1024, .f32⟩
  | 1 => ⟨S_, .f32⟩
  | 2 => ⟨S16x4096x1024, .f32⟩
  | 3 => ⟨S16x4096x1024, .f32⟩
  | 4 => ⟨S_, .f32⟩
  | 5 => ⟨S16x4096x1024, .f32⟩
  | 6 => ⟨S16x4096x1024, .f32⟩
  | 7 => ⟨S16x4096x8x128, .f32⟩
  | 8 => ⟨S128, .f32⟩
  | 9 => ⟨S_, .f32⟩
  | 10 => ⟨S128, .f32⟩
  | 11 => ⟨S128, .f32⟩
  | 12 => ⟨S1x1x1x128, .f32⟩
  | 13 => ⟨S16x4096x8x128, .f32⟩
  | 14 => ⟨S16x4096x8x128, .f32⟩
  | 15 => ⟨S16x4096x1024, .f32⟩
  | 16 => ⟨S16x4096x8x128, .f32⟩
  | 17 => ⟨S1x16x4096x8x128, .f32⟩
  | 18 => ⟨S16x4096x8x128, .f32⟩
  | 19 => ⟨S1x16x4096x8x128, .f32⟩
  | 20 => ⟨S16x4096x512, .bf16⟩
  | 21 => ⟨S16x4096x512, .bf16⟩
  | 22 => ⟨S16x4096x1024, .bf16⟩
  | 23 => ⟨S16x4096x1024, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_4 : Ref sig .tc := ⟨.hbm, 73, rfl⟩
abbrev main_v64 : Ref sig .tc := ⟨.hbm, 74, rfl⟩
abbrev main_v65 : Ref sig .tc := ⟨.hbm, 75, rfl⟩
abbrev main_cst_5 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_cst_6 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_cst_7 : Ref sig .tc := ⟨.hbm, 111, rfl⟩
abbrev main_v99 : Ref sig .tc := ⟨.hbm, 112, rfl⟩
abbrev main_v100 : Ref sig .tc := ⟨.hbm, 113, rfl⟩
abbrev main_cst_8 : Ref sig .tc := ⟨.hbm, 114, rfl⟩
abbrev main_v101 : Ref sig .tc := ⟨.hbm, 115, rfl⟩
abbrev main_v102 : Ref sig .tc := ⟨.hbm, 116, rfl⟩
abbrev main_call0_v0 : Ref sig .tc := ⟨.hbm, 117, rfl⟩
abbrev main_call0_v1 : Ref sig .tc := ⟨.hbm, 118, rfl⟩
abbrev main_call0_cst : Ref sig .tc := ⟨.hbm, 119, rfl⟩
abbrev main_call0_v2 : Ref sig .tc := ⟨.hbm, 120, rfl⟩
abbrev main_call0_v3 : Ref sig .tc := ⟨.hbm, 121, rfl⟩
abbrev main_call0_cst_0 : Ref sig .tc := ⟨.hbm, 122, rfl⟩
abbrev main_call0_v4 : Ref sig .tc := ⟨.hbm, 123, rfl⟩
abbrev main_call0_v5 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_9 : Ref sig .tc := ⟨.hbm, 129, rfl⟩
abbrev main_v107 : Ref sig .tc := ⟨.hbm, 130, rfl⟩
abbrev main_v108 : Ref sig .tc := ⟨.hbm, 131, rfl⟩
abbrev main_cst_10 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_11 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩

abbrev nD : Nat := 1
abbrev τ : Topo := Topo.v7x

variable {F : FTy → Type} [FloatOps F]
-- ==== KernelFfnSample.lean ====
abbrev S128x1x1024 : Shape := ⟨3, ![128, 1, 1024]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S128x1024 : Shape := ⟨2, ![128, 1024]⟩
abbrev S1024x1024 : Shape := ⟨2, ![1024, 1024]⟩
abbrev S1024x2816 : Shape := ⟨2, ![1024, 2816]⟩
abbrev S2816x1024 : Shape := ⟨2, ![2816, 1024]⟩
abbrev S128 : Shape := ⟨1, ![128]⟩
abbrev S128x1 : Shape := ⟨2, ![128, 1]⟩
abbrev S128x2816 : Shape := ⟨2, ![128, 2816]⟩

abbrev nBuf : Space → Nat
  | .hbm => 20
  | .vmem => 10
  | .smem => 0
  | _ => 0

abbrev bufTy : (tb : Table) → Fin (tcTables nBuf tb) → BufTy
  | .hbm, ⟨0, _⟩ => ⟨S128x1x1024, .bf16⟩
  | .hbm, ⟨1, _⟩ => ⟨S128x1x1024, .f32⟩
  | .hbm, ⟨2, _⟩ => ⟨S1x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S128x1024, .f32⟩
  | .hbm, ⟨10, _⟩ => ⟨S1024x1024, .f32⟩
  | .hbm, ⟨11, _⟩ => ⟨S1024x1024, .bf16⟩
  | .hbm, ⟨12, _⟩ => ⟨S1024x2816, .f32⟩
  | .hbm, ⟨13, _⟩ => ⟨S1024x2816, .bf16⟩
  | .hbm, ⟨14, _⟩ => ⟨S1024x2816, .f32⟩
  | .hbm, ⟨15, _⟩ => ⟨S1024x2816, .bf16⟩
  | .hbm, ⟨16, _⟩ => ⟨S2816x1024, .f32⟩
  | .hbm, ⟨17, _⟩ => ⟨S2816x1024, .bf16⟩
  | .hbm, ⟨18, _⟩ => ⟨S128x1024, .bf16⟩
  | .hbm, ⟨19, _⟩ => ⟨S128x1024, .f32⟩
  | .local _ .vmem, ⟨0, _⟩ => ⟨S128x1024, .bf16⟩
  | .local _ .vmem, ⟨1, _⟩ => ⟨S128x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S128x1024, .f32⟩
  | _, _ => ⟨S128x1x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== ReferenceFfnSampleIdeal.lean ====
abbrev S128x1x1024 : Shape := ⟨3, ![128, 1, 1024]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x2816 : Shape := ⟨2, ![1024, 2816]⟩
abbrev S2816x1024 : Shape := ⟨2, ![2816, 1024]⟩
abbrev S128x1x2816 : Shape := ⟨3, ![128, 1, 2816]⟩
abbrev S128x1024 : Shape := ⟨2, ![128, 1024]⟩

abbrev nBuf : Space → Nat
  | .hbm => 82
  | .vmem => 0
  | .smem => 0
  | _ => 0

abbrev bufTy : (tb : Table) → Fin (tcTables nBuf tb) → BufTy
  | .hbm, ⟨0, _⟩ => ⟨S128x1x1024, .bf16⟩
  | .hbm, ⟨1, _⟩ => ⟨S128x1x1024, .f32⟩
  | .hbm, ⟨2, _⟩ => ⟨S1x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S128x1x1024, .f32⟩
  | .hbm, ⟨10, _⟩ => ⟨S1024x1024, .f32⟩
  | .hbm, ⟨11, _⟩ => ⟨S128x1x1024, .f32⟩
  | .hbm, ⟨12, _⟩ => ⟨S1024, .f32⟩
  | .hbm, ⟨13, _⟩ => ⟨S128x1x1024, .f32⟩
  | .hbm, ⟨14, _⟩ => ⟨S_, .f32⟩
  | .hbm, ⟨15, _⟩ => ⟨S128x1, .f32⟩
  | .hbm, ⟨16, _⟩ => ⟨S128x1x1, .f32⟩
  | .hbm, ⟨17, _⟩ => ⟨S_, .f32⟩
  | .hbm, ⟨18, _⟩ => ⟨S128x1x1, .f32⟩
  | .hbm, ⟨19, _⟩ => ⟨S128x1x1, .f32⟩
  | .hbm, ⟨20, _⟩ => ⟨S_, .f32⟩
  | .hbm, ⟨21, _⟩ => ⟨S128x1x1, .f32⟩
  | .hbm, ⟨22, _⟩ => ⟨S128x1x1, .f32⟩
  | .hbm, ⟨23, _⟩ => ⟨S128x1x1, .f32⟩
  | .hbm, ⟨24, _⟩ => ⟨S128x1x1024, .f32⟩
  | .hbm, ⟨25, _⟩ => ⟨S128x1x1024, .f32⟩
  | .hbm, ⟨26, _⟩ => ⟨S1x1x1024, .f32⟩
  | .hbm, ⟨27, _⟩ => ⟨S128x1x1024, .f32⟩
  | .hbm, ⟨28, _⟩ => ⟨S128x1x1024, .f32⟩
  | .hbm, ⟨29, _⟩ => ⟨S128x1x1024, .f32⟩
  | .hbm, ⟨30, _⟩ => ⟨S1024, .f32⟩
  | .hbm, ⟨31, _⟩ => ⟨S128x1x1024, .f32⟩
  | .hbm, ⟨32, _⟩ => ⟨S_, .f32⟩
  | .hbm, ⟨33, _⟩ => ⟨S128x1, .f32⟩
  | .hbm, ⟨34, _⟩ => ⟨S128x1x1, .f32⟩
  | .hbm, ⟨35, _⟩ => ⟨S_, .f32⟩
  | .hbm, ⟨36, _⟩ => ⟨S128x1x1, .f32⟩
  | .hbm, ⟨37, _⟩ => ⟨S128x1x1, .f32⟩
  | .hbm, ⟨38, _⟩ => ⟨S_, .f32⟩
  | .hbm, ⟨39, _⟩ => ⟨S128x1x1, .f32⟩
  | .hbm, ⟨40, _⟩ => ⟨S128x1x1, .f32⟩
  | .hbm, ⟨41, _⟩ => ⟨S128x1x1, .f32⟩
  | .hbm, ⟨42, _⟩ => ⟨S128x1x1024, .f32⟩
  | .hbm, ⟨43, _⟩ => ⟨S128x1x1024, .f32⟩
  | .hbm, ⟨44, _⟩ => ⟨S1x1x1024, .f32⟩
  | .hbm, ⟨45, _⟩ => ⟨S128x1x1024, .f32⟩
  | .hbm, ⟨46, _⟩ => ⟨S128x1x1024, .f32⟩
  | .hbm, ⟨47, _⟩ => ⟨S1024x2816, .f32⟩
  | .hbm, ⟨48, _⟩ => ⟨S1024x2816, .f32⟩
  | .hbm, ⟨49, _⟩ => ⟨S2816x1024, .f32⟩
  | .hbm, ⟨50, _⟩ => ⟨S128x1x2816, .f32⟩
  | .hbm, ⟨51, _⟩ => ⟨S128x1x2816, .f32⟩
  | .hbm, ⟨52, _⟩ => ⟨S128x1x2816, .f32⟩
  | .hbm, ⟨53, _⟩ => ⟨S128x1x2816, .f32⟩
  | .hbm, ⟨54, _⟩ => ⟨S_, .f32⟩
  | .hbm, ⟨55, _⟩ => ⟨S128x1x2816, .f32⟩
  | .hbm, ⟨56, _⟩ => ⟨S128x1x2816, .f32⟩
  | .hbm, ⟨57, _⟩ => ⟨S_, .f32⟩
  | .hbm, ⟨58, _⟩ => ⟨S128x1x2816, .f32⟩
  | .hbm, ⟨59, _⟩ => ⟨S128x1x2816, .f32⟩
  | .hbm, ⟨60, _⟩ => ⟨S128x1x2816, .f32⟩
  | .hbm, ⟨61, _⟩ => ⟨S128x1x2816, .f32⟩
  | .hbm, ⟨62, _⟩ => ⟨S128x1x1024, .f32⟩
  | .hbm, ⟨63, _⟩ => ⟨S1024, .f32⟩
  | .hbm, ⟨64, _⟩ => ⟨S128x1x1024, .f32⟩
  | .hbm, ⟨65, _⟩ => ⟨S_, .f32⟩
  | .hbm, ⟨66, _⟩ => ⟨S128x1, .f32⟩
  | .hbm, ⟨67, _⟩ => ⟨S128x1x1, .f32⟩
  | .hbm, ⟨68, _⟩ => ⟨S_, .f32⟩
  | .hbm, ⟨69, _⟩ => ⟨S128x1x1, .f32⟩
  | .hbm, ⟨70, _⟩ => ⟨S128x1x1, .f32⟩
  | .hbm, ⟨71, _⟩ => ⟨S_, .f32⟩
  | .hbm, ⟨72, _⟩ => ⟨S128x1x1, .f32⟩
  | .hbm, ⟨73, _⟩ => ⟨S128x1x1, .f32⟩
  | .hbm, ⟨74, _⟩ => ⟨S128x1x1, .f32⟩
  | .hbm, ⟨75, _⟩ => ⟨S128x1x1024, .f32⟩
  | .hbm, ⟨76, _⟩ => ⟨S128x1x1024, .f32⟩
  | .hbm, ⟨77, _⟩ => ⟨S1x1x1024, .f32⟩
  | .hbm, ⟨78, _⟩ => ⟨S128x1x1024, .f32⟩
  | .hbm, ⟨79, _⟩ => ⟨S128x1x1024, .f32⟩
  | .hbm, ⟨80, _⟩ => ⟨S128x1x1024, .f32⟩
  | .hbm, ⟨81, _⟩ => ⟨S128x1024, .f32⟩
  | _, _ => ⟨S128x1x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== KernelStep.lean ====
abbrev S128x8192 : Shape := ⟨2, ![128, 8192]⟩
abbrev S1x128x4x128x256 : Shape := ⟨5, ![1, 128, 4, 128, 256]⟩
abbrev S4 : Shape := ⟨1, ![4]⟩
abbrev S_ : Shape := ⟨0, ![]⟩
abbrev S4x1x1 : Shape := ⟨3, ![4, 1, 1]⟩
abbrev S4x1x256 : Shape := ⟨3, ![4, 1, 256]⟩
abbrev S128x1024 : Shape := ⟨2, ![128, 1024]⟩
abbrev S8x1024 : Shape := ⟨2, ![8, 1024]⟩
abbrev S1x8x4x128x256 : Shape := ⟨5, ![1, 8, 4, 128, 256]⟩
abbrev S128x128 : Shape := ⟨2, ![128, 128]⟩
abbrev S1x128 : Shape := ⟨2, ![1, 128]⟩
abbrev S1x256 : Shape := ⟨2, ![1, 256]⟩
abbrev S1x1x1x128x256 : Shape := ⟨5, ![1, 1, 1, 128, 256]⟩
abbrev S128x256 : Shape := ⟨2, ![128, 256]⟩
abbrev S1x1x256 : Shape := ⟨3, ![1, 1, 256]⟩
abbrev S1 : Shape := ⟨1, ![1]⟩
abbrev S1x1 : Shape := ⟨2, ![1, 1]⟩
abbrev S128 : Shape := ⟨1, ![128]⟩
abbrev S128x1 : Shape := ⟨2, ![128, 1]⟩
abbrev S256 : Shape := ⟨1, ![256]⟩

abbrev nBuf : Space → Nat
  | .hbm => 18
  | .vmem => 15
  | .smem => 0
  | _ => 0

abbrev bufTy : (tb : Table) → Fin (tcTables nBuf tb) → BufTy
  | .hbm, ⟨0, _⟩ => ⟨S128x8192, .f32⟩
  | .hbm, ⟨1, _⟩ => ⟨S1x128x4x128x256, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S4x1x1, .f32⟩
  | .hbm, ⟨15, _⟩ => ⟨S4x1x256, .f32⟩
  | .hbm, ⟨16, _⟩ => ⟨S128x1024, .f32⟩
  | .hbm, ⟨17, _⟩ => ⟨S1x128x4x128x256, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x8x4x128x256, .f32⟩
  | .local _ .vmem, ⟨9, _⟩ => ⟨S1x8x4x128x256, .f32⟩
  | .local _ .vmem, ⟨10, _⟩ => ⟨S4x1x256, .f32⟩
  | .local _ .vmem, ⟨11, _⟩ => ⟨S8x1024, .f32⟩
  | .local _ .vmem, ⟨12, _⟩ => ⟨S8x1024, .f32⟩
  | .local _ .vmem, ⟨13, _⟩ => ⟨S1x8x4x128x256, .f32⟩
  | .local _ .vmem, ⟨14, _⟩ => ⟨S1x8x4x128x256, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceStepIdeal.lean ====
abbrev S128x8192 : Shape := ⟨2, ![128, 8192]⟩
abbrev S1x128x4x128x256 : Shape := ⟨5, ![1, 128, 4, 128, 256]⟩
abbrev S128x512 : Shape := ⟨2, ![128, 512]⟩
abbrev S128x1024 : Shape := ⟨2, ![128, 1024]⟩
abbrev S128x1x4x128 : Shape := ⟨4, ![128, 1, 4, 128]⟩
abbrev S128x1x4x256 : Shape := ⟨4, ![128, 1, 4, 256]⟩
abbrev S4 : Shape := ⟨1, ![4]⟩
abbrev S_ : Shape := ⟨0, ![]⟩
abbrev S128x4x128x256 : Shape := ⟨4, ![128, 4, 128, 256]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S128x4x1x1 : Shape := ⟨4, ![128, 4, 1, 1]⟩
abbrev S1x4x1x1 : Shape := ⟨4, ![1, 4, 1, 1]⟩
abbrev S128x4x256x1 : Shape := ⟨4, ![128, 4, 256, 1]⟩
abbrev S1x4 : Shape := ⟨2, ![1, 4]⟩
abbrev S1x1x4x1 : Shape := ⟨4, ![1, 1, 4, 1]⟩
abbrev S128x1x4 : Shape := ⟨3, ![128, 1, 4]⟩
abbrev S128x1x4x1 : Shape := ⟨4, ![128, 1, 4, 1]⟩

abbrev nBuf : Space → Nat
  | .hbm => 120
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S1x128x4x128x256, .f32⟩
  | .hbm, ⟨2, _⟩ => ⟨S128x512, .f32⟩
  | .hbm, ⟨3, _⟩ => ⟨S128x512, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1x4x128, .f32⟩
  | .hbm, ⟨12, _⟩ => ⟨S128x1x4x128, .f32⟩
  | .hbm, ⟨13, _⟩ => ⟨S128x1x4x256, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S128x4x128x256, .f32⟩
  | .hbm, ⟨26, _⟩ => ⟨S1, .f32⟩
  | .hbm, ⟨27, _⟩ => ⟨S1x1, .f32⟩
  | .hbm, ⟨28, _⟩ => ⟨S1x1, .f32⟩
  | .hbm, ⟨29, _⟩ => ⟨S1x1, .f32⟩
  | .hbm, ⟨30, _⟩ => ⟨S_, .f32⟩
  | .hbm, ⟨31, _⟩ => ⟨S1x1, .f32⟩
  | .hbm, ⟨32, _⟩ => ⟨S1x1, .i1⟩
  | .hbm, ⟨33, _⟩ => ⟨S_, .f32⟩
  | .hbm, ⟨34, _⟩ => ⟨S1x1, .f32⟩
  | .hbm, ⟨35, _⟩ => ⟨S1x1, .f32⟩
  | .hbm, ⟨36, _⟩ => ⟨S1x1x1, .f32⟩
  | .hbm, ⟨37, _⟩ => ⟨S4x1x1, .f32⟩
  | .hbm, ⟨38, _⟩ => ⟨S4x1x1, .f32⟩
  | .hbm, ⟨39, _⟩ => ⟨S4x1x1, .f32⟩
  | .hbm, ⟨40, _⟩ => ⟨S4x1x1, .f32⟩
  | .hbm, ⟨41, _⟩ => ⟨S_, .f32⟩
  | .hbm, ⟨42, _⟩ => ⟨S_, .f32⟩
  | .hbm, ⟨43, _⟩ => ⟨S4x1x1, .i1⟩
  | .hbm, ⟨44, _⟩ => ⟨S4x1x1, .f32⟩
  | .hbm, ⟨45, _⟩ => ⟨S4x1x1, .f32⟩
  | .hbm, ⟨46, _⟩ => ⟨S128x4x1x1, .f32⟩
  | .hbm, ⟨47, _⟩ => ⟨S1x4x1x1, .f32⟩
  | .hbm, ⟨48, _⟩ => ⟨S128x4x1x1, .f32⟩
  | .hbm, ⟨49, _⟩ => ⟨S128x4x1x1, .f32⟩
  | .hbm, ⟨50, _⟩ => ⟨S128x4x256x1, .f32⟩
  | .hbm, ⟨51, _⟩ => ⟨S128x1x4x256, .f32⟩
  | .hbm, ⟨52, _⟩ => ⟨S_, .f32⟩
  | .hbm, ⟨53, _⟩ => ⟨S1, .f32⟩
  | .hbm, ⟨54, _⟩ => ⟨S1, .f32⟩
  | .hbm, ⟨55, _⟩ => ⟨S1x1, .f32⟩
  | .hbm, ⟨56, _⟩ => ⟨S1x4, .f32⟩
  | .hbm, ⟨57, _⟩ => ⟨S1x4, .f32⟩
  | .hbm, ⟨58, _⟩ => ⟨S1x4, .f32⟩
  | .hbm, ⟨59, _⟩ => ⟨S1x4, .f32⟩
  | .hbm, ⟨60, _⟩ => ⟨S128x4x256x1, .f32⟩
  | .hbm, ⟨61, _⟩ => ⟨S128x1x4x256, .f32⟩
  | .hbm, ⟨62, _⟩ => ⟨S1x1x4x1, .f32⟩
  | .hbm, ⟨63, _⟩ => ⟨S128x1x4x256, .f32⟩
  | .hbm, ⟨64, _⟩ => ⟨S128x1x4x256, .f32⟩
  | .hbm, ⟨65, _⟩ => ⟨S128x1x4x256, .f32⟩
  | .hbm, ⟨66, _⟩ => ⟨S_, .f32⟩
  | .hbm, ⟨67, _⟩ => ⟨S1, .f32⟩
  | .hbm, ⟨68, _⟩ => ⟨S1, .f32⟩
  | .hbm, ⟨69, _⟩ => ⟨S1x1, .f32⟩
  | .hbm, ⟨70, _⟩ => ⟨S1x4, .f32⟩
  | .hbm, ⟨71, _⟩ => ⟨S1x4, .f32⟩
  | .hbm, ⟨72, _⟩ => ⟨S1x4, .f32⟩
  | .hbm, ⟨73, _⟩ => ⟨S1x4, .f32⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S1x4x1x1, .f32⟩
  | .hbm, ⟨79, _⟩ => ⟨S128x4x128x256, .f32⟩
  | .hbm, ⟨80, _⟩ => ⟨S128x4x128x256, .f32⟩
  | .hbm, ⟨81, _⟩ => ⟨S1x1x4x1, .f32⟩
  | .hbm, ⟨82, _⟩ => ⟨S128x1x4x128, .f32⟩
  | .hbm, ⟨83, _⟩ => ⟨S128x1x4x128, .f32⟩
  | .hbm, ⟨84, _⟩ => ⟨S128x4x128x256, .f32⟩
  | .hbm, ⟨85, _⟩ => ⟨S128x4x128x256, .f32⟩
  | .hbm, ⟨86, _⟩ => ⟨S128x1x4x256, .f32⟩
  | .hbm, ⟨87, _⟩ => ⟨S_, .f32⟩
  | .hbm, ⟨88, _⟩ => ⟨S128x1x4, .f32⟩
  | .hbm, ⟨89, _⟩ => ⟨S128x1x4x1, .f32⟩
  | .hbm, ⟨90, _⟩ => ⟨S_, .f32⟩
  | .hbm, ⟨91, _⟩ => ⟨S128x1x4x1, .f32⟩
  | .hbm, ⟨92, _⟩ => ⟨S128x1x4x1, .f32⟩
  | .hbm, ⟨93, _⟩ => ⟨S_, .f32⟩
  | .hbm, ⟨94, _⟩ => ⟨S128x1x4x1, .f32⟩
  | .hbm, ⟨95, _⟩ => ⟨S128x1x4x1, .f32⟩
  | .hbm, ⟨96, _⟩ => ⟨S128x1x4x1, .f32⟩
  | .hbm, ⟨97, _⟩ => ⟨S128x1x4x256, .f32⟩
  | .hbm, ⟨98, _⟩ => ⟨S128x1x4x256, .f32⟩
  | .hbm, ⟨99, _⟩ => ⟨S128x1024, .f32⟩
  | .hbm, ⟨100, _⟩ => ⟨S128x1024, .f32⟩
  | .hbm, ⟨101, _⟩ => ⟨S_, .f32⟩
  | .hbm, ⟨102, _⟩ => ⟨S128x1024, .f32⟩
  | .hbm, ⟨103, _⟩ => ⟨S128x1024, .f32⟩
  | .hbm, ⟨104, _⟩ => ⟨S_, .f32⟩
  | .hbm, ⟨105, _⟩ => ⟨S128x1024, .f32⟩
  | .hbm, ⟨106, _⟩ => ⟨S128x1024, .f32⟩
  | .hbm, ⟨107, _⟩ => ⟨S128x1024, .f32⟩
  | .hbm, ⟨108, _⟩ => ⟨S128x1024, .f32⟩
  | .hbm, ⟨109, _⟩ => ⟨S128x1024, .f32⟩
  | .hbm, ⟨110, _⟩ => ⟨S_, .f32⟩
  | .hbm, ⟨111, _⟩ => ⟨S128x1024, .f32⟩
  | .hbm, ⟨112, _⟩ => ⟨S128x1024, .f32⟩
  | .hbm, ⟨113, _⟩ => ⟨S_, .f32⟩
  | .hbm, ⟨114, _⟩ => ⟨S128x1024, .f32⟩
  | .hbm, ⟨115, _⟩ => ⟨S128x1024, .f32⟩
  | .hbm, ⟨116, _⟩ => ⟨S128x1024, .f32⟩
  | .hbm, ⟨117, _⟩ => ⟨S128x1024, .f32⟩
  | .hbm, ⟨118, _⟩ => ⟨S128x1024, .f32⟩
  | .hbm, ⟨119, _⟩ => ⟨S1x128x4x128x256, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_7 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_8 : Ref sig .tc := ⟨.hbm, 87, rfl⟩
abbrev main_v73 : Ref sig .tc := ⟨.hbm, 88, rfl⟩
abbrev main_v74 : Ref sig .tc := ⟨.hbm, 89, rfl⟩
abbrev main_cst_9 : Ref sig .tc := ⟨.hbm, 90, rfl⟩
abbrev main_v75 : Ref sig .tc := ⟨.hbm, 91, rfl⟩
abbrev main_v76 : Ref sig .tc := ⟨.hbm, 92, rfl⟩
abbrev main_cst_10 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_11 : Ref sig .tc := ⟨.hbm, 101, rfl⟩
abbrev main_v84 : Ref sig .tc := ⟨.hbm, 102, rfl⟩
abbrev main_v85 : Ref sig .tc := ⟨.hbm, 103, rfl⟩
abbrev main_cst_12 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_call1_v0 : Ref sig .tc := ⟨.hbm, 108, rfl⟩
abbrev main_call1_v1 : Ref sig .tc := ⟨.hbm, 109, rfl⟩
abbrev main_call1_cst : Ref sig .tc := ⟨.hbm, 110, rfl⟩
abbrev main_call1_v2 : Ref sig .tc := ⟨.hbm, 111, rfl⟩
abbrev main_call1_v3 : Ref sig .tc := ⟨.hbm, 112, rfl⟩
abbrev main_call1_cst_0 : Ref sig .tc := ⟨.hbm, 113, rfl⟩
abbrev main_call1_v4 : Ref sig .tc := ⟨.hbm, 114, rfl⟩
abbrev main_call1_v5 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩

abbrev nD : Nat := 1
abbrev τ : Topo := Topo.v7x

variable {F : FTy → Type} [FloatOps F]
-- ==== Proof.Host.lean ====
module

public import proofs.«01_k».proof.Proof.Gen.KernelIdeal.Frame
public import Idealize.ShloMosaic.Lib.Pointwise
public import Idealize.ShloMosaic.Lib.StableHlo.ReadAt
public import Idealize.ShloMosaic.Lib.Tactic.WordOmega

/-!
# The arrays the call reads

What the host leaves in each of the call's operands, entry by entry, over the program's arguments.
-/

@[expose] public section

set_option maxRecDepth 16384

noncomputable section

namespace Cert.KernelIdeal.Host

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The scale of the queries. -/
def scale : EReal := Ideal.div (Ideal.ofBits .f32 0x3E000000#32) (Ideal.log (Ideal.ofBits .f32 0x40000000#32))

/-- The argument arrays. -/
abbrev q : S16x4096x8x2x64.Idx → EReal := m ((c : Thread nD τ).loc main_arg0)
abbrev kMeta : S16x8x2x64.Idx → EReal := m ((c : Thread nD τ).loc main_arg1)
abbrev vMeta : S16x8x128.Idx → EReal := m ((c : Thread nD τ).loc main_arg2)
abbrev k : S16x4096x8x2x64.Idx → EReal := m ((c : Thread nD τ).loc main_arg3)
abbrev v : S16x4096x8x128.Idx → EReal := m ((c : Thread nD τ).loc main_arg4)
abbrev norm : S1x128.Idx → EReal := m ((c : Thread nD τ).loc main_arg9)
abbrev gb : S16x4096x1024.Idx → EReal := m ((c : Thread nD τ).loc main_arg10)

theorem queries (b : Fin 16) (h : Fin 8) (i : Fin 32) (d p : Fin 128) :
    (V m c main_v20 : S16x8x32x128x128.Idx → EReal) (ix5 b h i d p)
      = q m c (ix5 b ⟨i.val * 128 + p.val, by omega⟩ h ⟨d.val / 64, by omega⟩ ⟨d.val % 64, by omega⟩) * scale := by
  unfold V
  simp only [hostOps0, hostOps0_1, hostOps0_2, hostOps0_3, hostOps0_4, hostOps0_5, hostOps0_6, hostOps0_7, hostOps0_8, List.flatten_cons, List.flatten_nil, List.cons_append, List.nil_append]
  after_reads_at
  rfl

theorem keys (b : Fin 16) (n : Fin 4096) (x : Fin 1024) :
    (V m c main_v22 : S16x4096x1024.Idx → EReal) (ix3 b n x)
      = k m c (ix5 b n ⟨x.val / 128, by omega⟩ ⟨x.val / 64 % 2, by omega⟩ ⟨x.val % 64, by omega⟩) := by
  unfold V
  simp only [hostOps0, hostOps0_1, hostOps0_2, hostOps0_3, hostOps0_4, hostOps0_5, hostOps0_6, hostOps0_7, hostOps0_8, List.flatten_cons, List.flatten_nil, List.cons_append, List.nil_append]
  after_reads_at

theorem keysMeta (n : Fin 128) (hn : n.val < 16) (x : Fin 1024) :
    (V m c main_v25 : S128x1024.Idx → EReal) (ix2 n x)
      = kMeta m c (ix4 ⟨n.val, hn⟩ ⟨x.val / 128, by omega⟩ ⟨x.val / 64 % 2, by omega⟩ ⟨x.val % 64, by omega⟩) := by
  unfold V
  simp only [hostOps0, hostOps0_1, hostOps0_2, hostOps0_3, hostOps0_4, hostOps0_5, hostOps0_6, hostOps0_7, hostOps0_8, List.flatten_cons, List.flatten_nil, List.cons_append, List.nil_append]
  after_reads_at
  exact dif_pos hn

theorem values (b : Fin 16) (h : Fin 8) (t : Fin 16) (e : Fin 128) (p : Fin 256) :
    (V m c main_v34 : S16x8x16x144x256.Idx → EReal) (ix5 b h t (e.castLE (by decide)) p)
      = v m c (ix4 b ⟨t.val * 256 + p.val, by omega⟩ h e) := by
  unfold V
  simp only [hostOps0, hostOps0_1, hostOps0_2, hostOps0_3, hostOps0_4, hostOps0_5, hostOps0_6, hostOps0_7, hostOps0_8, List.flatten_cons, List.flatten_nil, List.cons_append, List.nil_append]
  after_reads_at
  all_goals after_reads_simp
  all_goals pointwise
  exact dif_pos e.isLt

theorem valuesOne (b : Fin 16) (h : Fin 8) (t : Fin 16) (p : Fin 256) :
    (V m c main_v34 : S16x8x16x144x256.Idx → EReal) (ix5 b h t ⟨128, by decide⟩ p) = Ideal.ofBits .f32 0x3F800000#32 := by
  unfold V
  simp only [hostOps0, hostOps0_1, hostOps0_2, hostOps0_3, hostOps0_4, hostOps0_5, hostOps0_6, hostOps0_7, hostOps0_8, List.flatten_cons, List.flatten_nil, List.cons_append, List.nil_append]
  after_reads_at
  all_goals after_reads_simp
  all_goals try simp -implicitDefEqProofs only [StableHlo.TRef.toBuf, StableHlo.TRef.ofBuf, cast_cast, cast_eq]
  all_goals clean_types
  all_goals try simp only [id]
  all_goals pointwise

theorem valuesMeta (h : Fin 8) (e n : Fin 128) (hn : n.val < 16) :
    (V m c main_v43 : S8x144x128.Idx → EReal) (ix3 h (e.castLE (by decide)) n) = vMeta m c (ix3 ⟨n.val, hn⟩ h e) := by
  unfold V
  simp only [hostOps0, hostOps0_1, hostOps0_2, hostOps0_3, hostOps0_4, hostOps0_5, hostOps0_6, hostOps0_7, hostOps0_8, List.flatten_cons, List.flatten_nil, List.cons_append, List.nil_append]
  after_reads_at
  all_goals after_reads_simp
  all_goals pointwise
  refine (dif_pos e.isLt).trans ?_
  all_goals try simp -implicitDefEqProofs only [StableHlo.TRef.toBuf, StableHlo.TRef.ofBuf, cast_cast, cast_eq]
  all_goals clean_types
  pointwise
  exact dif_pos ⟨hn, e.isLt⟩

theorem valuesMetaOne (h : Fin 8) (n : Fin 128) :
    (V m c main_v43 : S8x144x128.Idx → EReal) (ix3 h ⟨128, by decide⟩ n) = Ideal.ofBits .f32 0x3F800000#32 := by
  unfold V
  simp only [hostOps0, hostOps0_1, hostOps0_2, hostOps0_3, hostOps0_4, hostOps0_5, hostOps0_6, hostOps0_7, hostOps0_8, List.flatten_cons, List.flatten_nil, List.cons_append, List.nil_append]
  after_reads_at
  all_goals after_reads_simp
  all_goals try simp -implicitDefEqProofs only [StableHlo.TRef.toBuf, StableHlo.TRef.ofBuf, cast_cast, cast_eq]
  all_goals clean_types
  all_goals try simp only [id]
  all_goals pointwise

theorem gates (b : Fin 16) (n : Fin 4096) (x : Fin 1024) :
    (V m c main_v13 : S16x4096x1024.Idx → EReal) (ix3 b n x)
      = Ideal.div (Ideal.ofBits .f32 0x3F800000#32) (Ideal.ofBits .f32 0x3F800000#32 + Ideal.exp (-gb m c (ix3 b n x)))
        * (norm m c (ix2 0 ⟨x.val % 128, by omega⟩) * Ideal.ofBits .f32 0x3F4CCCCD#32) := by
  unfold V
  simp only [hostOps0, hostOps0_1, hostOps0_2, hostOps0_3, hostOps0_4, hostOps0_5, hostOps0_6, hostOps0_7, hostOps0_8, List.flatten_cons, List.flatten_nil, List.cons_append, List.nil_append]
  after_reads_at

end Cert.KernelIdeal.Host
-- ==== Proof.Windows.lean ====
module

public import proofs.«01_k».proof.Proof.Host
public import proofs.«01_k».proof.Proof.Gen.KernelIdeal.Value
public import Idealize.ShloMosaic.Lib.Pipeline.ValueKit

/-!
# The blocks of a grid point

Which entries of the operands a grid point reads: the batch is its first coordinate, the tile of queries its third.
-/

@[expose] public section

set_option maxRecDepth 16384

noncomputable section

namespace Cert.KernelIdeal.Windows

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The batch of a grid point. -/
abbrev bat (t : Fin cfg0.N) : Fin 16 := grid0.coords t 0

/-- The tile of queries of a grid point. -/
abbrev til (t : Fin cfg0.N) : Fin 16 := grid0.coords t 2

theorem idx : ∀ t : Fin grid0.N,
    win0_0.index t = ![0, 0] ∧ win0_1.index t = ![0, 0] ∧ win0_2.index t = ![0, 0] ∧ win0_3.index t = ![0, 0]
    ∧ win0_4.index t = ![(grid0.coords t 0).val, 0, (grid0.coords t 2).val, 0, 0]
    ∧ win0_5.index t = ![(grid0.coords t 0).val, 0, 0]
    ∧ win0_6.index t = ![(grid0.coords t 0).val, 0, 0, 0, 0]
    ∧ win0_7.index t = ![0, 0] ∧ win0_8.index t = ![0, 0, 0]
    ∧ win0_9.index t = ![(grid0.coords t 0).val, (grid0.coords t 2).val, 0]
    ∧ win0_10.index t = ![(grid0.coords t 0).val, (grid0.coords t 2).val, 0]
    ∧ win0_11.index t = ![(grid0.coords t 0).val, (grid0.coords t 2).val, 0] := by
  decide +kernel

theorem blk0 (t : Fin cfg0.N) (y : S1x64.Idx) :
    (iblk m c 0 t : S1x64.Idx → EReal) y = (V m c main_arg5 : S1x64.Idx → EReal) y := by
  blk_ext [iblk, idx t]

theorem blk1 (t : Fin cfg0.N) (y : S1x64.Idx) :
    (iblk m c 1 t : S1x64.Idx → EReal) y = (V m c main_arg6 : S1x64.Idx → EReal) y := by
  blk_ext [iblk, idx t]

theorem blk2 (t : Fin cfg0.N) (y : S1x64.Idx) :
    (iblk m c 2 t : S1x64.Idx → EReal) y = (V m c main_arg7 : S1x64.Idx → EReal) y := by
  blk_ext [iblk, idx t]

theorem blk3 (t : Fin cfg0.N) (y : S1x64.Idx) :
    (iblk m c 3 t : S1x64.Idx → EReal) y = (V m c main_arg8 : S1x64.Idx → EReal) y := by
  blk_ext [iblk, idx t]

theorem blk4 (t : Fin cfg0.N) (h : Fin 8) (s : Fin 2) (d p : Fin 128) :
    (iblk m c 4 t : S1x8x2x128x128.Idx → EReal) (ix5 0 h s d p)
      = (V m c main_v20 : S16x8x32x128x128.Idx → EReal) (ix5 (bat t) h ⟨(til t).val * 2 + s.val, by omega⟩ d p) := by
  blk_ext [iblk, idx t, bat, til]

theorem blk5 (t : Fin cfg0.N) (p : Fin 4096) (x : Fin 1024) :
    (iblk m c 5 t : S1x4096x1024.Idx → EReal) (ix3 0 p x)
      = (V m c main_v22 : S16x4096x1024.Idx → EReal) (ix3 (bat t) p x) := by
  blk_ext [iblk, idx t, bat, til]

theorem blk6 (t : Fin cfg0.N) (h : Fin 8) (b : Fin 16) (e : Fin 144) (p : Fin 256) :
    (iblk m c 6 t : S1x8x16x144x256.Idx → EReal) (ix5 0 h b e p)
      = (V m c main_v34 : S16x8x16x144x256.Idx → EReal) (ix5 (bat t) h b e p) := by
  blk_ext [iblk, idx t, bat, til]

theorem blk7 (t : Fin cfg0.N) (n : Fin 128) (x : Fin 1024) :
    (iblk m c 7 t : S128x1024.Idx → EReal) (ix2 n x) = (V m c main_v25 : S128x1024.Idx → EReal) (ix2 n x) := by
  blk_ext [iblk, idx t]

theorem blk8 (t : Fin cfg0.N) (h : Fin 8) (e : Fin 144) (n : Fin 128) :
    (iblk m c 8 t : S8x144x128.Idx → EReal) (ix3 h e n) = (V m c main_v43 : S8x144x128.Idx → EReal) (ix3 h e n) := by
  blk_ext [iblk, idx t]

theorem blk9 (t : Fin cfg0.N) (r : Fin 256) (x : Fin 1024) :
    (iblk m c 9 t : S1x256x1024.Idx → EReal) (ix3 0 r x)
      = (V m c main_v13 : S16x4096x1024.Idx → EReal) (ix3 (bat t) ⟨(til t).val * 256 + r.val, by omega⟩ x) := by
  blk_ext [iblk, idx t, bat, til]

theorem blk10 (t : Fin cfg0.N) (r : Fin 256) (x : Fin 1024) :
    (iblk m c 10 t : S1x256x1024.Idx → EReal) (ix3 0 r x)
      = (V m c main_arg11 : S16x4096x1024.Idx → EReal) (ix3 (bat t) ⟨(til t).val * 256 + r.val, by omega⟩ x) := by
  blk_ext [iblk, idx t, bat, til]

/-- The result array is any function whose blocks the grid points write. -/
theorem final (f : S16x4096x1024.Idx → EReal)
    (h : ∀ (t : Fin cfg0.N) (r : Fin 256) (x : Fin 1024),
      (outsAt0 m c t : S1x256x1024.Idx → EReal) (ix3 0 r x)
        = f (ix3 (bat t) ⟨(til t).val * 256 + r.val, by omega⟩ x)) :
    ((dats m 0 c).arrAt 11 cfg0.N : S16x4096x1024.Idx → EReal) = f := by
  refine (dats m 0 c).arrAt_eq_of_covers 11 _ (by decide +kernel) fun t hf y => ?_
  blk_simp [idx t]
  rw [after0_11]
  change S1x256x1024.Idx at y
  obtain ⟨z, r, x, rfl⟩ : ∃ z r x, y = ix3 z r x := ⟨y 0, y 1, y 2, by funext a; fin_cases a <;> rfl⟩
  obtain rfl : z = 0 := Subsingleton.elim _ _
  refine (h t r x).trans (congrArg f ?_)
  blk_ext [idx t, bat, til]

end Cert.KernelIdeal.Windows
-- ==== Proof.Softmax.lean ====
module

public import Idealize.ShloMosaic.PureOps.Ideal.Laws
public import Mathlib.Analysis.SpecialFunctions.Pow.Real

/-!
# The running softmax of one query

One column of the attention call is one query of one of the two maps.  Its scores are a sequence
`S : ℕ → EReal` (the meta rows first, then the prompt's rows; a masked score is `⊥`), its values a
sequence `V`.  The kernel reads the keys block by block and keeps the greatest score so far and the
weighted sum of the values relative to it; this module says that one block moves the pair from `n`
keys to `n + N` keys, and that the pair at the end is the softmax of the reference, which takes all
the keys at once, in base `e`.
-/

@[expose] public section

namespace Cert.Softmax

open Idealize.ShloMosaic

/-- The greatest of the first `n` scores (`⊥` when there are none). -/
noncomputable def top (S : ℕ → EReal) (n : ℕ) : EReal := (Finset.range n).sup S

/-- The sum of the first `n` values, each weighted by two to its score less the greatest score. -/
noncomputable def acc (S V : ℕ → EReal) (n : ℕ) : EReal :=
  ∑ k ∈ Finset.range n, V k * Ideal.exp2 (S k - top S n)

theorem exp2_nonneg (x : EReal) : 0 ≤ Ideal.exp2 x := by
  induction x with
  | bot => simp
  | top => simp
  | coe r => rw [Ideal.exp2_coe]; exact_mod_cast (Real.rpow_pos_of_pos two_pos r).le

theorem exp2_ne_top {x : EReal} (h : x ≠ ⊤) : Ideal.exp2 x ≠ ⊤ := by
  induction x with
  | bot => simp
  | top => exact absurd rfl h
  | coe r => rw [Ideal.exp2_coe]; exact EReal.coe_ne_top _

theorem sub_coe_ne_top {x : EReal} (h : x ≠ ⊤) (r : ℝ) : x - (r : EReal) ≠ ⊤ := by
  induction x with
  | bot => rw [EReal.bot_sub]; exact bot_ne_top
  | top => exact absurd rfl h
  | coe s => rw [← EReal.coe_sub]; exact EReal.coe_ne_top _

/-- Two to a difference, moved from one base point to another. -/
theorem exp2_move {x : EReal} (h : x ≠ ⊤) (a b : ℝ) :
    Ideal.exp2 (x - a) * Ideal.exp2 ((a : EReal) - b) = Ideal.exp2 (x - b) := by
  induction x with
  | bot => simp [EReal.bot_sub]
  | top => exact absurd rfl h
  | coe r =>
    rw [← EReal.coe_sub, ← EReal.coe_sub, ← EReal.coe_sub, Ideal.exp2_coe, Ideal.exp2_coe, Ideal.exp2_coe,
      ← EReal.coe_mul]
    congr 1
    show (2 : ℝ) ^ (r - a) * (2 : ℝ) ^ (a - b) = (2 : ℝ) ^ (r - b)
    rw [← Real.rpow_add two_pos]
    congr 1
    ring

/-- A factor that is neither negative nor infinite passes into a finite sum. -/
theorem sum_mul {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- With one finite score among them and none `⊤`, the greatest score is finite. -/
theorem top_real {S : ℕ → EReal} (hS : ∀ k, S k ≠ ⊤) (h0 : S 0 ≠ ⊥) {n : ℕ} (hn : 0 < n) :
    ∃ r : ℝ, top S n = r := by
  have h1 : top S n ≠ ⊥ := fun h => h0 (le_bot_iff.1 (h ▸ Finset.le_sup (f := S) (Finset.mem_range.2 hn)))
  have h2 : top S n ≠ ⊤ := by
    refine ((Finset.sup_lt_iff bot_lt_top).2 fun k _ => lt_top_iff_ne_top.2 (hS k)).ne
  exact ⟨(top S n).toReal, (EReal.coe_toReal h2 h1).symm⟩

/-- The greatest score after `N` further keys. -/
theorem top_add (S : ℕ → EReal) (n N : ℕ) :
    max (top S n) (Finset.univ.sup fun i : Fin N => S (n + i)) = top S (n + N) := by
  apply le_antisymm
  · refine max_le (Finset.sup_mono (Finset.range_mono (Nat.le_add_right n N))) (Finset.sup_le fun i _ => ?_)
    exact Finset.le_sup (f := S) (Finset.mem_range.2 (Nat.add_lt_add_left i.isLt n))
  · refine Finset.sup_le fun k hk => ?_
    rw [Finset.mem_range] at hk
    by_cases h : k < n
    · exact le_max_of_le_left (Finset.le_sup (f := S) (Finset.mem_range.2 h))
    · refine le_max_of_le_right ?_
      have := Finset.le_sup (f := fun i : Fin N => S (n + i)) (Finset.mem_univ (⟨k - n, by omega⟩ : Fin N))
      simpa [Nat.add_sub_cancel' (not_lt.1 h)] using this

/-- The weighted sum after `N` further keys: the old one moved to the new greatest score, plus the
    block's own.  With no keys before, the old sum is empty whatever it is multiplied by. -/
theorem acc_add {S : ℕ → EReal} (V : ℕ → EReal) (hS : ∀ k, S k ≠ ⊤) (h0 : S 0 ≠ ⊥) (n N : ℕ) (hN : 0 < N) :
    acc S V n * Ideal.exp2 (top S n - top S (n + N))
      + ∑ i : Fin N, V (n + i) * Ideal.exp2 (S (n + i) - top S (n + N)) = acc S V (n + N) := by
  obtain ⟨b, hb⟩ := top_real hS h0 (n := n + N) (by omega)
  conv_rhs => rw [acc, Finset.sum_range_add, Finset.sum_range (fun i => V (n + i) * Ideal.exp2 (S (n + i) - top S (n + N)))]
  congr 1
  rcases Nat.eq_zero_or_pos n with rfl | hn
  · simp [acc]
  obtain ⟨a, ha⟩ := top_real hS h0 hn
  rw [acc, sum_mul _ _ (exp2_nonneg _) (exp2_ne_top (by rw [ha, hb]; exact sub_coe_ne_top (EReal.coe_ne_top a) b))]
  refine Finset.sum_congr rfl fun k _ => ?_
  rw [mul_assoc, ha, hb, exp2_move (hS k)]

/-! ### The end: base two and base `e` -/

/-- One over the logarithm of two: what a score is multiplied by to be read in base two. -/
noncomputable def invLog2 : ℝ := (Real.log 2)⁻¹

theorem invLog2_pos : 0 < invLog2 := inv_pos.2 (Real.log_pos one_lt_two)

theorem exp2_scaled {x : EReal} (h : x ≠ ⊤) (m : ℝ) :
    Ideal.exp2 (x * (invLog2 : EReal) - (m : EReal) * (invLog2 : EReal)) = Ideal.exp (x - m) := by
  induction x with
  | bot => rw [EReal.bot_mul_coe_of_pos invLog2_pos, ← EReal.coe_mul, EReal.bot_sub, EReal.bot_sub]; simp
  | top => exact absurd rfl h
  | coe r =>
    rw [← EReal.coe_mul, ← EReal.coe_mul, ← EReal.coe_sub, ← EReal.coe_sub, Ideal.exp2_coe, Ideal.exp_coe]
    congr 1
    show (2 : ℝ) ^ (r * invLog2 - m * invLog2) = Real.exp (r - m)
    rw [Real.rpow_def_of_pos two_pos]
    congr 1
    have : Real.log 2 ≠ 0 := (Real.log_pos one_lt_two).ne'
    rw [invLog2]
    field_simp

theorem top_scaled (R : ℕ → EReal) (n : ℕ) :
    top (fun k => R k * (invLog2 : EReal)) n = top R n * (invLog2 : EReal) := by
  have hmono : Monotone fun x : EReal => x * (invLog2 : EReal) := fun a b h =>
    mul_le_mul_of_nonneg_right h (by exact_mod_cast invLog2_pos.le)
  induction n with
  | zero => simp only [top, Finset.range_zero, Finset.sup_empty]; rw [EReal.bot_mul_coe_of_pos invLog2_pos]
  | succ n ih =>
    simp only [top, Finset.range_add_one, Finset.sup_insert] at ih ⊢
    rw [ih]
    exact (hmono.map_max).symm

/-- The softmax weight of key `k` among the first `N`, as the reference computes it. -/
noncomputable def weight (R : ℕ → EReal) (N k : ℕ) : EReal :=
  Ideal.div (Ideal.exp (R k - top R N)) (∑ l ∈ Finset.range N, Ideal.exp (R l - top R N))

/-- Past the last unmasked key nothing changes: neither the greatest score … -/
theorem top_mask {R : ℕ → EReal} {n N : ℕ} (h : n ≤ N) (hm : ∀ k, n ≤ k → R k = ⊥) : top R N = top R n := by
  apply le_antisymm
  · refine Finset.sup_le fun k _ => ?_
    by_cases hk : k < n
    · exact Finset.le_sup (f := R) (Finset.mem_range.2 hk)
    · rw [hm k (not_lt.1 hk)]; exact bot_le
  · exact Finset.sup_mono (Finset.range_mono h)

/-- … nor a sum weighted by the exponentials. -/
theorem sum_mask {R W : ℕ → EReal} {n N : ℕ} (h : n ≤ N) (hm : ∀ k, n ≤ k → R k = ⊥) (t : ℝ) :
    ∑ k ∈ Finset.range N, Ideal.exp (R k - t) * W k = ∑ k ∈ Finset.range n, Ideal.exp (R k - t) * W k := by
  refine (Finset.sum_subset (Finset.range_mono h) fun k _ hk => ?_).symm
  rw [hm k (not_lt.1 (by simpa using hk)), EReal.bot_sub]
  simp

theorem exp_nonneg (x : EReal) : 0 ≤ Ideal.exp x := by
  induction x with
  | bot => simp
  | top => simp
  | coe r => rw [Ideal.exp_coe]; exact_mod_cast (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

/-- The denominator of a softmax over scores that are not `⊤`, the first one finite, is a positive
    real number. -/
theorem denom_real {R : ℕ → EReal} (hR : ∀ k, R k ≠ ⊤) (h0 : R 0 ≠ ⊥) {n : ℕ} (hn : 0 < n) (t : ℝ) :
    ∃ d : ℝ, 0 < d ∧ ∑ l ∈ Finset.range n, Ideal.exp (R l - t) = d := by
  have hterm : ∀ k, ∃ r : ℝ, 0 ≤ r ∧ Ideal.exp (R k - t) = r := fun k =>
    ⟨(Ideal.exp (R k - t)).toReal, EReal.toReal_nonneg (exp_nonneg _),
      (EReal.coe_toReal (exp_ne_top (sub_coe_ne_top (hR k) t))
        (fun h => absurd (h ▸ exp_nonneg (R k - t)) (by simp))).symm⟩
  choose r hr0 hr using hterm
  refine ⟨∑ l ∈ Finset.range n, r l, ?_, ?_⟩
  · refine lt_of_lt_of_le ?_ (Finset.single_le_sum (f := r) (fun k _ => hr0 k) (Finset.mem_range.2 hn))
    refine lt_of_le_of_ne (hr0 0) fun h => ?_
    have h1 := hr 0
    rw [← h] at h1
    lift R 0 to ℝ using ⟨hR 0, h0⟩ with x
    rw [← EReal.coe_sub, Ideal.exp_coe] at h1
    exact (Real.exp_pos _).ne' (by exact_mod_cast h1)
  · have : ∀ m, ∑ l ∈ Finset.range m, Ideal.exp (R l - t) = ((∑ l ∈ Finset.range m, r l : ℝ) : EReal) := fun m => by
      induction m with
      | zero => simp
      | succ m ih => rw [Finset.sum_range_succ, Finset.sum_range_succ, ih, hr, EReal.coe_add]
    exact this n

/-- What the kernel holds after the first `n` keys, divided by its own sum of weights, is the
    reference's softmax over all `N` keys applied to the values, when the keys from `n` on are masked
    and the kernel's scores are the reference's in base two. -/
theorem acc_div {R V : ℕ → EReal} (hR : ∀ k, R k ≠ ⊤) (h0 : R 0 ≠ ⊥) {n N : ℕ} (hn : 0 < n) (h : n ≤ N)
    (hm : ∀ k, n ≤ k → R k = ⊥) :
    acc (fun k => R k * (invLog2 : EReal)) V n
        * Ideal.div 1 (acc (fun k => R k * (invLog2 : EReal)) (fun _ => 1) n)
      = ∑ k ∈ Finset.range N, weight R N k * V k := by
  obtain ⟨t, ht⟩ := top_real hR h0 hn
  have hacc : ∀ W : ℕ → EReal, acc (fun k => R k * (invLog2 : EReal)) W n
      = ∑ k ∈ Finset.range n, Ideal.exp (R k - t) * W k := fun W => by
    rw [acc]
    refine Finset.sum_congr rfl fun k _ => ?_
    rw [top_scaled, ht, exp2_scaled (hR k), mul_comm]
  obtain ⟨d, hd, hsum⟩ := denom_real hR h0 hn t
  have hsum' : ∑ l ∈ Finset.range N, Ideal.exp (R l - t) = d := by
    have := sum_mask (W := fun _ => 1) h hm t
    simp only [mul_one] at this
    rw [this, hsum]
  have hinv : (0 : EReal) ≤ ((1 / d : ℝ) : EReal) := by exact_mod_cast (one_div_pos.2 hd).le
  rw [hacc, hacc]
  simp only [mul_one]
  rw [hsum, Ideal.div_coe hd.ne', one_mul, ← sum_mask h hm, sum_mul _ _ hinv (EReal.coe_ne_top _)]
  refine Finset.sum_congr rfl fun k _ => ?_
  rw [weight, top_mask h hm, ht, hsum', Ideal.div_coe hd.ne', mul_right_comm]

end Cert.Softmax
-- ==== Proof.Block.lean ====
module

public import proofs.«01_k».proof.Proof.Gen.KernelIdeal.Skeleton
public import proofs.«01_k».proof.Proof.Softmax
public import Idealize.ShloMosaic.Lib.Pointwise
public import Idealize.ShloMosaic.Lib.WordCmp

/-!
# One unit and one block of keys

The kernel body works on sixteen units (eight heads, two halves of the block of queries), and on each
unit with the keys in blocks: the meta rows, then blocks of 256 prompt keys, then the block on the
diagonal, of 128 or 256 keys with a causal mask.  What it does with one block is the same each time:
the scores of the block's keys against the unit's queries, the new greatest score of each column, and
the new weighted sum.  This module states these operations as functions of the block's scores and
values and reads them one element at a time over the extended reals.
-/

@[expose] public section

set_option maxRecDepth 16384

noncomputable section

namespace Cert.KernelIdeal.Block

open Cert.KernelIdeal Cert.KernelIdeal.Gen
open Idealize.ShloMosaic

variable {F : FTy → Type} [FloatOps F]

/-- The greatest score of each column so far, after a block with scores `s`. -/
def newTop {n : ℕ} (hr : Shape.Reduces ⟨2, ![n, 256]⟩ [0] S256) (s : FVec F ⟨2, ![n, 256]⟩ .f32)
    (m : Vec F S1x1x256 .f32) : FVec F S1x256 .f32 :=
  maximumf (shapeCast S1x256 m shapeCasts_S1x1x256_S1x256)
    (shapeCast S1x256 (multiReduction .maximumf [0] S256 s 0xFF800000#32 hr (.inl rfl) rfl) shapeCasts_S256_S1x256)

/-- The factor that moves the old sum to the new greatest score. -/
def moved {n : ℕ} (hr : Shape.Reduces ⟨2, ![n, 256]⟩ [0] S256) (s : FVec F ⟨2, ![n, 256]⟩ .f32)
    (m : Vec F S1x1x256 .f32) : FVec F S1x256 .f32 :=
  exp2 (subf (shapeCast S1x256 m shapeCasts_S1x1x256_S1x256) (newTop hr s m))

/-- The weights of the block's keys. -/
def weights {n : ℕ} (hr : Shape.Reduces ⟨2, ![n, 256]⟩ [0] S256) (hb : S1x256.Broadcasts ⟨2, ![n, 256]⟩)
    (s : FVec F ⟨2, ![n, 256]⟩ .f32) (m : Vec F S1x1x256 .f32) : FVec F ⟨2, ![n, 256]⟩ .bf16 :=
  truncf .bf16 (exp2 (subf s (broadcastTo ⟨2, ![n, 256]⟩ (newTop hr s m) hb))) bitsLt_bf16_f32

/-- The weighted sum after the block. -/
def newSum {n : ℕ} (d : DotDims ⟨2, ![144, n]⟩ ⟨2, ![n, 256]⟩ S144x256) (v : FVec F ⟨2, ![144, n]⟩ .bf16)
    (al : FVec F S1x256 .f32) (p : FVec F ⟨2, ![n, 256]⟩ .bf16) (a : Vec F S1x144x256 .f32) :
    FVec F S1x144x256 .f32 :=
  shapeCast S1x144x256
    (addf (mulf (shapeCast S144x256 a shapeCasts_S1x144x256_S144x256) (broadcastTo S144x256 al broadcasts_S1x256_S144x256))
      (matmul d none v p (constant S144x256 .f32 0x00000000#32))) shapeCasts_S144x256_S1x144x256

/-- The greatest scores as they are stored. -/
def storeTop (m : FVec F S1x256 .f32) : FVec F S1x1x256 .f32 := shapeCast S1x1x256 m shapeCasts_S1x256_S1x1x256

/-- The scores of a block of keys against a unit's queries. -/
def scores {n : ℕ} (d : DotDims ⟨2, ![n, 128]⟩ S128x256 ⟨2, ![n, 256]⟩) (kb : FVec F ⟨2, ![n, 128]⟩ .bf16)
    (q : Vec F S1x128x256 .bf16) : FVec F ⟨2, ![n, 256]⟩ .f32 :=
  matmul d none kb (shapeCast S128x256 q shapeCasts_S1x128x256_S128x256) (constant ⟨2, ![n, 256]⟩ .f32 0x00000000#32)

theorem fold_max (n : ℕ) (f : Fin n → EReal) :
    Finset.univ.fold max (Ideal.ofBits .f32 0xFF800000#32) f = Finset.univ.sup f := by
  have : Ideal.ofBits .f32 0xFF800000#32 = ⊥ := by decide +kernel
  rw [this]; rfl

/-- The greatest score after a block of 16 keys. -/
theorem top_step16 (hr) (s : FVec Ideal ⟨2, ![16, 256]⟩ .f32) (m : Vec Ideal S1x1x256 .f32) (S : ℕ → EReal) (n : ℕ)
    (j : Fin 256) (hs : ∀ k : Fin 16, s (ix2 k j) = S (n + k)) (hm : m (ix3 0 0 j) = Softmax.top S n) :
    storeTop (F := Ideal) (newTop (n := 16) hr s m) (ix3 0 0 j) = Softmax.top S (n + 16) := by
  rw [← Softmax.top_add, ← hm]
  simp only [← hs, ← fold_max]
  unfold storeTop newTop
  pointwise

/-- The weighted sum after a block of 16 keys. -/
theorem sum_step16 (hr hb) (s : FVec Ideal ⟨2, ![16, 256]⟩ .f32) (m : Vec Ideal S1x1x256 .f32)
    (v : FVec Ideal ⟨2, ![144, 16]⟩ .bf16) (a : Vec Ideal S1x144x256 .f32) (S V : ℕ → EReal)
    (hS : ∀ k, S k ≠ ⊤) (h0 : S 0 ≠ ⊥) (n : ℕ) (e : Fin 144)
    (j : Fin 256) (hs : ∀ k : Fin 16, s (ix2 k j) = S (n + k)) (hm : m (ix3 0 0 j) = Softmax.top S n)
    (hv : ∀ k : Fin 16, v (ix2 e k) = V (n + k)) (ha : a (ix3 0 e j) = Softmax.acc S V n) :
    newSum (F := Ideal) (n := 16) dot_S144x16_S16x256_S144x256_1_0_0_1_n_n v (moved hr s m) (weights hr hb s m) a (ix3 0 e j)
      = Softmax.acc S V (n + 16) := by
  rw [← Softmax.acc_add V hS h0 n 16 (by norm_num), ← ha, ← Softmax.top_add, ← hm]
  simp only [← hs, ← hv, ← fold_max]
  unfold newSum moved weights newTop
  pointwise
  rfl

/-- The scores of a block of 16 keys. -/
theorem scores16 (kb : FVec Ideal ⟨2, ![16, 128]⟩ .bf16) (q : Vec Ideal S1x128x256 .bf16) (k : Fin 16) (j : Fin 256) :
    scores (F := Ideal) (n := 16) dot_S16x128_S128x256_S16x256_1_0_0_1_n_n kb q (ix2 k j) = ∑ d : Fin 128, kb (ix2 k d) * q (ix3 0 d j) := by
  unfold scores
  pointwise

/-- The greatest score after a block of 128 keys. -/
theorem top_step128 (hr) (s : FVec Ideal ⟨2, ![128, 256]⟩ .f32) (m : Vec Ideal S1x1x256 .f32) (S : ℕ → EReal) (n : ℕ)
    (j : Fin 256) (hs : ∀ k : Fin 128, s (ix2 k j) = S (n + k)) (hm : m (ix3 0 0 j) = Softmax.top S n) :
    storeTop (F := Ideal) (newTop (n := 128) hr s m) (ix3 0 0 j) = Softmax.top S (n + 128) := by
  rw [← Softmax.top_add, ← hm]
  simp only [← hs, ← fold_max]
  unfold storeTop newTop
  pointwise

/-- The weighted sum after a block of 128 keys. -/
theorem sum_step128 (hr hb) (s : FVec Ideal ⟨2, ![128, 256]⟩ .f32) (m : Vec Ideal S1x1x256 .f32)
    (v : FVec Ideal ⟨2, ![144, 128]⟩ .bf16) (a : Vec Ideal S1x144x256 .f32) (S V : ℕ → EReal)
    (hS : ∀ k, S k ≠ ⊤) (h0 : S 0 ≠ ⊥) (n : ℕ) (e : Fin 144)
    (j : Fin 256) (hs : ∀ k : Fin 128, s (ix2 k j) = S (n + k)) (hm : m (ix3 0 0 j) = Softmax.top S n)
    (hv : ∀ k : Fin 128, v (ix2 e k) = V (n + k)) (ha : a (ix3 0 e j) = Softmax.acc S V n) :
    newSum (F := Ideal) (n := 128) dot_S144x128_S128x256_S144x256_1_0_0_1_n_n v (moved hr s m) (weights hr hb s m) a (ix3 0 e j)
      = Softmax.acc S V (n + 128) := by
  rw [← Softmax.acc_add V hS h0 n 128 (by norm_num), ← ha, ← Softmax.top_add, ← hm]
  simp only [← hs, ← hv, ← fold_max]
  unfold newSum moved weights newTop
  pointwise
  rfl

/-- The scores of a block of 128 keys. -/
theorem scores128 (kb : FVec Ideal ⟨2, ![128, 128]⟩ .bf16) (q : Vec Ideal S1x128x256 .bf16) (k : Fin 128) (j : Fin 256) :
    scores (F := Ideal) (n := 128) dot_S128x128_S128x256_S128x256_1_0_0_1_n_n kb q (ix2 k j) = ∑ d : Fin 128, kb (ix2 k d) * q (ix3 0 d j) := by
  unfold scores
  pointwise

/-- The greatest score after a block of 256 keys. -/
theorem top_step256 (hr) (s : FVec Ideal ⟨2, ![256, 256]⟩ .f32) (m : Vec Ideal S1x1x256 .f32) (S : ℕ → EReal) (n : ℕ)
    (j : Fin 256) (hs : ∀ k : Fin 256, s (ix2 k j) = S (n + k)) (hm : m (ix3 0 0 j) = Softmax.top S n) :
    storeTop (F := Ideal) (newTop (n := 256) hr s m) (ix3 0 0 j) = Softmax.top S (n + 256) := by
  rw [← Softmax.top_add, ← hm]
  simp only [← hs, ← fold_max]
  unfold storeTop newTop
  pointwise

/-- The weighted sum after a block of 256 keys. -/
theorem sum_step256 (hr hb) (s : FVec Ideal ⟨2, ![256, 256]⟩ .f32) (m : Vec Ideal S1x1x256 .f32)
    (v : FVec Ideal ⟨2, ![144, 256]⟩ .bf16) (a : Vec Ideal S1x144x256 .f32) (S V : ℕ → EReal)
    (hS : ∀ k, S k ≠ ⊤) (h0 : S 0 ≠ ⊥) (n : ℕ) (e : Fin 144)
    (j : Fin 256) (hs : ∀ k : Fin 256, s (ix2 k j) = S (n + k)) (hm : m (ix3 0 0 j) = Softmax.top S n)
    (hv : ∀ k : Fin 256, v (ix2 e k) = V (n + k)) (ha : a (ix3 0 e j) = Softmax.acc S V n) :
    newSum (F := Ideal) (n := 256) dot_S144x256_S256x256_S144x256_1_0_0_1_n_n v (moved hr s m) (weights hr hb s m) a (ix3 0 e j)
      = Softmax.acc S V (n + 256) := by
  rw [← Softmax.acc_add V hS h0 n 256 (by norm_num), ← ha, ← Softmax.top_add, ← hm]
  simp only [← hs, ← hv, ← fold_max]
  unfold newSum moved weights newTop
  pointwise
  rfl

/-- The scores of a block of 256 keys. -/
theorem scores256 (kb : FVec Ideal ⟨2, ![256, 128]⟩ .bf16) (q : Vec Ideal S1x128x256 .bf16) (k : Fin 256) (j : Fin 256) :
    scores (F := Ideal) (n := 256) dot_S256x128_S128x256_S256x256_1_0_0_1_n_n kb q (ix2 k j) = ∑ d : Fin 128, kb (ix2 k d) * q (ix3 0 d j) := by
  unfold scores
  pointwise

/-- The greatest scores after one block of 256 keys, from the block of keys as it is loaded. -/
def tripTop (kb : Vec F S1x256x128 .bf16) (q : Vec F S1x128x256 .bf16) (m : Vec F S1x1x256 .f32) : FVec F S1x1x256 .f32 :=
  storeTop (newTop (n := 256) reduces_S256x256_S256
    (scores (n := 256) dot_S256x128_S128x256_S256x256_1_0_0_1_n_n (shapeCast S256x128 kb shapeCasts_S1x256x128_S256x128) q) m)

/-- The weighted sum after one block of 256 keys, from the blocks of keys and values as they are loaded. -/
def tripSum (kb : Vec F S1x256x128 .bf16) (q : Vec F S1x128x256 .bf16) (vb : Vec F S1x1x1x144x256 .bf16)
    (m : Vec F S1x1x256 .f32) (a : Vec F S1x144x256 .f32) : FVec F S1x144x256 .f32 :=
  let s := scores (n := 256) dot_S256x128_S128x256_S256x256_1_0_0_1_n_n (shapeCast S256x128 kb shapeCasts_S1x256x128_S256x128) q
  newSum (n := 256) dot_S144x256_S256x256_S144x256_1_0_0_1_n_n (shapeCast S144x256 vb shapeCasts_S1x1x1x144x256_S144x256)
    (moved reduces_S256x256_S256 s m) (weights reduces_S256x256_S256 broadcasts_S1x256_S256x256 s m) a

theorem tripTop_apply (kb : Vec Ideal S1x256x128 .bf16) (q : Vec Ideal S1x128x256 .bf16) (m : Vec Ideal S1x1x256 .f32)
    (S : ℕ → EReal) (n : ℕ) (j : Fin 256)
    (hs : ∀ k : Fin 256, ∑ d : Fin 128, kb (ix3 0 k d) * q (ix3 0 d j) = S (n + k))
    (hm : m (ix3 0 0 j) = Softmax.top S n) : tripTop (F := Ideal) kb q m (ix3 0 0 j) = Softmax.top S (n + 256) := by
  refine top_step256 _ _ _ S n j (fun k => ?_) hm
  rw [scores256, ← hs]
  pointwise

theorem tripSum_apply (kb : Vec Ideal S1x256x128 .bf16) (q : Vec Ideal S1x128x256 .bf16) (vb : Vec Ideal S1x1x1x144x256 .bf16)
    (m : Vec Ideal S1x1x256 .f32) (a : Vec Ideal S1x144x256 .f32) (S V : ℕ → EReal) (hS : ∀ k, S k ≠ ⊤) (h0 : S 0 ≠ ⊥)
    (n : ℕ) (e : Fin 144) (j : Fin 256)
    (hs : ∀ k : Fin 256, ∑ d : Fin 128, kb (ix3 0 k d) * q (ix3 0 d j) = S (n + k))
    (hv : ∀ k : Fin 256, vb (ix5 0 0 0 e k) = V (n + k))
    (hm : m (ix3 0 0 j) = Softmax.top S n) (ha : a (ix3 0 e j) = Softmax.acc S V n) :
    tripSum (F := Ideal) kb q vb m a (ix3 0 e j) = Softmax.acc S V (n + 256) := by
  refine sum_step256 _ _ _ _ _ _ S V hS h0 n e j (fun k => ?_) hm (fun k => ?_) ha
  · rw [scores256, ← hs]
    pointwise
  · rw [← hv]
    pointwise

/-- The queries of a unit laid out for the two halves of the head at once: the first 128 columns keep the first 64
features, the last 128 columns the last 64. -/
def spread (x : Vec F S1x1x1x128x128 .bf16) : FVec F S1x128x256 .bf16 :=
  shapeCast S1x128x256
    (select (xori (xori (cmpi .slt (iota .tc S128x256 32 [0] iota_S128x256_d0_w32) (broadcast S128x256 64#32))
        (cmpi .slt (iota .tc S128x256 32 [1] iota_S128x256_d1_w32) (broadcast S128x256 128#32))) (constantI S128x256 1 1#1))
      (concatenate S128x256 1 [⟨S128x128, shapeCast S128x128 x shapeCasts_S1x1x1x128x128_S128x128⟩,
        ⟨S128x128, shapeCast S128x128 x shapeCasts_S1x1x1x128x128_S128x128⟩] concatenates_S128x128_S128x128_S128x256_d1)
      (broadcast S128x256 (Scalar.ofBits .bf16 0x0000#16 : F .bf16))) shapeCasts_S128x256_S1x128x256

theorem spread_apply (x : Vec Ideal S1x1x1x128x128 .bf16) (d : Fin 128) (j : Fin 256) :
    spread (F := Ideal) x (ix3 0 d j)
      = if d.val < 64 ↔ j.val < 128 then x (ix5 0 0 0 d ⟨j.val % 128, Nat.mod_lt _ (by norm_num)⟩) else 0 := by
  have hx : (if h : j.val < 128 then x (ix5 0 0 0 d ⟨j.val, h⟩) else x (ix5 0 0 0 d ⟨j.val - 128, by omega⟩))
      = x (ix5 0 0 0 d ⟨j.val % 128, Nat.mod_lt _ (by norm_num)⟩) := by
    split
    · congr 2; exact Fin.ext (by simp; omega)
    · congr 2; exact Fin.ext (by simp; omega)
  unfold spread
  pointwise
  rw [hx, WordCmp.cmpi_slt_ofNat (by omega) (by omega), WordCmp.cmpi_slt_ofNat (by omega) (by omega)]
  by_cases h1 : d.val < 64 <;> by_cases h2 : j.val < 128 <;> simp [h1, h2, Scalar.select, IntOp.xori]

/-- A block's scores with the keys after the query of a column masked. -/
def masked {n : ℕ} (h0 : Shape.Iotas ⟨2, ![n, 256]⟩ .tc 32 [0]) (h1 : Shape.Iotas ⟨2, ![n, 256]⟩ .tc 32 [1])
    (lo : BitVec 32) (s : FVec F ⟨2, ![n, 256]⟩ .f32) : FVec F ⟨2, ![n, 256]⟩ .f32 :=
  select (cmpi .sle (iota .tc ⟨2, ![n, 256]⟩ 32 [0] h0)
      (addi (andi (iota .tc ⟨2, ![n, 256]⟩ 32 [1] h1) (broadcast ⟨2, ![n, 256]⟩ 127#32)) (broadcast ⟨2, ![n, 256]⟩ lo)))
    s (broadcast ⟨2, ![n, 256]⟩ (Scalar.ofBits .f32 0xFF800000#32 : F .f32))

/-- The place of a column's query within its half of the block. -/
theorem lane_word : ∀ j : Fin 256, IntOp.andi (BitVec.ofNat 32 j.val) 127#32 = BitVec.ofNat 32 (j.val % 128) := by
  decide +kernel

theorem bot_word : Ideal.ofBits .f32 0xFF800000#32 = ⊥ := by decide +kernel

theorem masked128 (h0 h1) (s : FVec Ideal ⟨2, ![128, 256]⟩ .f32) (k : Fin 128) (j : Fin 256) :
    masked (F := Ideal) (n := 128) h0 h1 0#32 s (ix2 k j) = if k.val ≤ j.val % 128 then s (ix2 k j) else ⊥ := by
  unfold masked
  pointwise
  rw [lane_word, bot_word, show IntOp.addi (BitVec.ofNat 32 (j.val % 128)) 0#32 = BitVec.ofNat 32 (j.val % 128) from BitVec.add_zero _,
    WordCmp.cmpi_sle_ofNat (by omega) (by omega)]
  by_cases h : k.val ≤ j.val % 128 <;> simp [h, Scalar.select]

theorem masked256 (h0 h1) (s : FVec Ideal ⟨2, ![256, 256]⟩ .f32) (k : Fin 256) (j : Fin 256) :
    masked (F := Ideal) (n := 256) h0 h1 128#32 s (ix2 k j) = if k.val ≤ j.val % 128 + 128 then s (ix2 k j) else ⊥ := by
  unfold masked
  pointwise
  rw [lane_word, bot_word, show IntOp.addi (BitVec.ofNat 32 (j.val % 128)) 128#32 = BitVec.ofNat 32 (j.val % 128 + 128) from
    (BitVec.ofNat_add ..).symm, WordCmp.cmpi_sle_ofNat (by omega) (by omega)]
  by_cases h : k.val ≤ j.val % 128 + 128 <;> simp [h, Scalar.select]

/-- The greatest scores after the meta rows, from the keys as they are loaded. -/
def metaTop (kb : Vec F S16x128 .bf16) (q : Vec F S1x128x256 .bf16) (m : Vec F S1x1x256 .f32) : FVec F S1x1x256 .f32 :=
  storeTop (newTop (n := 16) reduces_S16x256_S256
    (scores (n := 16) dot_S16x128_S128x256_S16x256_1_0_0_1_n_n (shapeCast S16x128 kb shapeCasts_S16x128_S16x128) q) m)

/-- The weighted sum after the meta rows, from the keys and values as they are loaded. -/
def metaSum (kb : Vec F S16x128 .bf16) (q : Vec F S1x128x256 .bf16) (vb : Vec F S1x144x128 .bf16)
    (m : Vec F S1x1x256 .f32) (a : Vec F S1x144x256 .f32) : FVec F S1x144x256 .f32 :=
  let s := scores (n := 16) dot_S16x128_S128x256_S16x256_1_0_0_1_n_n (shapeCast S16x128 kb shapeCasts_S16x128_S16x128) q
  newSum (n := 16) dot_S144x16_S16x256_S144x256_1_0_0_1_n_n
    (extractStridedSlice S144x16 ![0, 0] (shapeCast S144x128 vb shapeCasts_S1x144x128_S144x128) slices_S144x128_o0_0_S144x16)
    (moved reduces_S16x256_S256 s m) (weights reduces_S16x256_S256 broadcasts_S1x256_S16x256 s m) a

theorem metaTop_apply (kb : Vec Ideal S16x128 .bf16) (q : Vec Ideal S1x128x256 .bf16) (m : Vec Ideal S1x1x256 .f32)
    (S : ℕ → EReal) (n : ℕ) (j : Fin 256)
    (hs : ∀ k : Fin 16, ∑ d : Fin 128, kb (ix2 k d) * q (ix3 0 d j) = S (n + k))
    (hm : m (ix3 0 0 j) = Softmax.top S n) : metaTop (F := Ideal) kb q m (ix3 0 0 j) = Softmax.top S (n + 16) := by
  refine top_step16 _ _ _ S n j (fun k => ?_) hm
  rw [scores16, ← hs]
  pointwise

theorem metaSum_apply (kb : Vec Ideal S16x128 .bf16) (q : Vec Ideal S1x128x256 .bf16) (vb : Vec Ideal S1x144x128 .bf16)
    (m : Vec Ideal S1x1x256 .f32) (a : Vec Ideal S1x144x256 .f32) (S V : ℕ → EReal) (hS : ∀ k, S k ≠ ⊤) (h0 : S 0 ≠ ⊥)
    (n : ℕ) (e : Fin 144) (j : Fin 256)
    (hs : ∀ k : Fin 16, ∑ d : Fin 128, kb (ix2 k d) * q (ix3 0 d j) = S (n + k))
    (hv : ∀ k : Fin 16, vb (ix3 0 e (k.castLE (by norm_num))) = V (n + k))
    (hm : m (ix3 0 0 j) = Softmax.top S n) (ha : a (ix3 0 e j) = Softmax.acc S V n) :
    metaSum (F := Ideal) kb q vb m a (ix3 0 e j) = Softmax.acc S V (n + 16) := by
  refine sum_step16 _ _ _ _ _ _ S V hS h0 n e j (fun k => ?_) hm (fun k => ?_) ha
  · rw [scores16, ← hs]
    pointwise
  · rw [← hv]
    pointwise
    rfl

/-- The greatest scores after the masked block of 128 keys on the diagonal. -/
def diagTop128 (kb : Vec F S1x128x128 .bf16) (q : Vec F S1x128x256 .bf16) (m : Vec F S1x1x256 .f32) : FVec F S1x1x256 .f32 :=
  storeTop (newTop (n := 128) reduces_S128x256_S256 (masked (n := 128) iota_S128x256_d0_w32 iota_S128x256_d1_w32 0#32
    (scores (n := 128) dot_S128x128_S128x256_S128x256_1_0_0_1_n_n (shapeCast S128x128 kb shapeCasts_S1x128x128_S128x128) q)) m)

/-- The weighted sum after the masked block of 128 keys on the diagonal. -/
def diagSum128 (kb : Vec F S1x128x128 .bf16) (q : Vec F S1x128x256 .bf16) (vb : Vec F S1x1x1x144x256 .bf16)
    (m : Vec F S1x1x256 .f32) (a : Vec F S1x144x256 .f32) : FVec F S1x144x256 .f32 :=
  let s := masked (n := 128) iota_S128x256_d0_w32 iota_S128x256_d1_w32 0#32
    (scores (n := 128) dot_S128x128_S128x256_S128x256_1_0_0_1_n_n (shapeCast S128x128 kb shapeCasts_S1x128x128_S128x128) q)
  newSum (n := 128) dot_S144x128_S128x256_S144x256_1_0_0_1_n_n
    (extractStridedSlice S144x128 ![0, 0] (shapeCast S144x256 vb shapeCasts_S1x1x1x144x256_S144x256) slices_S144x256_o0_0_S144x128)
    (moved reduces_S128x256_S256 s m) (weights reduces_S128x256_S256 broadcasts_S1x256_S128x256 s m) a

theorem diagTop128_apply (kb : Vec Ideal S1x128x128 .bf16) (q : Vec Ideal S1x128x256 .bf16) (m : Vec Ideal S1x1x256 .f32)
    (S : ℕ → EReal) (n : ℕ) (j : Fin 256)
    (hs : ∀ k : Fin 128, (if k.val ≤ j.val % 128 then ∑ d : Fin 128, kb (ix3 0 k d) * q (ix3 0 d j) else ⊥) = S (n + k))
    (hm : m (ix3 0 0 j) = Softmax.top S n) : diagTop128 (F := Ideal) kb q m (ix3 0 0 j) = Softmax.top S (n + 128) := by
  refine top_step128 _ _ _ S n j (fun k => ?_) hm
  rw [masked128, scores128, ← hs]
  pointwise

theorem diagSum128_apply (kb : Vec Ideal S1x128x128 .bf16) (q : Vec Ideal S1x128x256 .bf16) (vb : Vec Ideal S1x1x1x144x256 .bf16)
    (m : Vec Ideal S1x1x256 .f32) (a : Vec Ideal S1x144x256 .f32) (S V : ℕ → EReal) (hS : ∀ k, S k ≠ ⊤) (h0 : S 0 ≠ ⊥)
    (n : ℕ) (e : Fin 144) (j : Fin 256)
    (hs : ∀ k : Fin 128, (if k.val ≤ j.val % 128 then ∑ d : Fin 128, kb (ix3 0 k d) * q (ix3 0 d j) else ⊥) = S (n + k))
    (hv : ∀ k : Fin 128, vb (ix5 0 0 0 e (k.castLE (by norm_num))) = V (n + k))
    (hm : m (ix3 0 0 j) = Softmax.top S n) (ha : a (ix3 0 e j) = Softmax.acc S V n) :
    diagSum128 (F := Ideal) kb q vb m a (ix3 0 e j) = Softmax.acc S V (n + 128) := by
  refine sum_step128 _ _ _ _ _ _ S V hS h0 n e j (fun k => ?_) hm (fun k => ?_) ha
  · rw [masked128, scores128, ← hs]
    pointwise
  · rw [← hv]
    pointwise
    rfl

/-- The greatest scores after the masked block of 256 keys on the diagonal. -/
def diagTop256 (kb : Vec F S1x256x128 .bf16) (q : Vec F S1x128x256 .bf16) (m : Vec F S1x1x256 .f32) : FVec F S1x1x256 .f32 :=
  storeTop (newTop (n := 256) reduces_S256x256_S256 (masked (n := 256) iota_S256x256_d0_w32 iota_S256x256_d1_w32 128#32
    (scores (n := 256) dot_S256x128_S128x256_S256x256_1_0_0_1_n_n (shapeCast S256x128 kb shapeCasts_S1x256x128_S256x128) q)) m)

/-- The weighted sum after the masked block of 256 keys on the diagonal. -/
def diagSum256 (kb : Vec F S1x256x128 .bf16) (q : Vec F S1x128x256 .bf16) (vb : Vec F S1x1x1x144x256 .bf16)
    (m : Vec F S1x1x256 .f32) (a : Vec F S1x144x256 .f32) : FVec F S1x144x256 .f32 :=
  let s := masked (n := 256) iota_S256x256_d0_w32 iota_S256x256_d1_w32 128#32
    (scores (n := 256) dot_S256x128_S128x256_S256x256_1_0_0_1_n_n (shapeCast S256x128 kb shapeCasts_S1x256x128_S256x128) q)
  newSum (n := 256) dot_S144x256_S256x256_S144x256_1_0_0_1_n_n (shapeCast S144x256 vb shapeCasts_S1x1x1x144x256_S144x256)
    (moved reduces_S256x256_S256 s m) (weights reduces_S256x256_S256 broadcasts_S1x256_S256x256 s m) a

theorem diagTop256_apply (kb : Vec Ideal S1x256x128 .bf16) (q : Vec Ideal S1x128x256 .bf16) (m : Vec Ideal S1x1x256 .f32)
    (S : ℕ → EReal) (n : ℕ) (j : Fin 256)
    (hs : ∀ k : Fin 256, (if k.val ≤ j.val % 128 + 128 then ∑ d : Fin 128, kb (ix3 0 k d) * q (ix3 0 d j) else ⊥) = S (n + k))
    (hm : m (ix3 0 0 j) = Softmax.top S n) : diagTop256 (F := Ideal) kb q m (ix3 0 0 j) = Softmax.top S (n + 256) := by
  refine top_step256 _ _ _ S n j (fun k => ?_) hm
  rw [masked256, scores256, ← hs]
  pointwise

theorem diagSum256_apply (kb : Vec Ideal S1x256x128 .bf16) (q : Vec Ideal S1x128x256 .bf16) (vb : Vec Ideal S1x1x1x144x256 .bf16)
    (m : Vec Ideal S1x1x256 .f32) (a : Vec Ideal S1x144x256 .f32) (S V : ℕ → EReal) (hS : ∀ k, S k ≠ ⊤) (h0 : S 0 ≠ ⊥)
    (n : ℕ) (e : Fin 144) (j : Fin 256)
    (hs : ∀ k : Fin 256, (if k.val ≤ j.val % 128 + 128 then ∑ d : Fin 128, kb (ix3 0 k d) * q (ix3 0 d j) else ⊥) = S (n + k))
    (hv : ∀ k : Fin 256, vb (ix5 0 0 0 e k) = V (n + k))
    (hm : m (ix3 0 0 j) = Softmax.top S n) (ha : a (ix3 0 e j) = Softmax.acc S V n) :
    diagSum256 (F := Ideal) kb q vb m a (ix3 0 e j) = Softmax.acc S V (n + 256) := by
  refine sum_step256 _ _ _ _ _ _ S V hS h0 n e j (fun k => ?_) hm (fun k => ?_) ha
  · rw [masked256, scores256, ← hs]
    pointwise
  · rw [← hv]
    pointwise

end Cert.KernelIdeal.Block
-- ==== Proof.Units.lean ====
module

public import proofs.«01_k».proof.Proof.Gen.KernelIdeal.Loops
public import Idealize.ShloMosaic.Lib.Pointwise
public import Idealize.ShloMosaic.Lib.WritesUnit
public import Idealize.ShloMosaic.Lib.Tactic

/-!
# Reading an array that is stored unit by unit

The scratch arrays of the kernel have one plane for each of the sixteen units, and each store fills
one plane.  A plane read after a list of such stores is the newest store of that plane.
-/

@[expose] public section

noncomputable section

namespace Cert.KernelIdeal.Units

open Idealize.ShloMosaic

/-- The head of a unit. -/
def hd (u : Fin 16) : Fin 8 := ⟨u.val / 2, by omega⟩
/-- The half of the block of queries of a unit. -/
def half (u : Fin 16) : Fin 2 := ⟨u.val % 2, by omega⟩
/-- Feature `d` of the head of a unit, among all features. -/
def col (u : Fin 16) (d : Fin 128) : Fin 1024 := ⟨128 * (u.val / 2) + d.val, by omega⟩

variable {sig : RefSig} {κ : Kind} {sp : Space} {e : EltTy} {Val : EltTy → Type} {a b : ℕ}

theorem read_hit (v : View sig κ sp ⟨3, ![16, a, b]⟩ e) (f : v.ty.Contents Val) {o : ℕ}
    (inb : ∀ c, (![o, 0, 0] : Fin 3 → ℕ) c + (⟨3, ![1, a, b]⟩ : Shape).size c ≤ (⟨3, ![16, a, b]⟩ : Shape).size c)
    (w : (Rect.unit (s := ⟨3, ![16, a, b]⟩) ![o, 0, 0] (⟨3, ![1, a, b]⟩ : Shape).size inb).shape.Idx → Val e)
    (L : List (View.Piece Val (⟨3, ![16, a, b]⟩ : Shape) e)) {u : Fin 16} (hu : u.val = o) (x : Fin a) (y : Fin b) :
    v.read Val (v.writes Val f (⟨Rect.unit (s := ⟨3, ![16, a, b]⟩) ![o, 0, 0] (⟨3, ![1, a, b]⟩ : Shape).size inb, w⟩ :: L)) (ix3 u x y)
      = w (ix3 (0 : Fin 1) x y) :=
  View.read_writes_cons_unit_of_mem v f inb w L _ _ rfl (fun c => by
    match c with
    | ⟨0, _⟩ => exact hu
    | ⟨1, _⟩ => exact (Nat.zero_add _).symm
    | ⟨2, _⟩ => exact (Nat.zero_add _).symm)

theorem read_skip (v : View sig κ sp ⟨3, ![16, a, b]⟩ e) (f : v.ty.Contents Val) {o : ℕ}
    (inb : ∀ c, (![o, 0, 0] : Fin 3 → ℕ) c + (⟨3, ![1, a, b]⟩ : Shape).size c ≤ (⟨3, ![16, a, b]⟩ : Shape).size c)
    (w : (Rect.unit (s := ⟨3, ![16, a, b]⟩) ![o, 0, 0] (⟨3, ![1, a, b]⟩ : Shape).size inb).shape.Idx → Val e)
    (L : List (View.Piece Val (⟨3, ![16, a, b]⟩ : Shape) e)) {u : Fin 16} (hu : u.val ≠ o) (x : Fin a) (y : Fin b) :
    v.read Val (v.writes Val f (⟨Rect.unit (s := ⟨3, ![16, a, b]⟩) ![o, 0, 0] (⟨3, ![1, a, b]⟩ : Shape).size inb, w⟩ :: L)) (ix3 u x y)
      = v.read Val (v.writes Val f L) (ix3 u x y) :=
  View.read_writes_cons_unit_of_not_mem v f inb w L _ rfl (0 : Fin 3) (by
    show u.val < o ∨ o + 1 ≤ u.val
    omega)

/-- A load of a unit-stride rectangle, one element. -/
theorem readAt_unit {s : Shape} (v : View sig κ sp s e) (f : v.ty.Contents Val) {off size : Fin s.rank → ℕ}
    (inb : ∀ c, off c + size c ≤ s.size c) (x : (Rect.unit off size inb).shape.Idx) (y : s.Idx)
    (h : ∀ c, (y c).val = off c + (x c).val) :
    v.readAt Val (Rect.unit off size inb).toLoadRect f x = v.read Val f y := by
  have : (Rect.unit off size inb).emb x = y := funext fun c => Fin.ext (by
    show off c + 1 * (x c).val = (y c).val
    rw [h c, Nat.one_mul])
  rw [← this]
  rfl

/-- The same, where the rectangle's offsets are words the program computes. -/
theorem readAt_closed {s : Shape} (v : View sig κ sp s e) (f : v.ty.Contents Val) {off size : Fin s.rank → ℕ}
    [h : ClosedOff off] (inb : ∀ c, off c + size c ≤ s.size c) (x : (Rect.unit off size inb).shape.Idx) (y : s.Idx)
    (hy : ∀ c, (y c).val = h.form c + (x c).val) :
    v.readAt Val (Rect.unit off size inb).toLoadRect f x = v.read Val f y :=
  readAt_unit v f inb x y fun c => (hy c).trans (by rw [← congrFun h.eq c])

/-- Two indices of rank 3 with a fixed distance. -/
theorem dist3 {n0 n1 n2 m0 m1 m2 o0 o1 o2 : ℕ} {a0 : Fin n0} {a1 : Fin n1} {a2 : Fin n2} {b0 : Fin m0} {b1 : Fin m1} {b2 : Fin m2}
    (h0 : a0.val = o0 + b0.val) (h1 : a1.val = o1 + b1.val) (h2 : a2.val = o2 + b2.val) (c : Fin 3) :
    ((ix3 a0 a1 a2) c).val = (![o0, o1, o2] : Fin 3 → ℕ) c + ((ix3 b0 b1 b2) c).val := by
  match c with
  | ⟨0, _⟩ => exact h0
  | ⟨1, _⟩ => exact h1
  | ⟨2, _⟩ => exact h2

/-- Two indices of rank 5 with a fixed distance. -/
theorem dist5 {n0 n1 n2 n3 n4 m0 m1 m2 m3 m4 o0 o1 o2 o3 o4 : ℕ} {a0 : Fin n0} {a1 : Fin n1} {a2 : Fin n2} {a3 : Fin n3}
    {a4 : Fin n4} {b0 : Fin m0} {b1 : Fin m1} {b2 : Fin m2} {b3 : Fin m3} {b4 : Fin m4}
    (h0 : a0.val = o0 + b0.val) (h1 : a1.val = o1 + b1.val) (h2 : a2.val = o2 + b2.val) (h3 : a3.val = o3 + b3.val)
    (h4 : a4.val = o4 + b4.val) (c : Fin 5) :
    ((ix5 a0 a1 a2 a3 a4) c).val = (![o0, o1, o2, o3, o4] : Fin 5 → ℕ) c + ((ix5 b0 b1 b2 b3 b4) c).val := by
  match c with
  | ⟨0, _⟩ => exact h0
  | ⟨1, _⟩ => exact h1
  | ⟨2, _⟩ => exact h2
  | ⟨3, _⟩ => exact h3
  | ⟨4, _⟩ => exact h4

end Cert.KernelIdeal.Units
-- ==== Proof.Trip.lean ====
module

public import proofs.«01_k».proof.Proof.Block
public import proofs.«01_k».proof.Proof.Units
public import proofs.«01_k».proof.Proof.Gen.KernelIdeal.Loops
public import Idealize.ShloMosaic.Lib.Tactic

/-!
# One trip of the loop over the blocks of keys

Each trip takes one block of 256 prompt keys for all sixteen units.
-/

@[expose] public section

set_option maxRecDepth 16384

noncomputable section

namespace Cert.KernelIdeal.Trip

open Cert.KernelIdeal Cert.KernelIdeal.Gen Cert.KernelIdeal.Block Cert.KernelIdeal.Units
open Idealize.ShloMosaic Idealize.ShloMosaic.TcCoe Idealize.ShloMosaic.Tactic

variable (𝒱 : Variants) (c : Dev nD) (bd : Option 𝒱.V) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x8x2x128x128 .bf16) (harg7 : arg7.IsWhole) (arg8 : Memref sig .tc .vmem S1x4096x1024 .bf16) (harg8 : arg8.IsWhole) (arg9 : Memref sig .tc .vmem S1x8x16x144x256 .bf16) (harg9 : arg9.IsWhole) (arg10 : Memref sig .tc .vmem S128x1024 .bf16) (harg10 : arg10.IsWhole) (arg11 : Memref sig .tc .vmem S8x144x128 .bf16) (harg11 : arg11.IsWhole) (arg12 : Memref sig .tc .vmem S1x256x1024 .f32) (harg12 : arg12.IsWhole) (arg13 : Memref sig .tc .vmem S1x256x1024 .f32) (harg13 : arg13.IsWhole) (arg14 : Memref sig .tc .vmem S1x256x1024 .bf16) (harg14 : arg14.IsWhole) (arg15 : Memref sig .tc .vmem S16x128x256 .bf16) (harg15 : arg15.IsWhole) (arg16 : Memref sig .tc .vmem S16x1x256 .f32) (harg16 : arg16.IsWhole) (arg17 : Memref sig .tc .vmem S16x144x256 .f32) (harg17 : arg17.IsWhole) (arg2 : BitVec 32) (v271 : FVec Ideal S144x16 .bf16) (v488 : FVec Ideal S1x256 .f32) (v495 : FVec Ideal S16x256 .bf16) (X_arg8 : BufTy.Contents (Elt Ideal) arg8.view.ty) (X_arg9 : BufTy.Contents (Elt Ideal) arg9.view.ty) (X_arg15 : BufTy.Contents (Elt Ideal) arg15.view.ty) (k : Fin (k0_t1_loop i).trips)

/-- What the arrays of the greatest scores and of the weighted sums hold when `n` keys have been taken: column `j` of
unit `u` has scores `S u j`, and row `e` of its values is `V u e`. -/
structure Holds (S : Fin 16 → Fin 256 → ℕ → EReal) (V : Fin 16 → Fin 144 → ℕ → EReal) (n : ℕ)
    (f16 : BufTy.Contents (Elt Ideal) arg16.view.ty) (f17 : BufTy.Contents (Elt Ideal) arg17.view.ty) : Prop where
  top : ∀ u j, arg16.view.read (Elt Ideal) f16 (ix3 u 0 j) = Softmax.top (S u j) n
  sum : ∀ u e j, arg17.view.read (Elt Ideal) f17 (ix3 u e j) = Softmax.acc (S u j) (V u e) n

variable (S : Fin 16 → Fin 256 → ℕ → EReal) (V : Fin 16 → Fin 144 → ℕ → EReal)

set_option maxHeartbeats 4000000 in
/-- One trip keeps the state, `256` keys further. -/
theorem trip (hS : ∀ u j k, S u j k ≠ ⊤) (h0 : ∀ u j, S u j 0 ≠ ⊥) (n : ℕ)
    (hs : ∀ u j (k' : Fin 256), ∑ d : Fin 128,
      arg8.view.read (Elt Ideal) X_arg8 (ix3 0 ⟨256 * k.val + k'.val, by have := (k0_t1_abs i).2.1; omega⟩ (col u d))
        * arg15.view.read (Elt Ideal) X_arg15 (ix3 u d j) = S u j (n + k'))
    (hv : ∀ u e (k' : Fin 256), arg9.view.read (Elt Ideal) X_arg9
      (ix5 0 (hd u) ⟨k.val, by have := (k0_t1_abs i).2.1; omega⟩ e k') = V u e (n + k'))
    (f16 : BufTy.Contents (Elt Ideal) arg16.view.ty) (f17 : BufTy.Contents (Elt Ideal) arg17.view.ty)
    (hf : Holds arg16 arg17 S V n f16 f17) :
    Holds arg16 arg17 S V (n + 256)
      (arg16.view.writes (Elt Ideal) f16 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v271 v488 v495 X_arg8 X_arg9 X_arg15 k).1 f16 f17))
      (arg17.view.writes (Elt Ideal) f17 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v271 v488 v495 X_arg8 X_arg9 X_arg15 k).2.1 f16 f17)) := by
  unfold trip_k0_t1
  dsimp only
  have htop := @tripTop_apply
  unfold tripTop storeTop newTop scores at htop
  have hsum := @tripSum_apply
  unfold tripSum newSum moved weights newTop scores at hsum
  dsimp only at hsum
  refine ⟨fun u j => ?_, fun u e j => ?_⟩
  · fin_cases u
    all_goals
      repeat refine (read_skip _ _ _ _ _ (by decide) _ _).trans ?_
      refine (read_hit _ _ _ _ _ (by decide) _ _).trans ?_
      try sl_unfold_run_names
      unfold_payloads
      refine htop _ _ _ _ _ _ (fun k' => Eq.trans (Finset.sum_congr rfl fun d _ => congrArg₂ (· * ·) ?_ ?_) (hs _ _ _)) ?_
      · exact readAt_closed _ _ _ _ _ (dist3 rfl rfl rfl)
      · exact readAt_unit _ _ _ _ _ (dist3 rfl (Nat.zero_add _).symm (Nat.zero_add _).symm)
      · exact (readAt_unit _ _ _ _ _ (dist3 rfl (Nat.zero_add _).symm (Nat.zero_add _).symm)).trans (hf.top _ _)
  · fin_cases u
    all_goals
      repeat refine (read_skip _ _ _ _ _ (by decide) _ _).trans ?_
      refine (read_hit _ _ _ _ _ (by decide) _ _).trans ?_
      try sl_unfold_run_names
      unfold_payloads
      refine hsum _ _ _ _ _ _ _ (hS _ _) (h0 _ _) _ _ _
        (fun k' => Eq.trans (Finset.sum_congr rfl fun d _ => congrArg₂ (· * ·) ?_ ?_) (hs _ _ _))
        (fun k' => Eq.trans ?_ (hv _ _ _)) ?_ ?_
      · exact readAt_closed _ _ _ _ _ (dist3 rfl rfl rfl)
      · exact readAt_unit _ _ _ _ _ (dist3 rfl (Nat.zero_add _).symm (Nat.zero_add _).symm)
      · exact readAt_closed _ _ _ _ _ (dist5 rfl rfl rfl (Nat.zero_add _).symm (Nat.zero_add _).symm)
      · exact (readAt_unit _ _ _ _ _ (dist3 rfl (Nat.zero_add _).symm (Nat.zero_add _).symm)).trans (hf.top _ _)
      · exact (readAt_unit _ _ _ _ _ (dist3 rfl (Nat.zero_add _).symm (Nat.zero_add _).symm)).trans (hf.sum _ _ _)

end Cert.KernelIdeal.Trip
-- ==== Proof.Loop.lean ====
module

public import proofs.«01_k».proof.Proof.Trip

/-!
# The loop over the blocks of keys

Block `i 2` of the queries takes `i 2` blocks of keys in the loop, and the blocks before the diagonal are not masked.
-/

@[expose] public section

set_option maxRecDepth 16384

noncomputable section

namespace Cert.KernelIdeal.Loop

open Cert.KernelIdeal Cert.KernelIdeal.Gen Cert.KernelIdeal.Units Cert.KernelIdeal.Trip
open Idealize.ShloMosaic Idealize.ShloMosaic.TcCoe

/-- The loop takes as many blocks as the grid's last coordinate. -/
theorem trips1 (i : grid0.Coords) : (k0_t1_loop i).trips = (i 2).val := by
  have hi : (i 2).val < 16 := (i 2).isLt
  have hq : Affine.IsInt (BitVec.ofNat 32 (i 2).val) ((i 2).val : Int) := Affine.ofNat _ (by omega)
  have z : Affine.IsInt 0#32 0 := Affine.ofNat 0 (by omega)
  have o : Affine.IsInt 1#32 1 := Affine.ofNat 1 (by omega)
  have h1 : Affine.IsInt _ ((i 2).val : Int) := Affine.subi hq z (by omega)
  have h2 : Affine.IsInt _ ((i 2).val : Int) := Affine.divsi h1 o (by omega)
  have h3 : Affine.IsInt _ ((i 2).val : Int) := Affine.muli h2 o (by omega)
  have h4 : Affine.IsInt _ ((i 2).val : Int) := Affine.addi z h3 (by omega)
  exact Affine.trips_eq z h4 o _ (by omega)

/-- The loop's rest, for a step that does not divide the count, has no trip. -/
theorem trips2 (i : grid0.Coords) : (k0_t2_loop i).trips = 0 := Nat.le_zero.1 (k0_t2_abs i).2.1

variable (𝒱 : Variants) (c : Dev nD) (bd : Option 𝒱.V) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x8x2x128x128 .bf16) (harg7 : arg7.IsWhole) (arg8 : Memref sig .tc .vmem S1x4096x1024 .bf16) (harg8 : arg8.IsWhole) (arg9 : Memref sig .tc .vmem S1x8x16x144x256 .bf16) (harg9 : arg9.IsWhole) (arg10 : Memref sig .tc .vmem S128x1024 .bf16) (harg10 : arg10.IsWhole) (arg11 : Memref sig .tc .vmem S8x144x128 .bf16) (harg11 : arg11.IsWhole) (arg12 : Memref sig .tc .vmem S1x256x1024 .f32) (harg12 : arg12.IsWhole) (arg13 : Memref sig .tc .vmem S1x256x1024 .f32) (harg13 : arg13.IsWhole) (arg14 : Memref sig .tc .vmem S1x256x1024 .bf16) (harg14 : arg14.IsWhole) (arg15 : Memref sig .tc .vmem S16x128x256 .bf16) (harg15 : arg15.IsWhole) (arg16 : Memref sig .tc .vmem S16x1x256 .f32) (harg16 : arg16.IsWhole) (arg17 : Memref sig .tc .vmem S16x144x256 .f32) (harg17 : arg17.IsWhole) (arg2 : BitVec 32) (v271 : FVec Ideal S144x16 .bf16) (v488 : FVec Ideal S1x256 .f32) (v495 : FVec Ideal S16x256 .bf16) (X_arg8 : BufTy.Contents (Elt Ideal) arg8.view.ty) (X_arg9 : BufTy.Contents (Elt Ideal) arg9.view.ty) (X_arg15 : BufTy.Contents (Elt Ideal) arg15.view.ty)
variable (G16 : BufTy.Contents (Elt Ideal) arg16.view.ty) (G17 : BufTy.Contents (Elt Ideal) arg17.view.ty)
variable (S : Fin 16 → Fin 256 → ℕ → EReal) (V : Fin 16 → Fin 144 → ℕ → EReal)

/-- After `m` trips the first `16 + 256 m` keys have been taken. -/
theorem loop (hS : ∀ u j k, S u j k ≠ ⊤) (h0 : ∀ u j, S u j 0 ≠ ⊥)
    (hs : ∀ u j (p : Fin 4096), p.val < 256 * (i 2).val → ∑ d : Fin 128,
      arg8.view.read (Elt Ideal) X_arg8 (ix3 0 p (col u d)) * arg15.view.read (Elt Ideal) X_arg15 (ix3 u d j) = S u j (16 + p.val))
    (hv : ∀ u e (b : Fin 16) (k' : Fin 256), arg9.view.read (Elt Ideal) X_arg9 (ix5 0 (hd u) b e k')
      = V u e (16 + (256 * b.val + k'.val)))
    (hG : Holds arg16 arg17 S V 16 G16 G17) :
    ∀ m : ℕ, m ≤ (k0_t1_loop i).trips → Holds arg16 arg17 S V (16 + 256 * m)
      (arg16.view.writes (Elt Ideal) G16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v271 v488 v495 X_arg8 X_arg9 X_arg15 G16 G17 m).1)
      (arg17.view.writes (Elt Ideal) G17 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v271 v488 v495 X_arg8 X_arg9 X_arg15 G16 G17 m).2) := by
  intro m
  induction m with
  | zero => intro _; exact hG
  | succ m ih =>
    intro hm
    have hi : (i 2).val < 16 := (i 2).isLt
    have ht := trips1 i
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v271 v488 v495 X_arg8 X_arg9 X_arg15 G16 G17 ⟨m, hm⟩
    rw [e, View.writes_append, View.writes_append]
    have step := trip 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v271 v488 v495 X_arg8 X_arg9 X_arg15 ⟨m, hm⟩ S V hS h0 (16 + 256 * m)
      (fun u j k' => (hs u j ⟨256 * m + k'.val, by omega⟩ (by show 256 * m + k'.val < _; omega)).trans (by
        rw [Nat.add_assoc]))
      (fun u e k' => (hv u e ⟨m, by omega⟩ k').trans (by rw [Nat.add_assoc]))
      _ _ (ih (by omega))
    rwa [show 16 + 256 * m + 256 = 16 + 256 * (m + 1) by omega] at step

end Cert.KernelIdeal.Loop
-- ==== Proof.Start.lean ====
module

public import proofs.«01_k».proof.Proof.Loop
public import proofs.«01_k».proof.Proof.Gen.KernelIdeal.Frame

/-!
# Before the loop

The body first lays out the queries of each unit, sets the greatest scores to the least value and the weighted sums to
zero, and takes the block of meta rows.
-/

@[expose] public section

set_option maxRecDepth 16384

noncomputable section

namespace Cert.KernelIdeal.Start

open Cert.KernelIdeal Cert.KernelIdeal.Gen Cert.KernelIdeal.Block Cert.KernelIdeal.Units Cert.KernelIdeal.Trip
open Idealize.ShloMosaic Idealize.ShloMosaic.TcCoe Idealize.ShloMosaic.Tactic

/-- The queries of unit `u` as they are laid out. -/
def qb (x4 : Vec Ideal S1x8x2x128x128 .bf16) (u : Fin 16) (d : Fin 128) (j : Fin 256) : EReal :=
  if d.val < 64 ↔ j.val < 128 then x4 (ix5 0 (hd u) (half u) d ⟨j.val % 128, Nat.mod_lt _ (by norm_num)⟩) else 0

variable (c : Dev nD) (arg7 : Memref sig .tc .vmem S1x8x2x128x128 .bf16) (harg7 : arg7.IsWhole)
  (arg10 : Memref sig .tc .vmem S128x1024 .bf16) (harg10 : arg10.IsWhole)
  (arg11 : Memref sig .tc .vmem S8x144x128 .bf16) (harg11 : arg11.IsWhole)
  (arg15 : Memref sig .tc .vmem S16x128x256 .bf16) (arg16 : Memref sig .tc .vmem S16x1x256 .f32)
  (arg17 : Memref sig .tc .vmem S16x144x256 .f32)
  (x4 : Vec Ideal S1x8x2x128x128 .bf16) (x7 : Vec Ideal S128x1024 .bf16) (x8 : Vec Ideal S8x144x128 .bf16)

theorem queries (u : Fin 16) (d : Fin 128) (j : Fin 256) :
    arg15.view.read (Elt Ideal) (arg15.view.writes (Elt Ideal) arg15.view.junk (kernelRun0_A.sl.HS0_16 (F := Ideal) c arg7 harg7 x4))
      (ix3 u d j) = qb x4 u d j := by
  have hq := @spread_apply
  unfold spread at hq
  unfold kernelRun0_A.sl.HS0_16
  fin_cases u
  all_goals
    repeat refine (read_skip _ _ _ _ _ (by decide) _ _).trans ?_
    refine (read_hit _ _ _ _ _ (by decide) _ _).trans ?_
    try sl_unfold_run_names
    unfold_payloads
    refine (hq _ _ _).trans ?_
    refine if_congr Iff.rfl ?_ rfl
    refine (readAt_unit _ _ _ _ _ (dist5 rfl rfl rfl (Nat.zero_add _).symm (Nat.zero_add _).symm)).trans (congrFun (harg7.read_unread _) _)

theorem dist2 {n0 n1 m0 m1 o0 o1 : ℕ} {a0 : Fin n0} {a1 : Fin n1} {b0 : Fin m0} {b1 : Fin m1}
    (h0 : a0.val = o0 + b0.val) (h1 : a1.val = o1 + b1.val) (c : Fin 2) :
    ((ix2 a0 a1) c).val = (![o0, o1] : Fin 2 → ℕ) c + ((ix2 b0 b1) c).val := by
  match c with
  | ⟨0, _⟩ => exact h0
  | ⟨1, _⟩ => exact h1

/-- A load of one unit's plane. -/
theorem readAt_plane {sig : RefSig} {κ : Kind} {sp : Space} {e : EltTy} {Val : EltTy → Type} {a b : ℕ}
    (v : View sig κ sp ⟨3, ![16, a, b]⟩ e) (f : v.ty.Contents Val) {o : ℕ}
    (inb : ∀ c, (![o, 0, 0] : Fin 3 → ℕ) c + (⟨3, ![1, a, b]⟩ : Shape).size c ≤ (⟨3, ![16, a, b]⟩ : Shape).size c)
    (x : Fin a) (y : Fin b) :
    v.readAt Val (Rect.unit (s := ⟨3, ![16, a, b]⟩) ![o, 0, 0] (⟨3, ![1, a, b]⟩ : Shape).size inb).toLoadRect f (ix3 (0 : Fin 1) x y)
      = v.read Val f (ix3 (⟨o, Nat.lt_of_succ_le (inb 0)⟩ : Fin 16) x y) :=
  readAt_unit _ _ _ _ _ (dist3 rfl (Nat.zero_add _).symm (Nat.zero_add _).symm)

theorem top_start (u : Fin 16) (j : Fin 256) (S : ℕ → EReal) :
    arg16.view.read (Elt Ideal) (arg16.view.writes (Elt Ideal) arg16.view.junk (kernelRun0_A.sl.HS1_1 (F := Ideal)))
      (ix3 u 0 j) = Softmax.top S 0 := by
  refine (View.read_writes_cons_unit_of_mem _ _ _ _ _ _ (ix3 u 0 j) rfl (dist3 (Nat.zero_add _).symm (Nat.zero_add _).symm (Nat.zero_add _).symm)).trans ?_
  unfold_payloads
  refine Eq.trans ?_ bot_word
  pointwise

theorem sum_start (u : Fin 16) (e : Fin 144) (j : Fin 256) (S V : ℕ → EReal) :
    arg17.view.read (Elt Ideal) (arg17.view.writes (Elt Ideal) arg17.view.junk (kernelRun0_A.sl.HS2_1 (F := Ideal)))
      (ix3 u e j) = Softmax.acc S V 0 := by
  refine (View.read_writes_cons_unit_of_mem _ _ _ _ _ _ (ix3 u e j) rfl (dist3 (Nat.zero_add _).symm (Nat.zero_add _).symm (Nat.zero_add _).symm)).trans ?_
  unfold_payloads
  refine Eq.trans ?_ (Finset.sum_range_zero _).symm
  pointwise

set_option maxHeartbeats 4000000 in
/-- After the meta rows. -/
theorem start (S : Fin 16 → Fin 256 → ℕ → EReal) (V : Fin 16 → Fin 144 → ℕ → EReal)
    (hS : ∀ u j k, S u j k ≠ ⊤) (h0 : ∀ u j, S u j 0 ≠ ⊥)
    (hs : ∀ u j (k : Fin 16), ∑ d : Fin 128, x7 (ix2 (k.castLE (by norm_num)) (col u d)) * qb x4 u d j = S u j k.val)
    (hv : ∀ u e (k : Fin 16), x8 (ix3 (hd u) e (k.castLE (by norm_num))) = V u e k.val) :
    Holds arg16 arg17 S V 16
      (arg16.view.writes (Elt Ideal) arg16.view.junk (kernelRun0_A.sl.HS1_17 (F := Ideal) c arg7 harg7 arg10 harg10 arg15 arg16 x4 x7))
      (arg17.view.writes (Elt Ideal) arg17.view.junk (kernelRun0_A.sl.HS2_17 (F := Ideal) c arg7 harg7 arg10 harg10 arg11 harg11 arg15 arg16 arg17 x4 x7 x8)) := by
  have htop := @metaTop_apply
  unfold metaTop storeTop newTop scores at htop
  have hsum := @metaSum_apply
  unfold metaSum newSum moved weights newTop scores at hsum
  dsimp only at hsum
  have hs' : ∀ u j (k : Fin 16), ∑ d : Fin 128, x7 (ix2 (k.castLE (by norm_num)) (col u d)) * qb x4 u d j = S u j (0 + k.val) :=
    fun u j k => (hs u j k).trans (by rw [Nat.zero_add])
  have hv' : ∀ u e (k : Fin 16), x8 (ix3 (hd u) e (k.castLE (by norm_num))) = V u e (0 + k.val) :=
    fun u e k => (hv u e k).trans (by rw [Nat.zero_add])
  refine ⟨fun u j => ?_, fun u e j => ?_⟩
  · refine Eq.trans ?_ (congrArg (Softmax.top (S u j)) (Nat.zero_add 16))
    fin_cases u
    all_goals
      repeat refine (read_skip _ _ _ _ _ (by decide) _ _).trans ?_
      refine (read_hit _ _ _ _ _ (by decide) _ _).trans ?_
      try dsimp only [kernelRun0_A.sl.cst_416, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95]
      unfold_payloads
      refine htop _ _ _ _ _ _ (fun k' => Eq.trans (Finset.sum_congr rfl fun d _ => congrArg₂ (· * ·) ?_ ?_) (hs' _ _ _)) ?_
      · refine Eq.trans ?_ (congrFun (harg10.read_unread x7) _)
        exact readAt_unit _ _ _ _ _ (dist2 (a0 := Fin.castLE (by norm_num) k') (b0 := k') (Nat.zero_add k'.val).symm rfl)
      · refine Eq.trans ?_ (queries c arg7 harg7 arg15 x4 _ d j)
        exact readAt_unit _ _ _ _ _ (dist3 rfl (Nat.zero_add _).symm (Nat.zero_add _).symm)
      · refine (readAt_plane _ _ _ _ _).trans ?_
        repeat refine (read_skip _ _ _ _ _ (by decide) _ _).trans ?_
        exact top_start _ _ _ _
  · refine Eq.trans ?_ (congrArg (Softmax.acc (S u j) (V u e)) (Nat.zero_add 16))
    fin_cases u
    all_goals
      repeat refine (read_skip _ _ _ _ _ (by decide) _ _).trans ?_
      refine (read_hit _ _ _ _ _ (by decide) _ _).trans ?_
      try dsimp only [kernelRun0_A.sl.cst_416, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95]
      unfold_payloads
      refine hsum _ _ _ _ _ _ _ (hS _ _) (h0 _ _) _ _ _ (fun k' => Eq.trans (Finset.sum_congr rfl fun d _ => congrArg₂ (· * ·) ?_ ?_) (hs' _ _ _))
        (fun k' => Eq.trans ?_ (hv' _ _ _)) ?_ ?_
      · refine Eq.trans ?_ (congrFun (harg10.read_unread x7) _)
        exact readAt_unit _ _ _ _ _ (dist2 (a0 := Fin.castLE (by norm_num) k') (b0 := k') (Nat.zero_add k'.val).symm rfl)
      · refine Eq.trans ?_ (queries c arg7 harg7 arg15 x4 _ d j)
        exact readAt_unit _ _ _ _ _ (dist3 rfl (Nat.zero_add _).symm (Nat.zero_add _).symm)
      · refine Eq.trans ?_ (congrFun (harg11.read_unread x8) _)
        exact readAt_unit _ _ _ _ _ (dist3 rfl (Nat.zero_add _).symm
          (show (Fin.castLE (by norm_num) k' : Fin 128).val = 0 + (Fin.castLE (by norm_num) k' : Fin 128).val from (Nat.zero_add _).symm))
      · refine (readAt_plane _ _ _ _ _).trans ?_
        repeat refine (read_skip _ _ _ _ _ (by decide) _ _).trans ?_
        exact top_start _ _ _ _
      · refine (readAt_plane _ _ _ _ _).trans ?_
        repeat refine (read_skip _ _ _ _ _ (by decide) _ _).trans ?_
        exact sum_start _ _ _ _ _ _

end Cert.KernelIdeal.Start
-- ==== Proof.Diag.lean ====
module

public import proofs.«01_k».proof.Proof.Start

/-!
# The diagonal

After the loop each unit takes the block of keys on the diagonal, masked: the first half of the queries sees its first
128 keys, the second half all 256.
-/

@[expose] public section

set_option maxRecDepth 16384

noncomputable section

namespace Cert.KernelIdeal.Diag

open Cert.KernelIdeal Cert.KernelIdeal.Gen Cert.KernelIdeal.Block Cert.KernelIdeal.Units Cert.KernelIdeal.Trip Cert.KernelIdeal.Loop Cert.KernelIdeal.Start
open Idealize.ShloMosaic Idealize.ShloMosaic.TcCoe Idealize.ShloMosaic.Tactic

section Before

variable (𝒱 : Variants) (c : Dev nD) (bd : Option 𝒱.V) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x8x2x128x128 .bf16) (harg7 : arg7.IsWhole) (arg8 : Memref sig .tc .vmem S1x4096x1024 .bf16) (harg8 : arg8.IsWhole) (arg9 : Memref sig .tc .vmem S1x8x16x144x256 .bf16) (harg9 : arg9.IsWhole) (arg10 : Memref sig .tc .vmem S128x1024 .bf16) (harg10 : arg10.IsWhole) (arg11 : Memref sig .tc .vmem S8x144x128 .bf16) (harg11 : arg11.IsWhole) (arg12 : Memref sig .tc .vmem S1x256x1024 .f32) (harg12 : arg12.IsWhole) (arg13 : Memref sig .tc .vmem S1x256x1024 .f32) (harg13 : arg13.IsWhole) (arg14 : Memref sig .tc .vmem S1x256x1024 .bf16) (harg14 : arg14.IsWhole) (arg15 : Memref sig .tc .vmem S16x128x256 .bf16) (harg15 : arg15.IsWhole) (arg16 : Memref sig .tc .vmem S16x1x256 .f32) (harg16 : arg16.IsWhole) (arg17 : Memref sig .tc .vmem S16x144x256 .f32) (harg17 : arg17.IsWhole) (arg2 : BitVec 32) (v271 : FVec Ideal S144x16 .bf16) (v488 : FVec Ideal S1x256 .f32) (v495 : FVec Ideal S16x256 .bf16) (X_arg8 : BufTy.Contents (Elt Ideal) arg8.view.ty) (X_arg9 : BufTy.Contents (Elt Ideal) arg9.view.ty) (X_arg15 : BufTy.Contents (Elt Ideal) arg15.view.ty)
variable (K16 : BufTy.Contents (Elt Ideal) arg16.view.ty) (K17 : BufTy.Contents (Elt Ideal) arg17.view.ty) (v644 : BitVec 32) (L16 : List (View.Piece (Elt Ideal) S16x1x256 .f32)) (L17 : List (View.Piece (Elt Ideal) S16x144x256 .f32))
variable {S : Fin 16 → Fin 256 → ℕ → EReal} {V : Fin 16 → Fin 144 → ℕ → EReal}

/-- Before the diagonal block. -/
theorem before (hS : ∀ u j k, S u j k ≠ ⊤) (h0 : ∀ u j, S u j 0 ≠ ⊥)
    (hs : ∀ u j (p : Fin 4096), p.val < 256 * (i 2).val → ∑ d : Fin 128,
      arg8.view.read (Elt Ideal) X_arg8 (ix3 0 p (col u d)) * arg15.view.read (Elt Ideal) X_arg15 (ix3 u d j) = S u j (16 + p.val))
    (hv : ∀ u e (b : Fin 16) (k' : Fin 256), arg9.view.read (Elt Ideal) X_arg9 (ix5 0 (hd u) b e k')
      = V u e (16 + (256 * b.val + k'.val)))
    (hG : Holds arg16 arg17 S V 16 (arg16.view.writes (Elt Ideal) arg16.view.junk L16) (arg17.view.writes (Elt Ideal) arg17.view.junk L17)) :
    Holds arg16 arg17 S V (16 + 256 * (i 2).val)
      (arg16.view.writes (Elt Ideal) arg16.view.junk ((pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v271 v488 v495 v644 X_arg8 X_arg9 X_arg15 K16 K17 (Scf.trips (k0_t2_loop i).lb (k0_t2_loop i).ub (k0_t2_loop i).st)).1 ++ ((pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v271 v488 v495 X_arg8 X_arg9 X_arg15 (arg16.view.writes (Elt Ideal) arg16.view.junk L16) (arg17.view.writes (Elt Ideal) arg17.view.junk L17) (Scf.trips (k0_t1_loop i).lb (k0_t1_loop i).ub (k0_t1_loop i).st)).1 ++ L16)))
      (arg17.view.writes (Elt Ideal) arg17.view.junk ((pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v271 v488 v495 v644 X_arg8 X_arg9 X_arg15 K16 K17 (Scf.trips (k0_t2_loop i).lb (k0_t2_loop i).ub (k0_t2_loop i).st)).2 ++ ((pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v271 v488 v495 X_arg8 X_arg9 X_arg15 (arg16.view.writes (Elt Ideal) arg16.view.junk L16) (arg17.view.writes (Elt Ideal) arg17.view.junk L17) (Scf.trips (k0_t1_loop i).lb (k0_t1_loop i).ub (k0_t1_loop i).st)).2 ++ L17))) := by
  have e2 : Scf.trips (k0_t2_loop i).lb (k0_t2_loop i).ub (k0_t2_loop i).st = 0 := trips2 i
  have e1 : Scf.trips (k0_t1_loop i).lb (k0_t1_loop i).ub (k0_t1_loop i).st = (i 2).val := trips1 i
  rw [e2, e1, pb_k0_t2.eq_1, List.nil_append, List.nil_append, View.writes_append, View.writes_append]
  exact loop 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v271 v488 v495 X_arg8 X_arg9 X_arg15 _ _ S V hS h0 hs hv hG _ (trips1 i).ge

end Before

variable (c : Dev nD) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x8x2x128x128 .bf16) (harg7 : arg7.IsWhole) (arg8 : Memref sig .tc .vmem S1x4096x1024 .bf16) (harg8 : arg8.IsWhole) (arg9 : Memref sig .tc .vmem S1x8x16x144x256 .bf16) (harg9 : arg9.IsWhole) (arg10 : Memref sig .tc .vmem S128x1024 .bf16) (harg10 : arg10.IsWhole) (arg11 : Memref sig .tc .vmem S8x144x128 .bf16) (harg11 : arg11.IsWhole) (arg12 : Memref sig .tc .vmem S1x256x1024 .f32) (harg12 : arg12.IsWhole) (arg13 : Memref sig .tc .vmem S1x256x1024 .f32) (harg13 : arg13.IsWhole) (arg14 : Memref sig .tc .vmem S1x256x1024 .bf16) (harg14 : arg14.IsWhole) (arg15 : Memref sig .tc .vmem S16x128x256 .bf16) (harg15 : arg15.IsWhole) (arg16 : Memref sig .tc .vmem S16x1x256 .f32) (harg16 : arg16.IsWhole) (arg17 : Memref sig .tc .vmem S16x144x256 .f32) (harg17 : arg17.IsWhole)
  (x4 : Vec Ideal S1x8x2x128x128 .bf16) (x5 : Vec Ideal S1x4096x1024 .bf16) (x6 : Vec Ideal S1x8x16x144x256 .bf16)
  (x7 : Vec Ideal S128x1024 .bf16) (x8 : Vec Ideal S8x144x128 .bf16)

/-- The products of a column of queries with the keys. -/
def dotMeta (u : Fin 16) (j : Fin 256) (k : Fin 16) : EReal := ∑ d : Fin 128, x7 (ix2 (k.castLE (by norm_num)) (col u d)) * qb x4 u d j

def dotKey (u : Fin 16) (j : Fin 256) (p : Fin 4096) : EReal := ∑ d : Fin 128, x5 (ix3 0 p (col u d)) * qb x4 u d j

set_option maxHeartbeats 8000000 in
/-- After the diagonal block. -/
theorem diag (S : Fin 16 → Fin 256 → ℕ → EReal) (V : Fin 16 → Fin 144 → ℕ → EReal)
    (hS : ∀ u j k, S u j k ≠ ⊤) (h0 : ∀ u j, S u j 0 ≠ ⊥)
    (hs0 : ∀ u j (k : Fin 16), dotMeta x4 x7 u j k = S u j k.val)
    (hv0 : ∀ u e (k : Fin 16), x8 (ix3 (hd u) e (k.castLE (by norm_num))) = V u e k.val)
    (hs1 : ∀ u j (p : Fin 4096), p.val < 256 * (i 2).val → dotKey x4 x5 u j p = S u j (16 + p.val))
    (hs2 : ∀ u j (k : Fin 256), (if k.val ≤ j.val % 128 + 128 * (half u).val then
        dotKey x4 x5 u j ⟨256 * (i 2).val + k.val, by have : (i 2).val < 16 := (i 2).isLt; omega⟩ else ⊥) = S u j (16 + 256 * (i 2).val + k.val))
    (hv1 : ∀ u e (b : Fin 16) (k' : Fin 256), x6 (ix5 0 (hd u) b e k') = V u e (16 + (256 * b.val + k'.val)))
    (u : Fin 16) (e : Fin 144) (j : Fin 256) :
    arg17.view.read (Elt Ideal) (arg17.view.writes (Elt Ideal) arg17.view.junk (kernelRun0_A.sl.HS2_16_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 x8)) (ix3 u e j)
      = Softmax.acc (S u j) (V u e) (16 + 256 * (i 2).val + 128 * ((half u).val + 1)) := by
  have hi : (i 2).val < 16 := (i 2).isLt
  have hB := fun K16 K17 => before Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17
    (BitVec.ofNat 32 (i 2).val) (kernelRun0_A.sl.r_52 c arg11 harg11 x8) (kernelRun0_A.sl.r_90 c arg7 harg7 arg10 harg10 arg15 arg16 x4 x7) (kernelRun0_A.sl.r_91 c arg7 harg7 arg10 harg10 arg15 arg16 x4 x7)
    (harg8.unread x5) (harg9.unread x6) (arg15.view.writes (Elt Ideal) arg15.view.junk (kernelRun0_A.sl.HS0_16 c arg7 harg7 x4))
    (v644 := kernelRun0_A.sl.v644 i)
    (L16 := kernelRun0_A.sl.HS1_17 c arg7 harg7 arg10 harg10 arg15 arg16 x4 x7)
    (L17 := kernelRun0_A.sl.HS2_17 c arg7 harg7 arg10 harg10 arg11 harg11 arg15 arg16 arg17 x4 x7 x8)
    (K16 := K16) (K17 := K17) hS h0
    (fun u j p hp => Eq.trans (Finset.sum_congr rfl fun d _ => congrArg₂ (· * ·) (congrFun (harg8.read_unread x5) _) (queries c arg7 harg7 arg15 x4 u d j)) (hs1 u j p hp))
    (fun u e b k' => (congrFun (harg9.read_unread x6) _).trans (hv1 u e b k'))
    (start c arg7 harg7 arg10 harg10 arg11 harg11 arg15 arg16 arg17 x4 x7 x8 S V hS h0 hs0 hv0)
  have s128 : ∀ u j (k : Fin 128), (half u).val = 0 → (if k.val ≤ j.val % 128 then
      ∑ d : Fin 128, x5 (ix3 0 ⟨256 * (i 2).val + k.val, by omega⟩ (col u d)) * qb x4 u d j else ⊥) = S u j (16 + 256 * (i 2).val + k.val) :=
    fun u j k hu => Eq.trans (by rw [hu]; rfl) (hs2 u j (k.castLE (by norm_num)))
  have s256 : ∀ u j (k : Fin 256), (half u).val = 1 → (if k.val ≤ j.val % 128 + 128 then
      ∑ d : Fin 128, x5 (ix3 0 ⟨256 * (i 2).val + k.val, by omega⟩ (col u d)) * qb x4 u d j else ⊥) = S u j (16 + 256 * (i 2).val + k.val) :=
    fun u j k hu => Eq.trans (by rw [hu]; rfl) (hs2 u j k)
  have v256 : ∀ u e (k : Fin 256), x6 (ix5 0 (hd u) ⟨(i 2).val, hi⟩ e k) = V u e (16 + 256 * (i 2).val + k.val) :=
    fun u e k => (hv1 u e ⟨(i 2).val, hi⟩ k).trans (congrArg (V u e) (Nat.add_assoc _ _ _).symm)
  have sum128 := @diagSum128_apply
  unfold diagSum128 masked newSum moved weights newTop scores at sum128
  dsimp only at sum128
  have sum256 := @diagSum256_apply
  unfold diagSum256 masked newSum moved weights newTop scores at sum256
  dsimp only at sum256
  fin_cases u
  · iterate 15 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum128 _ _ _ _ _ _ _ (hS _ _) (h0 _ _) _ _ _ (fun k' => Eq.trans (if_congr Iff.rfl (Finset.sum_congr rfl fun d _ => congrArg₂ (· * ·) ?_ ?_) rfl) (s128 _ _ _ rfl))
        (fun k' => Eq.trans ?_ (v256 _ _ (Fin.castLE (by norm_num) k'))) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm
        (show (Fin.castLE (by norm_num) k' : Fin 256).val = 0 + (Fin.castLE (by norm_num) k' : Fin 256).val from (Nat.zero_add _).symm))
    · refine (readAt_plane _ _ _ _ _).trans ?_
      iterate 0 refine (read_skip _ _ _ _ _ (by decide) _ _).trans ?_
      exact (hB _ _).top _ _
    · refine (readAt_plane _ _ _ _ _).trans ?_
      iterate 0 refine (read_skip _ _ _ _ _ (by decide) _ _).trans ?_
      exact (hB _ _).sum _ _ _
  · iterate 14 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum256 _ _ _ _ _ _ _ (hS _ _) (h0 _ _) _ _ _ (fun k' => Eq.trans (if_congr Iff.rfl (Finset.sum_congr rfl fun d _ => congrArg₂ (· * ·) ?_ ?_) rfl) (s256 _ _ _ rfl))
        (fun k' => Eq.trans ?_ (v256 _ _ _)) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm (Nat.zero_add _).symm)
    · refine (readAt_plane _ _ _ _ _).trans ?_
      iterate 1 refine (read_skip _ _ _ _ _ (by decide) _ _).trans ?_
      exact (hB _ _).top _ _
    · refine (readAt_plane _ _ _ _ _).trans ?_
      iterate 1 refine (read_skip _ _ _ _ _ (by decide) _ _).trans ?_
      exact (hB _ _).sum _ _ _
  · iterate 13 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum128 _ _ _ _ _ _ _ (hS _ _) (h0 _ _) _ _ _ (fun k' => Eq.trans (if_congr Iff.rfl (Finset.sum_congr rfl fun d _ => congrArg₂ (· * ·) ?_ ?_) rfl) (s128 _ _ _ rfl))
        (fun k' => Eq.trans ?_ (v256 _ _ (Fin.castLE (by norm_num) k'))) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm
        (show (Fin.castLE (by norm_num) k' : Fin 256).val = 0 + (Fin.castLE (by norm_num) k' : Fin 256).val from (Nat.zero_add _).symm))
    · refine (readAt_plane _ _ _ _ _).trans ?_
      iterate 2 refine (read_skip _ _ _ _ _ (by decide) _ _).trans ?_
      exact (hB _ _).top _ _
    · refine (readAt_plane _ _ _ _ _).trans ?_
      iterate 2 refine (read_skip _ _ _ _ _ (by decide) _ _).trans ?_
      exact (hB _ _).sum _ _ _
  · iterate 12 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum256 _ _ _ _ _ _ _ (hS _ _) (h0 _ _) _ _ _ (fun k' => Eq.trans (if_congr Iff.rfl (Finset.sum_congr rfl fun d _ => congrArg₂ (· * ·) ?_ ?_) rfl) (s256 _ _ _ rfl))
        (fun k' => Eq.trans ?_ (v256 _ _ _)) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm (Nat.zero_add _).symm)
    · refine (readAt_plane _ _ _ _ _).trans ?_
      iterate 3 refine (read_skip _ _ _ _ _ (by decide) _ _).trans ?_
      exact (hB _ _).top _ _
    · refine (readAt_plane _ _ _ _ _).trans ?_
      iterate 3 refine (read_skip _ _ _ _ _ (by decide) _ _).trans ?_
      exact (hB _ _).sum _ _ _
  · iterate 11 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum128 _ _ _ _ _ _ _ (hS _ _) (h0 _ _) _ _ _ (fun k' => Eq.trans (if_congr Iff.rfl (Finset.sum_congr rfl fun d _ => congrArg₂ (· * ·) ?_ ?_) rfl) (s128 _ _ _ rfl))
        (fun k' => Eq.trans ?_ (v256 _ _ (Fin.castLE (by norm_num) k'))) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm
        (show (Fin.castLE (by norm_num) k' : Fin 256).val = 0 + (Fin.castLE (by norm_num) k' : Fin 256).val from (Nat.zero_add _).symm))
    · refine (readAt_plane _ _ _ _ _).trans ?_
      iterate 4 refine (read_skip _ _ _ _ _ (by decide) _ _).trans ?_
      exact (hB _ _).top _ _
    · refine (readAt_plane _ _ _ _ _).trans ?_
      iterate 4 refine (read_skip _ _ _ _ _ (by decide) _ _).trans ?_
      exact (hB _ _).sum _ _ _
  · iterate 10 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum256 _ _ _ _ _ _ _ (hS _ _) (h0 _ _) _ _ _ (fun k' => Eq.trans (if_congr Iff.rfl (Finset.sum_congr rfl fun d _ => congrArg₂ (· * ·) ?_ ?_) rfl) (s256 _ _ _ rfl))
        (fun k' => Eq.trans ?_ (v256 _ _ _)) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm (Nat.zero_add _).symm)
    · refine (readAt_plane _ _ _ _ _).trans ?_
      iterate 5 refine (read_skip _ _ _ _ _ (by decide) _ _).trans ?_
      exact (hB _ _).top _ _
    · refine (readAt_plane _ _ _ _ _).trans ?_
      iterate 5 refine (read_skip _ _ _ _ _ (by decide) _ _).trans ?_
      exact (hB _ _).sum _ _ _
  · iterate 9 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum128 _ _ _ _ _ _ _ (hS _ _) (h0 _ _) _ _ _ (fun k' => Eq.trans (if_congr Iff.rfl (Finset.sum_congr rfl fun d _ => congrArg₂ (· * ·) ?_ ?_) rfl) (s128 _ _ _ rfl))
        (fun k' => Eq.trans ?_ (v256 _ _ (Fin.castLE (by norm_num) k'))) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm
        (show (Fin.castLE (by norm_num) k' : Fin 256).val = 0 + (Fin.castLE (by norm_num) k' : Fin 256).val from (Nat.zero_add _).symm))
    · refine (readAt_plane _ _ _ _ _).trans ?_
      iterate 6 refine (read_skip _ _ _ _ _ (by decide) _ _).trans ?_
      exact (hB _ _).top _ _
    · refine (readAt_plane _ _ _ _ _).trans ?_
      iterate 6 refine (read_skip _ _ _ _ _ (by decide) _ _).trans ?_
      exact (hB _ _).sum _ _ _
  · iterate 8 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum256 _ _ _ _ _ _ _ (hS _ _) (h0 _ _) _ _ _ (fun k' => Eq.trans (if_congr Iff.rfl (Finset.sum_congr rfl fun d _ => congrArg₂ (· * ·) ?_ ?_) rfl) (s256 _ _ _ rfl))
        (fun k' => Eq.trans ?_ (v256 _ _ _)) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm (Nat.zero_add _).symm)
    · refine (readAt_plane _ _ _ _ _).trans ?_
      iterate 7 refine (read_skip _ _ _ _ _ (by decide) _ _).trans ?_
      exact (hB _ _).top _ _
    · refine (readAt_plane _ _ _ _ _).trans ?_
      iterate 7 refine (read_skip _ _ _ _ _ (by decide) _ _).trans ?_
      exact (hB _ _).sum _ _ _
  · iterate 7 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum128 _ _ _ _ _ _ _ (hS _ _) (h0 _ _) _ _ _ (fun k' => Eq.trans (if_congr Iff.rfl (Finset.sum_congr rfl fun d _ => congrArg₂ (· * ·) ?_ ?_) rfl) (s128 _ _ _ rfl))
        (fun k' => Eq.trans ?_ (v256 _ _ (Fin.castLE (by norm_num) k'))) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm
        (show (Fin.castLE (by norm_num) k' : Fin 256).val = 0 + (Fin.castLE (by norm_num) k' : Fin 256).val from (Nat.zero_add _).symm))
    · refine (readAt_plane _ _ _ _ _).trans ?_
      iterate 8 refine (read_skip _ _ _ _ _ (by decide) _ _).trans ?_
      exact (hB _ _).top _ _
    · refine (readAt_plane _ _ _ _ _).trans ?_
      iterate 8 refine (read_skip _ _ _ _ _ (by decide) _ _).trans ?_
      exact (hB _ _).sum _ _ _
  · iterate 6 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum256 _ _ _ _ _ _ _ (hS _ _) (h0 _ _) _ _ _ (fun k' => Eq.trans (if_congr Iff.rfl (Finset.sum_congr rfl fun d _ => congrArg₂ (· * ·) ?_ ?_) rfl) (s256 _ _ _ rfl))
        (fun k' => Eq.trans ?_ (v256 _ _ _)) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm (Nat.zero_add _).symm)
    · refine (readAt_plane _ _ _ _ _).trans ?_
      iterate 9 refine (read_skip _ _ _ _ _ (by decide) _ _).trans ?_
      exact (hB _ _).top _ _
    · refine (readAt_plane _ _ _ _ _).trans ?_
      iterate 9 refine (read_skip _ _ _ _ _ (by decide) _ _).trans ?_
      exact (hB _ _).sum _ _ _
  · iterate 5 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum128 _ _ _ _ _ _ _ (hS _ _) (h0 _ _) _ _ _ (fun k' => Eq.trans (if_congr Iff.rfl (Finset.sum_congr rfl fun d _ => congrArg₂ (· * ·) ?_ ?_) rfl) (s128 _ _ _ rfl))
        (fun k' => Eq.trans ?_ (v256 _ _ (Fin.castLE (by norm_num) k'))) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm
        (show (Fin.castLE (by norm_num) k' : Fin 256).val = 0 + (Fin.castLE (by norm_num) k' : Fin 256).val from (Nat.zero_add _).symm))
    · refine (readAt_plane _ _ _ _ _).trans ?_
      iterate 10 refine (read_skip _ _ _ _ _ (by decide) _ _).trans ?_
      exact (hB _ _).top _ _
    · refine (readAt_plane _ _ _ _ _).trans ?_
      iterate 10 refine (read_skip _ _ _ _ _ (by decide) _ _).trans ?_
      exact (hB _ _).sum _ _ _
  · iterate 4 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum256 _ _ _ _ _ _ _ (hS _ _) (h0 _ _) _ _ _ (fun k' => Eq.trans (if_congr Iff.rfl (Finset.sum_congr rfl fun d _ => congrArg₂ (· * ·) ?_ ?_) rfl) (s256 _ _ _ rfl))
        (fun k' => Eq.trans ?_ (v256 _ _ _)) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm (Nat.zero_add _).symm)
    · refine (readAt_plane _ _ _ _ _).trans ?_
      iterate 11 refine (read_skip _ _ _ _ _ (by decide) _ _).trans ?_
      exact (hB _ _).top _ _
    · refine (readAt_plane _ _ _ _ _).trans ?_
      iterate 11 refine (read_skip _ _ _ _ _ (by decide) _ _).trans ?_
      exact (hB _ _).sum _ _ _
  · iterate 3 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum128 _ _ _ _ _ _ _ (hS _ _) (h0 _ _) _ _ _ (fun k' => Eq.trans (if_congr Iff.rfl (Finset.sum_congr rfl fun d _ => congrArg₂ (· * ·) ?_ ?_) rfl) (s128 _ _ _ rfl))
        (fun k' => Eq.trans ?_ (v256 _ _ (Fin.castLE (by norm_num) k'))) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm
        (show (Fin.castLE (by norm_num) k' : Fin 256).val = 0 + (Fin.castLE (by norm_num) k' : Fin 256).val from (Nat.zero_add _).symm))
    · refine (readAt_plane _ _ _ _ _).trans ?_
      iterate 12 refine (read_skip _ _ _ _ _ (by decide) _ _).trans ?_
      exact (hB _ _).top _ _
    · refine (readAt_plane _ _ _ _ _).trans ?_
      iterate 12 refine (read_skip _ _ _ _ _ (by decide) _ _).trans ?_
      exact (hB _ _).sum _ _ _
  · iterate 2 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum256 _ _ _ _ _ _ _ (hS _ _) (h0 _ _) _ _ _ (fun k' => Eq.trans (if_congr Iff.rfl (Finset.sum_congr rfl fun d _ => congrArg₂ (· * ·) ?_ ?_) rfl) (s256 _ _ _ rfl))
        (fun k' => Eq.trans ?_ (v256 _ _ _)) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm (Nat.zero_add _).symm)
    · refine (readAt_plane _ _ _ _ _).trans ?_
      iterate 13 refine (read_skip _ _ _ _ _ (by decide) _ _).trans ?_
      exact (hB _ _).top _ _
    · refine (readAt_plane _ _ _ _ _).trans ?_
      iterate 13 refine (read_skip _ _ _ _ _ (by decide) _ _).trans ?_
      exact (hB _ _).sum _ _ _
  · iterate 1 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum128 _ _ _ _ _ _ _ (hS _ _) (h0 _ _) _ _ _ (fun k' => Eq.trans (if_congr Iff.rfl (Finset.sum_congr rfl fun d _ => congrArg₂ (· * ·) ?_ ?_) rfl) (s128 _ _ _ rfl))
        (fun k' => Eq.trans ?_ (v256 _ _ (Fin.castLE (by norm_num) k'))) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm
        (show (Fin.castLE (by norm_num) k' : Fin 256).val = 0 + (Fin.castLE (by norm_num) k' : Fin 256).val from (Nat.zero_add _).symm))
    · refine (readAt_plane _ _ _ _ _).trans ?_
      iterate 14 refine (read_skip _ _ _ _ _ (by decide) _ _).trans ?_
      exact (hB _ _).top _ _
    · refine (readAt_plane _ _ _ _ _).trans ?_
      iterate 14 refine (read_skip _ _ _ _ _ (by decide) _ _).trans ?_
      exact (hB _ _).sum _ _ _
  · iterate 0 refine (read_skip _ _ _ _ _ (by decide) _ _).trans ?_
    refine (read_hit _ _ _ _ _ (by decide) _ _).trans ?_
    dsimp only [kernelRun0_A.sl.cst_571, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.v640, kernelRun0_A.sl.v642, kernelRun0_A.sl.v752, kernelRun0_A.sl.v797, kernelRun0_A.sl.v889, kernelRun0_A.sl.v890, kernelRun0_A.sl.v896, kernelRun0_A.sl.v897, kernelRun0_A.sl.v903, kernelRun0_A.sl.v904, kernelRun0_A.sl.v910, kernelRun0_A.sl.v911, kernelRun0_A.sl.v917, kernelRun0_A.sl.v918, kernelRun0_A.sl.v924, kernelRun0_A.sl.v925, kernelRun0_A.sl.v931, kernelRun0_A.sl.v932, kernelRun0_A.sl.v938, kernelRun0_A.sl.v939, kernelRun0_A.sl.v944]
    unfold_payloads
    refine sum256 _ _ _ _ _ _ _ (hS _ _) (h0 _ _) _ _ _ (fun k' => Eq.trans (if_congr Iff.rfl (Finset.sum_congr rfl fun d _ => congrArg₂ (· * ·) ?_ ?_) rfl) (s256 _ _ _ rfl))
        (fun k' => Eq.trans ?_ (v256 _ _ _)) ?_ ?_
    · refine Eq.trans ?_ (congrFun (harg8.read_unread x5) _)
      exact readAt_closed _ _ _ _ _ (dist3 rfl rfl rfl)
    · refine Eq.trans ?_ (queries c arg7 harg7 arg15 x4 _ d j)
      exact readAt_unit _ _ _ _ _ (dist3 rfl (Nat.zero_add _).symm (Nat.zero_add _).symm)
    · refine Eq.trans ?_ (congrFun (harg9.read_unread x6) _)
      exact readAt_closed _ _ _ _ _ (dist5 rfl rfl rfl (Nat.zero_add _).symm (Nat.zero_add _).symm)
    · refine (readAt_plane _ _ _ _ _).trans ?_
      iterate 15 refine (read_skip _ _ _ _ _ (by decide) _ _).trans ?_
      exact (hB _ _).top _ _
    · refine (readAt_plane _ _ _ _ _).trans ?_
      iterate 15 refine (read_skip _ _ _ _ _ (by decide) _ _).trans ?_
      exact (hB _ _).sum _ _ _

end Cert.KernelIdeal.Diag
-- ==== Proof.Out.lean ====
module

public import proofs.«01_k».proof.Proof.Diag
public import proofs.«01_k».proof.Proof.Gen.KernelIdeal.Frame
public import Idealize.ShloMosaic.Lib.IdealHost

/-!
# After the diagonal

Each unit divides its weighted sum by the sum of the weights, takes the difference of its two maps, normalises it,
gates it and adds it to the retention's part.
-/

@[expose] public section

set_option maxRecDepth 16384

noncomputable section

namespace Cert.KernelIdeal.Out

open Cert.KernelIdeal Cert.KernelIdeal.Gen Cert.KernelIdeal.Block Cert.KernelIdeal.Units Cert.KernelIdeal.Trip Cert.KernelIdeal.Start Cert.KernelIdeal.Diag
open Idealize.ShloMosaic Idealize.ShloMosaic.TcCoe Idealize.ShloMosaic.Tactic

/-- The difference of the two maps of row `p`, feature `e`. -/
def differ (lm : EReal) (A : Fin 128 → Fin 256 → EReal) (L : Fin 256 → EReal) (p e : Fin 128) : EReal :=
  A e ⟨p.val, by omega⟩ * Ideal.div 1 (L ⟨p.val, by omega⟩)
    - lm * (A e ⟨128 + p.val, by omega⟩ * Ideal.div 1 (L ⟨128 + p.val, by omega⟩))

/-- What a unit stores, from the difference of its maps. -/
def gated (D : Fin 128 → EReal) (e : Fin 128) (Y G : EReal) : EReal :=
  Y + (D e * Ideal.rsqrt (Ideal.div (∑ e' : Fin 128, D e' * D e') (Ideal.ofBits .f32 0x43000000#32)
    + Ideal.ofBits .f32 0x358637BD#32)) * G

/-- The factor of the second map. -/
def lambda (x0 x1 x2 x3 : Vec Ideal S1x64 .f32) : EReal :=
  Ideal.exp (∑ d : Fin 64, x0 (ix2 0 d) * x1 (ix2 0 d)) - Ideal.exp (∑ d : Fin 64, x2 (ix2 0 d) * x3 (ix2 0 d))
    + Ideal.ofBits .f32 0x3E4CCCCD#32

theorem one_word : Ideal.ofBits .f32 0x3F800000#32 = 1 := Idealize.ShloMosaic.Ideal.ofBits_one_f32

theorem lambda_apply (x0 x1 x2 x3 : Vec Ideal S1x64 .f32) : k0_pay653 (F := Ideal) x0 x1 x2 x3 (ix2 0 0) = lambda x0 x1 x2 x3 := by
  unfold k0_pay653 lambda
  pointwise

theorem out_apply (lam : Vec Ideal S1x1 .f32) (a : Vec Ideal S1x128x256 .f32) (l : Vec Ideal S1x1x256 .f32) (y g : Vec Ideal S1x128x128 .f32)
    (p e : Fin 128) (lm : EReal) (A : Fin 128 → Fin 256 → EReal) (L : Fin 256 → EReal) (Y G : EReal)
    (hlm : lam (ix2 0 0) = lm) (ha : ∀ e j, a (ix3 0 e j) = A e j) (hl : ∀ j, l (ix3 0 0 j) = L j)
    (hy : y (ix3 0 p e) = Y) (hg : g (ix3 0 p e) = G) :
    k0_pay672 (F := Ideal) lam a l y g (ix3 0 p e) = gated (differ lm A L p) e Y G := by
  unfold gated differ
  simp only [← ha, ← hl, ← one_word, ← hlm, ← hy, ← hg]
  unfold k0_pay672
  pointwise

/-- Row `p` of the half of unit `u`. -/
def row (u : Fin 16) (p : Fin 128) : Fin 256 := ⟨128 * (half u).val + p.val, by have := (half u).isLt; omega⟩

section Tile

variable {sig : RefSig} {κ : Kind} {sp : Space} {e : EltTy} {Val : EltTy → Type}

/-- The newest store of one tile. -/
theorem tile_hit (v : View sig κ sp S1x256x1024 e) (f : v.ty.Contents Val) {o1 o2 : ℕ}
    (inb : ∀ c, (![0, o1, o2] : Fin 3 → ℕ) c + S1x128x128.size c ≤ S1x256x1024.size c)
    (w : (Rect.unit (s := S1x256x1024) ![0, o1, o2] S1x128x128.size inb).shape.Idx → Val e)
    (L : List (View.Piece Val S1x256x1024 e)) (a : Fin 256) (b : Fin 1024) (x y : Fin 128) (h1 : a.val = o1 + x.val) (h2 : b.val = o2 + y.val) :
    v.read Val (v.writes Val f (⟨Rect.unit (s := S1x256x1024) ![0, o1, o2] S1x128x128.size inb, w⟩ :: L)) (ix3 (0 : Fin 1) a b)
      = w (ix3 (0 : Fin 1) x y) :=
  View.read_writes_cons_unit_of_mem v f inb w L _ _ rfl (dist3 rfl h1 h2)

theorem tile_skip1 (v : View sig κ sp S1x256x1024 e) (f : v.ty.Contents Val) {o1 o2 : ℕ}
    (inb : ∀ c, (![0, o1, o2] : Fin 3 → ℕ) c + S1x128x128.size c ≤ S1x256x1024.size c)
    (w : (Rect.unit (s := S1x256x1024) ![0, o1, o2] S1x128x128.size inb).shape.Idx → Val e)
    (L : List (View.Piece Val S1x256x1024 e)) (a : Fin 256) (b : Fin 1024) (h : a.val < o1 ∨ o1 + 128 ≤ a.val) :
    v.read Val (v.writes Val f (⟨Rect.unit (s := S1x256x1024) ![0, o1, o2] S1x128x128.size inb, w⟩ :: L)) (ix3 (0 : Fin 1) a b)
      = v.read Val (v.writes Val f L) (ix3 (0 : Fin 1) a b) :=
  View.read_writes_cons_unit_of_not_mem v f inb w L _ rfl (1 : Fin 3) h

theorem tile_skip2 (v : View sig κ sp S1x256x1024 e) (f : v.ty.Contents Val) {o1 o2 : ℕ}
    (inb : ∀ c, (![0, o1, o2] : Fin 3 → ℕ) c + S1x128x128.size c ≤ S1x256x1024.size c)
    (w : (Rect.unit (s := S1x256x1024) ![0, o1, o2] S1x128x128.size inb).shape.Idx → Val e)
    (L : List (View.Piece Val S1x256x1024 e)) (a : Fin 256) (b : Fin 1024) (h : b.val < o2 ∨ o2 + 128 ≤ b.val) :
    v.read Val (v.writes Val f (⟨Rect.unit (s := S1x256x1024) ![0, o1, o2] S1x128x128.size inb, w⟩ :: L)) (ix3 (0 : Fin 1) a b)
      = v.read Val (v.writes Val f L) (ix3 (0 : Fin 1) a b) :=
  View.read_writes_cons_unit_of_not_mem v f inb w L _ rfl (2 : Fin 3) h

end Tile

section Result

variable (c : Dev nD) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x8x2x128x128 .bf16) (harg7 : arg7.IsWhole) (arg8 : Memref sig .tc .vmem S1x4096x1024 .bf16) (harg8 : arg8.IsWhole) (arg9 : Memref sig .tc .vmem S1x8x16x144x256 .bf16) (harg9 : arg9.IsWhole) (arg10 : Memref sig .tc .vmem S128x1024 .bf16) (harg10 : arg10.IsWhole) (arg11 : Memref sig .tc .vmem S8x144x128 .bf16) (harg11 : arg11.IsWhole) (arg12 : Memref sig .tc .vmem S1x256x1024 .f32) (harg12 : arg12.IsWhole) (arg13 : Memref sig .tc .vmem S1x256x1024 .f32) (harg13 : arg13.IsWhole) (arg14 : Memref sig .tc .vmem S1x256x1024 .bf16) (harg14 : arg14.IsWhole) (arg15 : Memref sig .tc .vmem S16x128x256 .bf16) (harg15 : arg15.IsWhole) (arg16 : Memref sig .tc .vmem S16x1x256 .f32) (harg16 : arg16.IsWhole) (arg17 : Memref sig .tc .vmem S16x144x256 .f32) (harg17 : arg17.IsWhole)
  (x0 x1 x2 x3 : Vec Ideal S1x64 .f32) (x4 : Vec Ideal S1x8x2x128x128 .bf16) (x5 : Vec Ideal S1x4096x1024 .bf16) (x6 : Vec Ideal S1x8x16x144x256 .bf16)
  (x7 : Vec Ideal S128x1024 .bf16) (x8 : Vec Ideal S8x144x128 .bf16) (x9 x10 : Vec Ideal S1x256x1024 .f32)

set_option maxHeartbeats 8000000 in
/-- The block of the result. -/
theorem result (S : Fin 16 → Fin 256 → ℕ → EReal) (V : Fin 16 → Fin 144 → ℕ → EReal)
    (hS : ∀ u j k, S u j k ≠ ⊤) (h0 : ∀ u j, S u j 0 ≠ ⊥)
    (hs0 : ∀ u j (k : Fin 16), dotMeta x4 x7 u j k = S u j k.val)
    (hv0 : ∀ u e (k : Fin 16), x8 (ix3 (hd u) e (k.castLE (by norm_num))) = V u e k.val)
    (hs1 : ∀ u j (p : Fin 4096), p.val < 256 * (i 2).val → dotKey x4 x5 u j p = S u j (16 + p.val))
    (hs2 : ∀ u j (k : Fin 256), (if k.val ≤ j.val % 128 + 128 * (half u).val then
        dotKey x4 x5 u j ⟨256 * (i 2).val + k.val, by have : (i 2).val < 16 := (i 2).isLt; omega⟩ else ⊥) = S u j (16 + 256 * (i 2).val + k.val))
    (hv1 : ∀ u e (b : Fin 16) (k' : Fin 256), x6 (ix5 0 (hd u) b e k') = V u e (16 + (256 * b.val + k'.val)))
    (u : Fin 16) (p e : Fin 128) :
    out0_A_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 (ix3 0 (row u p) (col u e))
      = gated (differ (lambda x0 x1 x2 x3) (fun e' j => Softmax.acc (S u j) (V u (e'.castLE (by norm_num))) (16 + 256 * (i 2).val + 128 * ((half u).val + 1)))
          (fun j => Softmax.acc (S u j) (V u ⟨128, by norm_num⟩) (16 + 256 * (i 2).val + 128 * ((half u).val + 1))) p) e
          (x10 (ix3 0 (row u p) (col u e))) (x9 (ix3 0 (row u p) (col u e))) := by
  have hD := diag c i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 x8 S V hS h0 hs0 hv0 hs1 hs2 hv1
  have hlam : kernelRun0_A.sl.r_191 (F := Ideal) c arg3 harg3 arg4 harg4 arg5 harg5 arg6 harg6 x0 x1 x2 x3 (ix2 0 0) = lambda x0 x1 x2 x3 := by
    refine (lambda_apply _ _ _ _).trans ?_
    unfold lambda
    congr 3 <;> refine Finset.sum_congr rfl fun d _ => congrArg₂ (· * ·) ?_ ?_
    · exact (readAt_unit _ _ _ _ (ix2 0 d) (dist2 rfl (Nat.zero_add _).symm)).trans (congrFun (harg3.read_unread x0) _)
    · exact (readAt_unit _ _ _ _ (ix2 0 d) (dist2 rfl (Nat.zero_add _).symm)).trans (congrFun (harg4.read_unread x1) _)
    · exact (readAt_unit _ _ _ _ (ix2 0 d) (dist2 rfl (Nat.zero_add _).symm)).trans (congrFun (harg5.read_unread x2) _)
    · exact (readAt_unit _ _ _ _ (ix2 0 d) (dist2 rfl (Nat.zero_add _).symm)).trans (congrFun (harg6.read_unread x3) _)
  unfold kernelRun0_A.sl.r_191 at hlam
  have hout := @out_apply
  unfold k0_pay672 at hout
  dsimp only at hout
  unfold out0_A_11
  fin_cases u
  · refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)
  · refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)
  · refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)
  · refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)
  · refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)
  · refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)
  · refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)
  · refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)
  · refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)
  · refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)
  · refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)
  · refine (tile_skip2 _ _ _ _ _ _ _ (by simp only [col]; omega)).trans ?_
    refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)
  · refine (tile_skip1 _ _ _ _ _ _ _ (by simp only [row, half]; omega)).trans ?_
    refine (tile_skip2 _ _ _ _ _ _ _ (by simp only [col]; omega)).trans ?_
    refine (tile_skip1 _ _ _ _ _ _ _ (by simp only [row, half]; omega)).trans ?_
    refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)
  · refine (tile_skip2 _ _ _ _ _ _ _ (by simp only [col]; omega)).trans ?_
    refine (tile_skip1 _ _ _ _ _ _ _ (by simp only [row, half]; omega)).trans ?_
    refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)
  · refine (tile_skip1 _ _ _ _ _ _ _ (by simp only [row, half]; omega)).trans ?_
    refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)
  · refine (tile_hit _ _ _ _ _ _ _ p e rfl rfl).trans ?_
    try dsimp only [kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214]
    unfold_payloads
    refine hout _ _ _ _ _ p e _ _ _ _ _ hlam (fun e' j => Eq.trans ?_ (hD _ (Fin.castLE (by norm_num) e') j)) (fun j => Eq.trans ?_ (hD _ ⟨128, by norm_num⟩ j))
      (Eq.trans ?_ (congrFun (harg13.read_unread x10) _)) (Eq.trans ?_ (congrFun (harg12.read_unread x9) _))
    · exact readAt_unit _ _ _ _ _ (dist3 rfl
        (show (Fin.castLE (by norm_num) e' : Fin 144).val = 0 + (Fin.castLE (by norm_num) e' : Fin 144).val from (Nat.zero_add _).symm)
        (Nat.zero_add _).symm)
    · exact readAt_unit _ _ _ _ _ (dist3 rfl rfl (Nat.zero_add _).symm)
    · exact readAt_unit _ _ _ _ _ (dist3 rfl rfl rfl)
    · exact readAt_unit _ _ _ _ _ (dist3 rfl rfl rfl)

end Result

end Cert.KernelIdeal.Out
-- ==== Proof.Spec.lean ====
module

public import proofs.«01_k».proof.Proof.Softmax
public import proofs.«01_k».proof.ReferenceIdeal
public import Idealize.ShloMosaic.Lib.Pointwise

/-!
# Differential attention

The layer's attention as one formula over its arguments: the scores of the keys that come before a query, the softmax of
each of the two maps, their difference, its normalisation and gate.
-/

@[expose] public section

noncomputable section

namespace Cert.Spec

open Cert.ReferenceIdeal
open Idealize.ShloMosaic

variable (q k : S16x4096x8x2x64.Idx → EReal) (kMeta : S16x8x2x64.Idx → EReal)
variable (vMeta : S16x8x128.Idx → EReal) (v : S16x4096x8x128.Idx → EReal)

/-- Feature `d` of key `l`: the sixteen meta tokens come first. -/
def key (b : Fin 16) (h : Fin 8) (s : Fin 2) (l : ℕ) (d : Fin 64) : EReal :=
  if hl : l < 16 then kMeta (ix4 ⟨l, hl⟩ h s d) else if hl : l < 4112 then k (ix5 b ⟨l - 16, by omega⟩ h s d) else 0

/-- Feature `e` of value `l`. -/
def value (b : Fin 16) (h : Fin 8) (l : ℕ) (e : Fin 128) : EReal :=
  if hl : l < 16 then vMeta (ix3 ⟨l, hl⟩ h e) else if hl : l < 4112 then v (ix4 b ⟨l - 16, by omega⟩ h e) else 0

/-- The score of key `l` for query `n`, no score for a key that comes later. -/
def score (b : Fin 16) (h : Fin 8) (s : Fin 2) (n : Fin 4096) (l : ℕ) : EReal :=
  if l ≤ n.val + 16 then (∑ d : Fin 64, q (ix5 b n h s d) * key k kMeta b h s l d) * Ideal.ofBits .f32 0x3E000000#32 else ⊥

/-- The values weighted by the softmax of the scores of map `s`. -/
def mix (b : Fin 16) (h : Fin 8) (s : Fin 2) (n : Fin 4096) (e : Fin 128) : EReal :=
  ∑ l ∈ Finset.range 4112, Softmax.weight (score q k kMeta b h s n) 4112 l * value vMeta v b h l e

/-- The factor of the second map. -/
def lambda (x0 x1 x2 x3 : S1x64.Idx → EReal) : EReal :=
  Ideal.exp (∑ d : Fin 64, x0 (ix2 0 d) * x1 (ix2 0 d)) - Ideal.exp (∑ d : Fin 64, x2 (ix2 0 d) * x3 (ix2 0 d))
    + Ideal.ofBits .f32 0x3E4CCCCD#32

/-- The difference of the maps. -/
def differ (lm : EReal) (b : Fin 16) (h : Fin 8) (n : Fin 4096) (e : Fin 128) : EReal :=
  mix q k kMeta vMeta v b h 0 n e - lm * mix q k kMeta vMeta v b h 1 n e

/-- A feature, normalised over its head's features. -/
def normal (D : Fin 128 → EReal) (e : Fin 128) : EReal :=
  D e * Ideal.rsqrt (Ideal.div (∑ e' : Fin 128, D e' * D e') (Ideal.ofBits .f32 0x43000000#32)
    + Ideal.ofBits .f32 0x358637BD#32)

/-- The gate of an entry. -/
def gate (gb norm : EReal) : EReal :=
  Ideal.div (Ideal.ofBits .f32 0x3F800000#32) (Ideal.ofBits .f32 0x3F800000#32 + Ideal.exp (-gb))
    * (norm * Ideal.ofBits .f32 0x3F4CCCCD#32)

/-- The result's entry at batch `b`, token `n`, head `h`, feature `e`. -/
def out (x5 x6 x7 x8 : S1x64.Idx → EReal) (norm : S1x128.Idx → EReal) (gb y : S16x4096x1024.Idx → EReal)
    (b : Fin 16) (n : Fin 4096) (x : Fin 1024) : EReal :=
  y (ix3 b n x)
    + normal (differ q k kMeta vMeta v (lambda x5 x6 x7 x8) b ⟨x.val / 128, by omega⟩ n) ⟨x.val % 128, by omega⟩
      * gate (gb (ix3 b n x)) (norm (ix2 0 ⟨x.val % 128, by omega⟩))

end Cert.Spec
-- ==== Proof.Rows.lean ====
module

public import proofs.«01_k».proof.Proof.Windows
public import proofs.«01_k».proof.Proof.Out
public import proofs.«01_k».proof.Proof.Spec

/-!
# What a unit computes is the specification

The scores a unit forms are the specification's scores over `log 2`, and its values are the specification's values.
-/

@[expose] public section

set_option maxRecDepth 16384

noncomputable section

namespace Cert.KernelIdeal.Rows

open Cert.KernelIdeal Cert.KernelIdeal.Gen Cert.KernelIdeal.Host Cert.KernelIdeal.Windows
open Cert.KernelIdeal.Units Cert.KernelIdeal.Start Cert.KernelIdeal.Diag
open Idealize.ShloMosaic Idealize.ShloMosaic.TcCoe Idealize.ShloMosaic.Tactic

/-! ### Numbers -/

/-- Every element of the array is a real. -/
def Real' {ι : Type} (f : ι → EReal) : Prop := ∀ i, ∃ r : ℝ, f i = r

theorem two_word : Ideal.ofBits .f32 0x40000000#32 = ((2 : ℝ) : EReal) := by
  simp [Ideal.ofBits, Ideal.ieee, -EReal.coe_mul]; norm_num

theorem eighth_word : Ideal.ofBits .f32 0x3E000000#32 = (((1 : ℝ) / 8 : ℝ) : EReal) := by
  simp [Ideal.ofBits, Ideal.ieee, -EReal.coe_mul]; norm_num

theorem scale_eq : scale = (((1 : ℝ) / 8 : ℝ) : EReal) * (Softmax.invLog2 : EReal) := by
  have h2 : Real.log 2 ≠ 0 := (Real.log_pos one_lt_two).ne'
  have hl : Ideal.log ((2 : ℝ) : EReal) = ((Real.log 2 : ℝ) : EReal) := if_neg (by norm_num)
  rw [scale, two_word, eighth_word, hl, Ideal.div_coe h2, Softmax.invLog2, one_div (Real.log 2)]

/-- Only the features of the query's own map enter its score. -/
theorem dot_half (f g : Fin 128 → EReal) (j : Fin 256) :
    ∑ d : Fin 128, f d * (if d.val < 64 ↔ j.val < 128 then g d else 0)
      = ∑ d : Fin 64, f ⟨64 * (j.val / 128) + d.val, by omega⟩ * g ⟨64 * (j.val / 128) + d.val, by omega⟩ := by
  refine (Fin.sum_univ_add (a := 64) (b := 64) _).trans ?_
  by_cases hj : j.val < 128
  · refine Eq.trans (congrArg₂ (· + ·) (Finset.sum_congr rfl fun d _ => ?_) (Finset.sum_eq_zero fun d _ => ?_)) (add_zero _)
    · rw [if_pos (iff_of_true (show (Fin.castAdd 64 d).val < 64 from d.isLt) hj)]
      have e : Fin.castAdd 64 d = (⟨64 * (j.val / 128) + d.val, by omega⟩ : Fin 128) :=
        Fin.ext (by show d.val = 64 * (j.val / 128) + d.val; omega)
      rw [e]
    · rw [if_neg (fun h => absurd (h.2 hj) (by show ¬(64 + d.val < 64); omega)), mul_zero]
  · refine Eq.trans (congrArg₂ (· + ·) (Finset.sum_eq_zero fun d _ => ?_) (Finset.sum_congr rfl fun d _ => ?_)) (zero_add _)
    · rw [if_neg (fun h => hj (h.1 (show (Fin.castAdd 64 d).val < 64 from d.isLt))), mul_zero]
    · rw [if_pos (iff_of_false (by show ¬(64 + d.val < 64); omega) hj)]
      have e : Fin.natAdd 64 d = (⟨64 * (j.val / 128) + d.val, by omega⟩ : Fin 128) :=
        Fin.ext (by show 64 + d.val = 64 * (j.val / 128) + d.val; have := j.isLt; omega)
      rw [e]

/-- A sum of scaled products, the factor taken out. -/
theorem sum_scale (f g : Fin 64 → EReal) :
    ∑ d : Fin 64, f d * (g d * scale)
      = (∑ d : Fin 64, g d * f d) * Ideal.ofBits .f32 0x3E000000#32 * (Softmax.invLog2 : EReal) := by
  have h0 : (0 : EReal) ≤ scale := by
    rw [scale_eq, ← EReal.coe_mul]
    exact_mod_cast mul_nonneg (by norm_num) Softmax.invLog2_pos.le
  have ht : scale ≠ ⊤ := by rw [scale_eq, ← EReal.coe_mul]; exact EReal.coe_ne_top _
  rw [mul_assoc, eighth_word, ← scale_eq, Softmax.sum_mul _ _ h0 ht]
  refine Finset.sum_congr rfl fun d _ => ?_
  rw [← mul_assoc, mul_comm (f d)]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The specification's scores are finite or masked -/

section Finite
variable {q k : S16x4096x8x2x64.Idx → EReal} {kMeta : S16x8x2x64.Idx → EReal}
variable (hq : Real' q) (hk : Real' k) (hm : Real' kMeta)
include hq hk hm

theorem score_real (b : Fin 16) (h : Fin 8) (s : Fin 2) (n : Fin 4096) (l : ℕ) (hl : l ≤ n.val + 16) :
    ∃ r : ℝ, Spec.score q k kMeta b h s n l = r := by
  have hkey : ∀ d, ∃ r : ℝ, Spec.key k kMeta b h s l d = r := fun d => by
    unfold Spec.key
    split
    · exact hm _
    · split
      · exact hk _
      · exact ⟨0, rfl⟩
  choose kr hkr using hkey
  choose qr hqr using hq
  refine ⟨(∑ d : Fin 64, qr (ix5 b n h s d) * kr d) * (1 / 8), ?_⟩
  rw [Spec.score, if_pos hl, eighth_word, EReal.coe_mul]
  refine congrArg (· * _) ?_
  simp only [hkr, hqr, ← EReal.coe_mul]
  exact (coe_sum _ _).symm

theorem score_ne_top (b : Fin 16) (h : Fin 8) (s : Fin 2) (n : Fin 4096) (l : ℕ) :
    Spec.score q k kMeta b h s n l ≠ ⊤ := by
  by_cases hl : l ≤ n.val + 16
  · obtain ⟨r, hr⟩ := score_real hq hk hm b h s n l hl
    rw [hr]; exact EReal.coe_ne_top r
  · rw [Spec.score, if_neg hl]; exact bot_ne_top

theorem score_zero (b : Fin 16) (h : Fin 8) (s : Fin 2) (n : Fin 4096) :
    Spec.score q k kMeta b h s n 0 ≠ ⊥ := by
  obtain ⟨r, hr⟩ := score_real hq hk hm b h s n 0 (Nat.zero_le _)
  rw [hr]; exact EReal.coe_ne_bot r

end Finite

theorem scaled_ne_top {x : EReal} (h : x ≠ ⊤) : x * (Softmax.invLog2 : EReal) ≠ ⊤ := by
  induction x with
  | bot => rw [EReal.bot_mul_coe_of_pos Softmax.invLog2_pos]; exact bot_ne_top
  | top => exact absurd rfl h
  | coe r => rw [← EReal.coe_mul]; exact EReal.coe_ne_top _

theorem scaled_ne_bot {x : EReal} (h : x ≠ ⊥) (ht : x ≠ ⊤) : x * (Softmax.invLog2 : EReal) ≠ ⊥ := by
  induction x with
  | bot => exact absurd rfl h
  | top => exact absurd rfl ht
  | coe r => rw [← EReal.coe_mul]; exact EReal.coe_ne_bot _

/-! ### A grid point's scores and values -/

variable (m : (ℓ : Loc nD τ sig) → Buf (Elt Ideal) ℓ) (c : Dev nD) (t : Fin cfg0.N)

/-- The query of row `j` of unit `u`. -/
def qry (u : Fin 16) (j : Fin 256) : Fin 4096 :=
  ⟨256 * (til t).val + 128 * (half u).val + j.val % 128, by have := (til t).isLt; have := (half u).isLt; omega⟩

/-- The map of row `j`. -/
def mp (j : Fin 256) : Fin 2 := ⟨j.val / 128, by omega⟩

/-- The specification's score of row `j` of unit `u`. -/
def sc (u : Fin 16) (j : Fin 256) : ℕ → EReal :=
  Spec.score (q m c) (k m c) (kMeta m c) (bat t) (hd u) (mp j) (qry t u j)

theorem qb_eq (u : Fin 16) (d : Fin 128) (j : Fin 256) :
    qb (iblk m c 4 t) u d j = if d.val < 64 ↔ j.val < 128 then
      q m c (ix5 (bat t) (qry t u j) (hd u) ⟨d.val / 64, by omega⟩ ⟨d.val % 64, by omega⟩) * scale else 0 := by
  rw [qb]
  refine if_congr Iff.rfl ?_ rfl
  rw [blk4, Host.queries]
  congr 2
  apply congrArg (fun n => ix5 (bat t) n (hd u) _ _)
  apply Fin.ext
  show ((til t).val * 2 + (half u).val) * 128 + j.val % 128 = 256 * (til t).val + 128 * (half u).val + j.val % 128
  ring

/-- The scores a unit forms against keys `f`. -/
theorem dot_eq (u : Fin 16) (j : Fin 256) (f : Fin 128 → EReal) (l : ℕ) (hl : l ≤ (qry t u j).val + 16)
    (hf : ∀ d : Fin 64, f ⟨64 * (j.val / 128) + d.val, by omega⟩ = Spec.key (k m c) (kMeta m c) (bat t) (hd u) (mp j) l d) :
    ∑ d : Fin 128, f d * qb (iblk m c 4 t) u d j = sc m c t u j l * (Softmax.invLog2 : EReal) := by
  simp only [qb_eq]
  refine (dot_half f (fun d => q m c (ix5 (bat t) (qry t u j) (hd u) ⟨d.val / 64, by omega⟩ ⟨d.val % 64, by omega⟩) * scale) j).trans ?_
  rw [sc, Spec.score, if_pos hl]
  refine Eq.trans ?_ (sum_scale (fun d => Spec.key (k m c) (kMeta m c) (bat t) (hd u) (mp j) l d)
    (fun d => q m c (ix5 (bat t) (qry t u j) (hd u) (mp j) d)))
  refine Finset.sum_congr rfl fun d _ => ?_
  rw [hf]
  refine congrArg (fun z => _ * (z * scale)) ?_
  refine congrArg (q m c) ?_
  refine congrArg₂ (fun a b => ix5 (bat t) (qry t u j) (hd u) a b) (Fin.ext ?_) (Fin.ext ?_)
  · show (64 * (j.val / 128) + d.val) / 64 = j.val / 128
    omega
  · show (64 * (j.val / 128) + d.val) % 64 = d.val
    omega

theorem dotMeta_eq (u : Fin 16) (j : Fin 256) (l : Fin 16) :
    dotMeta (iblk m c 4 t) (iblk m c 7 t) u j l = sc m c t u j l.val * (Softmax.invLog2 : EReal) := by
  refine dot_eq m c t u j _ l.val (by omega) fun d => ?_
  rw [blk7, keysMeta _ _ _ l.isLt, Spec.key, dif_pos l.isLt]
  refine congrArg (kMeta m c) ?_
  have := j.isLt
  have hu := u.isLt
  have h1 : (128 * (u.val / 2) + (64 * (j.val / 128) + d.val)) / 128 = u.val / 2 := by omega
  have h2 : (128 * (u.val / 2) + (64 * (j.val / 128) + d.val)) / 64 % 2 = j.val / 128 := by omega
  have h3 : (128 * (u.val / 2) + (64 * (j.val / 128) + d.val)) % 64 = d.val := by omega
  funext a
  fin_cases a
  · rfl
  · exact Fin.ext h1
  · exact Fin.ext h2
  · exact Fin.ext h3

theorem dotKey_eq (u : Fin 16) (j : Fin 256) (p : Fin 4096) (hp : p.val ≤ (qry t u j).val) :
    dotKey (iblk m c 4 t) (iblk m c 5 t) u j p = sc m c t u j (16 + p.val) * (Softmax.invLog2 : EReal) := by
  refine dot_eq m c t u j _ (16 + p.val) (by omega) fun d => ?_
  rw [blk5, keys, Spec.key, dif_neg (by omega), dif_pos (by omega)]
  refine congrArg (k m c) ?_
  have := j.isLt
  have hu := u.isLt
  have h0 : p.val = 16 + p.val - 16 := by omega
  have h1 : (128 * (u.val / 2) + (64 * (j.val / 128) + d.val)) / 128 = u.val / 2 := by omega
  have h2 : (128 * (u.val / 2) + (64 * (j.val / 128) + d.val)) / 64 % 2 = j.val / 128 := by omega
  have h3 : (128 * (u.val / 2) + (64 * (j.val / 128) + d.val)) % 64 = d.val := by omega
  funext a
  fin_cases a
  · rfl
  · exact Fin.ext h0
  · exact Fin.ext h1
  · exact Fin.ext h2
  · exact Fin.ext h3

/-- The values of unit `u`, row `e` of them; row 128 counts the keys. -/
def vl (u : Fin 16) (e : Fin 144) (l : ℕ) : EReal :=
  if hl : l < 16 then (iblk m c 8 t : S8x144x128.Idx → EReal) (ix3 (hd u) e ⟨l, by omega⟩)
  else if hl' : l < 4112 then
    (iblk m c 6 t : S1x8x16x144x256.Idx → EReal) (ix5 0 (hd u) ⟨(l - 16) / 256, by omega⟩ e ⟨(l - 16) % 256, by omega⟩)
  else if e.val = 128 then 1 else 0

theorem vl_value (u : Fin 16) (e : Fin 128) :
    vl m c t u (e.castLE (by norm_num)) = fun l => Spec.value (vMeta m c) (v m c) (bat t) (hd u) l e := by
  funext l
  rw [vl, Spec.value]
  by_cases h : l < 16
  · rw [dif_pos h, dif_pos h, blk8]
    exact valuesMeta m c (hd u) e ⟨l, by omega⟩ h
  · rw [dif_neg h, dif_neg h]
    by_cases h' : l < 4112
    · rw [dif_pos h', dif_pos h', blk6]
      refine (values m c (bat t) (hd u) ⟨(l - 16) / 256, by omega⟩ e ⟨(l - 16) % 256, by omega⟩).trans (congrArg (v m c) ?_)
      refine congrArg (fun n => ix4 (bat t) n (hd u) e) (Fin.ext ?_)
      show (l - 16) / 256 * 256 + (l - 16) % 256 = l - 16
      omega
    · rw [dif_neg h', dif_neg h', if_neg (by show ¬(e.val = 128); omega)]

theorem vl_one (u : Fin 16) : vl m c t u ⟨128, by norm_num⟩ = fun _ => 1 := by
  funext l
  rw [vl]
  by_cases h : l < 16
  · rw [dif_pos h, blk8]
    exact (valuesMetaOne m c (hd u) ⟨l, by omega⟩).trans Out.one_word
  · rw [dif_neg h]
    by_cases h' : l < 4112
    · rw [dif_pos h', blk6]
      exact (valuesOne m c (bat t) (hd u) ⟨(l - 16) / 256, by omega⟩ ⟨(l - 16) % 256, by omega⟩).trans Out.one_word
    · rw [dif_neg h', if_pos rfl]

end Cert.KernelIdeal.Rows
-- ==== Proof.Equation.lean ====
module

public import proofs.«01_k».proof.Proof.Rows

/-!
# The result array

Every entry of the kernel's result array is the specification's.
-/

@[expose] public section

set_option maxRecDepth 16384

noncomputable section

namespace Cert.KernelIdeal.Equation

open Cert.KernelIdeal Cert.KernelIdeal.Gen Cert.KernelIdeal.Host Cert.KernelIdeal.Windows Cert.KernelIdeal.Rows
open Cert.KernelIdeal.Units Cert.KernelIdeal.Diag
open Idealize.ShloMosaic Idealize.ShloMosaic.TcCoe Idealize.ShloMosaic.Tactic

variable (m : (ℓ : Loc nD τ sig) → Buf (Elt Ideal) ℓ) (c : Dev nD) (t : Fin cfg0.N)

/-- The lambda arrays and the retention's part. -/
abbrev l5 : S1x64.Idx → EReal := m ((c : Thread nD τ).loc main_arg5)
abbrev l6 : S1x64.Idx → EReal := m ((c : Thread nD τ).loc main_arg6)
abbrev l7 : S1x64.Idx → EReal := m ((c : Thread nD τ).loc main_arg7)
abbrev l8 : S1x64.Idx → EReal := m ((c : Thread nD τ).loc main_arg8)
abbrev yr : S16x4096x1024.Idx → EReal := m ((c : Thread nD τ).loc main_arg11)

/-- The specification at the kernel's arguments. -/
abbrev spec (b : Fin 16) (n : Fin 4096) (x : Fin 1024) : EReal :=
  Spec.out (q m c) (k m c) (kMeta m c) (vMeta m c) (v m c) (l5 m c) (l6 m c) (l7 m c) (l8 m c) (norm m c) (gb m c) (yr m c) b n x

/-- How many keys a unit has seen. -/
abbrev seen (u : Fin 16) : ℕ := 16 + 256 * (til t).val + 128 * ((half u).val + 1)

theorem masked (u : Fin 16) (j : Fin 256) (l : ℕ) (h : ¬ l ≤ (qry t u j).val + 16) : sc m c t u j l = ⊥ := if_neg h

section Finite
variable (hq : Real' (q m c)) (hk : Real' (k m c)) (hm : Real' (kMeta m c))
include hq hk hm

/-- A unit's weighted sum over its sum of weights is the specification's mix. -/
theorem mix_eq (u : Fin 16) (j : Fin 256) (e : Fin 128) :
    Softmax.acc (fun l => sc m c t u j l * (Softmax.invLog2 : EReal)) (vl m c t u (e.castLE (by norm_num))) (seen t u)
        * Ideal.div 1 (Softmax.acc (fun l => sc m c t u j l * (Softmax.invLog2 : EReal)) (vl m c t u ⟨128, by norm_num⟩) (seen t u))
      = Spec.mix (q m c) (k m c) (kMeta m c) (vMeta m c) (v m c) (bat t) (hd u) (mp j) (qry t u j) e := by
  rw [vl_value, vl_one]
  refine Softmax.acc_div (N := 4112) (score_ne_top hq hk hm _ _ _ _) (score_zero hq hk hm _ _ _ _) (by unfold seen; omega) ?_ fun l hl => masked m c t u j l ?_
  · have := (til t).isLt; have := (half u).isLt
    show 16 + 256 * (til t).val + 128 * ((half u).val + 1) ≤ 4112
    omega
  · show ¬ l ≤ 256 * (til t).val + 128 * (half u).val + j.val % 128 + 16
    have : 16 + 256 * (til t).val + 128 * ((half u).val + 1) ≤ l := hl
    omega

theorem block (u : Fin 16) (p e : Fin 128) :
    (outsAt0 m c t : S1x256x1024.Idx → EReal) (ix3 0 (Out.row u p) (col u e))
      = spec m c (bat t) ⟨(til t).val * 256 + (Out.row u p).val, by have := (til t).isLt; have := (Out.row u p).isLt; omega⟩ (col u e) := by
  refine (Out.result c (grid0.coords t) _ (hs0_0 t) _ (hs0_1 t) _ (hs0_2 t) _ (hs0_3 t) _ (hs0_4 t) _ (hs0_5 t) _ (hs0_6 t) _ (hs0_7 t)
    _ (hs0_8 t) _ (hs0_9 t) _ (hs0_10 t) _ (hs0_11 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t)
    (fun u j l => sc m c t u j l * (Softmax.invLog2 : EReal)) (vl m c t) ?_ ?_ ?_ ?_ ?_ ?_ ?_ u p e).trans ?_
  · exact fun u j l => scaled_ne_top (score_ne_top hq hk hm _ _ _ _ _)
  · exact fun u j => scaled_ne_bot (score_zero hq hk hm _ _ _ _) (score_ne_top hq hk hm _ _ _ _ _)
  · exact fun u j l => dotMeta_eq m c t u j l
  · intro u e l
    rw [vl, dif_pos l.isLt]
    rfl
  · exact fun u j p hp => dotKey_eq m c t u j p (by
      show p.val ≤ 256 * (til t).val + 128 * (half u).val + j.val % 128
      have : p.val < 256 * (til t).val := hp
      omega)
  · intro u j l
    have hl := l.isLt
    by_cases h : l.val ≤ j.val % 128 + 128 * (half u).val
    · rw [if_pos h]
      refine (dotKey_eq m c t u j _ ?_).trans ?_
      · show 256 * (til t).val + l.val ≤ 256 * (til t).val + 128 * (half u).val + j.val % 128
        omega
      · exact congrArg (fun n => sc m c t u j n * (Softmax.invLog2 : EReal)) (Nat.add_assoc _ _ _).symm
    · rw [if_neg h]
      refine Eq.symm ((congrArg (· * (Softmax.invLog2 : EReal)) (masked m c t u j _ ?_)).trans (EReal.bot_mul_coe_of_pos Softmax.invLog2_pos))
      show ¬ 16 + 256 * (til t).val + l.val ≤ 256 * (til t).val + 128 * (half u).val + j.val % 128 + 16
      omega
  · intro u e b k'
    have hb := b.isLt
    have hk' := k'.isLt
    rw [vl, dif_neg (by omega), dif_pos (by omega)]
    have h1 : b.val = (16 + (256 * b.val + k'.val) - 16) / 256 := by omega
    have h2 : k'.val = (16 + (256 * b.val + k'.val) - 16) % 256 := by omega
    exact congrArg₂ (fun x y => (iblk m c 6 t : S1x8x16x144x256.Idx → EReal) (ix5 0 (hd u) x e y)) (Fin.ext h1) (Fin.ext h2)
  have hu := u.isLt
  have hp := p.isLt
  have he := e.isLt
  have hlam : Out.lambda (iblk m c 0 t) (iblk m c 1 t) (iblk m c 2 t) (iblk m c 3 t) = Spec.lambda (l5 m c) (l6 m c) (l7 m c) (l8 m c) := by
    unfold Out.lambda Spec.lambda
    simp only [blk0, blk1, blk2, blk3]
    rw [V_main_arg5, V_main_arg6, V_main_arg7, V_main_arg8]
  have hn : (⟨(til t).val * 256 + (Out.row u p).val, by have := (til t).isLt; have := (Out.row u p).isLt; omega⟩ : Fin 4096) = qry t u ⟨p.val, by omega⟩ := by
    apply Fin.ext
    show (til t).val * 256 + (128 * (half u).val + p.val) = 256 * (til t).val + 128 * (half u).val + p.val % 128
    rw [Nat.mod_eq_of_lt hp]; ring
  have hn' : qry t u ⟨128 + p.val, by omega⟩ = qry t u ⟨p.val, by omega⟩ := by
    apply Fin.ext
    show 256 * (til t).val + 128 * (half u).val + (128 + p.val) % 128 = 256 * (til t).val + 128 * (half u).val + p.val % 128
    omega
  have hx : (⟨(col u e).val / 128, by have := (col u e).isLt; omega⟩ : Fin 8) = hd u :=
    Fin.ext (by show (128 * (u.val / 2) + e.val) / 128 = u.val / 2; omega)
  have hx' : (⟨(col u e).val % 128, by omega⟩ : Fin 128) = e :=
    Fin.ext (by show (128 * (u.val / 2) + e.val) % 128 = e.val; omega)
  have hD : ∀ e', Out.differ (Out.lambda (iblk m c 0 t) (iblk m c 1 t) (iblk m c 2 t) (iblk m c 3 t))
      (fun e' j => Softmax.acc (fun l => sc m c t u j l * (Softmax.invLog2 : EReal)) (vl m c t u (e'.castLE (by norm_num))) (seen t u))
      (fun j => Softmax.acc (fun l => sc m c t u j l * (Softmax.invLog2 : EReal)) (vl m c t u ⟨128, by norm_num⟩) (seen t u)) p e'
      = Spec.differ (q m c) (k m c) (kMeta m c) (vMeta m c) (v m c) (Spec.lambda (l5 m c) (l6 m c) (l7 m c) (l8 m c)) (bat t) (hd u)
        (qry t u ⟨p.val, by omega⟩) e' := fun e' => by
    have hm0 : mp ⟨p.val, by omega⟩ = 0 := Fin.ext (by show p.val / 128 = 0; omega)
    have hm1 : mp ⟨128 + p.val, by omega⟩ = 1 := Fin.ext (by show (128 + p.val) / 128 = 1; omega)
    unfold Out.differ Spec.differ
    rw [mix_eq m c t hq hk hm, mix_eq m c t hq hk hm, hlam, hn', hm0, hm1]
  refine (congrArg (fun D => Out.gated D e _ _) (funext hD)).trans ?_
  unfold spec Spec.out
  rw [hn, hx, hx', blk9, blk10, gates, V_main_arg11, hn, hx']
  rfl

/-- The kernel's result array. -/
theorem array : ((dats m 0 c).arrAt 11 cfg0.N : S16x4096x1024.Idx → EReal) = fun y => spec m c (y 0) (y 1) (y 2) := by
  refine final m c _ fun t r x => ?_
  have hr := r.isLt
  have hx := x.isLt
  have h1 : r = Out.row ⟨x.val / 128 * 2 + r.val / 128, by omega⟩ ⟨r.val % 128, by omega⟩ :=
    Fin.ext (by show r.val = 128 * ((x.val / 128 * 2 + r.val / 128) % 2) + r.val % 128; omega)
  have h2 : x = col ⟨x.val / 128 * 2 + r.val / 128, by omega⟩ ⟨x.val % 128, by omega⟩ :=
    Fin.ext (by show x.val = 128 * ((x.val / 128 * 2 + r.val / 128) / 2) + x.val % 128; omega)
  have hb := block m c t hq hk hm ⟨x.val / 128 * 2 + r.val / 128, by omega⟩ ⟨r.val % 128, by omega⟩ ⟨x.val % 128, by omega⟩
  simp only [← h1, ← h2] at hb
  exact hb

end Finite

end Cert.KernelIdeal.Equation
-- ==== Proof.Reference.lean ====
module

public import proofs.«01_k».proof.Proof.Spec
public import proofs.«01_k».proof.Proof.Gen.ReferenceIdeal.Read
public import Idealize.ShloMosaic.Lib.IdealHost
public import Idealize.ShloMosaic.Lib.Tactic.WordOmega

/-!
# The reference is the formula
-/

@[expose] public section

set_option maxRecDepth 16384

noncomputable section

namespace Cert.Reference

open Cert.ReferenceIdeal Cert.ReferenceIdeal.Read Cert.Spec
open Idealize.ShloMosaic

variable (x0 x3 : (⟨S16x4096x8x2x64, .f32⟩ : BufTy).Contents (Elt Ideal)) (x1 : (⟨S16x8x2x64, .f32⟩ : BufTy).Contents (Elt Ideal))
variable (x2 : (⟨S16x8x128, .f32⟩ : BufTy).Contents (Elt Ideal)) (x4 : (⟨S16x4096x8x128, .f32⟩ : BufTy).Contents (Elt Ideal))

theorem bot_word : Ideal.ofBits .f32 0xFF800000#32 = ⊥ := by decide +kernel

theorem keys (b : Fin 16) (l : Fin 4112) (h : Fin 8) (s : Fin 2) (d : Fin 64) :
    val_main_v2 (F := Ideal) x1 x3 (ix5 b l h s d) = key x3 x1 b h s l.val d := by
  unfold val_main_v2 val_main_v1 val_main_v0 key
  pointwise

theorem values (b : Fin 16) (l : Fin 4112) (h : Fin 8) (e : Fin 128) :
    val_main_v5 (F := Ideal) x2 x4 (ix4 b l h e) = value x2 x4 b h l.val e := by
  unfold val_main_v5 val_main_v4 val_main_v3 value
  pointwise

theorem scores (b : Fin 16) (h : Fin 8) (s : Fin 2) (n : Fin 4096) (l : Fin 4112) :
    val_main_v30 (F := Ideal) x0 x1 x3 (ix5 b h s n l) = score x0 x3 x1 b h s n l.val := by
  have hv : val_main_v20 (F := Ideal) x0 x1 x3 (ix5 b h s n l)
      = (∑ d : Fin 64, x0 (ix5 b n h s d) * key x3 x1 b h s l.val d) * Ideal.ofBits .f32 0x3E000000#32 := by
    unfold val_main_v20 val_main_v19 val_main_cst_2 val_main_v18
    simp only [← keys]
    generalize val_main_v2 (F := Ideal) x1 x3 = y
    pointwise
  unfold val_main_v30 val_main_call0_v1 val_main_call0_v2 val_main_call0_v0 val_main_v29 val_main_v28 val_main_v27 val_main_v26 val_main_v25 val_main_v24 val_main_v23 val_main_v22 val_main_v21 val_main_c val_main_cst_3 score
  rw [← hv]
  generalize val_main_v20 (F := Ideal) x0 x1 x3 = y
  pointwise
  show Scalar.select _ _ (Ideal.ofBits .f32 0xFF800000#32) = _
  rw [bot_word]
  unfold Scalar.select
  have hw : (IntOp.cmpi .sle (BitVec.ofNat 32 l.val) (IntOp.addi (16#32) (BitVec.ofNat 32 n.val)) = 1#1) ↔ l.val ≤ n.val + 16 := by
    rw [IntOp.cmpi_sle]
    word_omega
  by_cases h : l.val ≤ n.val + 16
  · exact (if_pos (hw.2 h)).trans (if_pos h).symm
  · exact (if_neg (fun e => h (hw.1 e))).trans (if_neg h).symm

theorem top (b : Fin 16) (h : Fin 8) (s : Fin 2) (n : Fin 4096) :
    val_main_v31 (F := Ideal) x0 x1 x3 (ix4 b h s n) = Softmax.top (score x0 x3 x1 b h s n) 4112 := by
  unfold val_main_v31
  have hs : (fun l : Fin 4112 => score x0 x3 x1 b h s n l.val) = fun l => val_main_v30 (F := Ideal) x0 x1 x3 (ix5 b h s n l) :=
    funext fun l => (scores x0 x3 x1 b h s n l).symm
  have ht := Softmax.top_add (score x0 x3 x1 b h s n) 0 4112
  simp only [Nat.zero_add, hs] at ht
  rw [← ht]
  generalize val_main_v30 (F := Ideal) x0 x1 x3 = y
  have h0 : val_main_cst_4 (F := Ideal) (Shape.Idx.first Gen.h_S_) = Softmax.top (score x0 x3 x1 b h s n) 0 := by
    show Ideal.ofBits .f32 0xFF800000#32 = _
    rw [bot_word, Softmax.top, Finset.range_zero, Finset.sup_empty]
  have ht0 : Softmax.top (score x0 x3 x1 b h s n) 0 = ⊥ := by
    rw [Softmax.top, Finset.range_zero, Finset.sup_empty]
  rw [ht0, max_bot_left]
  rw [ht0] at h0
  generalize val_main_cst_4 (F := Ideal) = w at h0
  pointwise
  rw [h0]
  rfl

theorem tops (b : Fin 16) (h : Fin 8) (s : Fin 2) (n : Fin 4096) :
    val_main_v33 (F := Ideal) x0 x1 x3 (ix4 b h s n) = Softmax.top (score x0 x3 x1 b h s n) 4112 := by
  rw [val_main_v33_apply, val_main_v32_apply, val_main_cst_5_apply, top]
  generalize Softmax.top (score x0 x3 x1 b h s n) 4112 = t
  have hb := bot_word
  rw [Ideal.maximumf_def]
  exact (congrArg (max · t) hb).trans (max_bot_left t)

theorem powers (b : Fin 16) (h : Fin 8) (s : Fin 2) (n : Fin 4096) (l : Fin 4112) :
    val_main_v37 (F := Ideal) x0 x1 x3 (ix5 b h s n l)
      = Ideal.exp (score x0 x3 x1 b h s n l.val - Softmax.top (score x0 x3 x1 b h s n) 4112) := by
  rw [← scores, ← tops]
  unfold val_main_v37 val_main_v36 val_main_v35 val_main_v34
  generalize val_main_v30 (F := Ideal) x0 x1 x3 = y
  generalize val_main_v33 (F := Ideal) x0 x1 x3 = w
  pointwise

theorem weights (b : Fin 16) (h : Fin 8) (s : Fin 2) (n : Fin 4096) (l : Fin 4112) :
    val_main_v41 (F := Ideal) x0 x1 x3 (ix5 b h s n l) = Softmax.weight (score x0 x3 x1 b h s n) 4112 l.val := by
  unfold val_main_v41 val_main_v40 val_main_v39 val_main_v38 val_main_cst_6 Softmax.weight
  rw [Finset.sum_range]
  simp only [← powers]
  generalize val_main_v37 (F := Ideal) x0 x1 x3 = y
  pointwise

theorem mixes (b : Fin 16) (n : Fin 4096) (h : Fin 8) (s : Fin 2) (e : Fin 128) :
    val_main_v43 (F := Ideal) x0 x1 x2 x3 x4 (ix5 b n h s e) = mix x0 x3 x1 x2 x4 b h s n e := by
  unfold val_main_v43 val_main_v42 mix
  rw [Finset.sum_range]
  simp only [← weights, ← values]
  generalize val_main_v41 (F := Ideal) x0 x1 x3 = y
  generalize val_main_v5 (F := Ideal) x2 x4 = w
  pointwise
  exact Finset.sum_congr rfl fun _ _ => mul_comm _ _

variable (x5 x6 x7 x8 : (⟨S1x64, .f32⟩ : BufTy).Contents (Elt Ideal)) (x9 : (⟨S1x128, .f32⟩ : BufTy).Contents (Elt Ideal))
variable (x10 x11 : (⟨S16x4096x1024, .f32⟩ : BufTy).Contents (Elt Ideal))

theorem lambdas : val_main_v17 (F := Ideal) x5 x6 x7 x8 ix0 = lambda x5 x6 x7 x8 := by
  unfold val_main_v17 val_main_v16 val_main_v15 val_main_v14 val_main_v13 val_main_v12 val_main_v11 val_main_v10 val_main_v9 val_main_v8 val_main_v7 val_main_v6 val_main_cst val_main_cst_0 val_main_cst_1 lambda
  pointwise

theorem differs (b : Fin 16) (n : Fin 4096) (h : Fin 8) (e : Fin 128) :
    val_main_v50 (F := Ideal) x0 x1 x2 x3 x4 x5 x6 x7 x8 (ix4 b n h e)
      = differ x0 x3 x1 x2 x4 (lambda x5 x6 x7 x8) b h n e := by
  unfold val_main_v50 val_main_v49 val_main_v48 val_main_v47 val_main_v46 val_main_v45 val_main_v44 differ
  simp only [← mixes, ← lambdas]
  generalize val_main_v43 (F := Ideal) x0 x1 x2 x3 x4 = y
  generalize val_main_v17 (F := Ideal) x5 x6 x7 x8 = w
  pointwise

theorem normals (b : Fin 16) (n : Fin 4096) (h : Fin 8) (e : Fin 128) :
    val_main_v60 (F := Ideal) x0 x1 x2 x3 x4 x5 x6 x7 x8 (ix4 b n h e)
      = normal (differ x0 x3 x1 x2 x4 (lambda x5 x6 x7 x8) b h n) e := by
  unfold val_main_v60 val_main_v59 val_main_v58 val_main_v57 val_main_v56 val_main_v55 val_main_v54 val_main_v53 val_main_v52 val_main_v51 val_main_cst_7 val_main_cst_8 val_main_cst_9 normal
  simp only [← differs]
  generalize val_main_v50 (F := Ideal) x0 x1 x2 x3 x4 x5 x6 x7 x8 = y
  pointwise

theorem result (b : Fin 16) (n : Fin 4096) (x : Fin 1024) :
    val_main_v76 (F := Ideal) x0 x1 x2 x3 x4 x5 x6 x7 x8 x9 x10 x11 (ix3 b n x)
      = out x0 x3 x1 x2 x4 x5 x6 x7 x8 x9 x10 x11 b n x := by
  unfold val_main_v76 val_main_v75 val_main_v74 val_main_v73 val_main_v72 val_main_v71 val_main_v70 val_main_v69 val_main_v68 val_main_v67 val_main_v66 val_main_v65 val_main_v64 val_main_v63 val_main_v62 val_main_v61 val_main_cst_10 val_main_cst_11 val_main_cst_12 out gate
  rw [← normals]
  generalize val_main_v60 (F := Ideal) x0 x1 x2 x3 x4 x5 x6 x7 x8 = y
  pointwise
  refine congrArg (_ + ·) ?_
  rw [mul_assoc (y _), mul_left_comm]

end Cert.Reference
-- ==== Proof.Finite.lean ====
module

public import proofs.«01_k».proof.Defs
public import proofs.«01_k».proof.Proof.Rows

/-!
# The precondition, element by element
-/

@[expose] public section

noncomputable section

namespace Cert.Finite

open Idealize.ShloMosaic Cert.KernelIdeal.Rows

theorem bot_word : Ideal.ofBits .f32 0xFF800000#32 = ⊥ := by simp [Ideal.ofBits, Ideal.ieee]

theorem top_word : Ideal.ofBits .f32 0x7F800000#32 = ⊤ := by simp [Ideal.ofBits, Ideal.ieee]

/-- An element above the least and below the greatest extended real is a real. -/
theorem real_of_mask (x : EReal)
    (h : IntOp.andi (FloatOps.cmpf (F := Ideal) (φ := .f32) .ogt x (Ideal.ofBits .f32 0xFF800000#32))
      (FloatOps.cmpf (F := Ideal) (φ := .f32) .olt x (Ideal.ofBits .f32 0x7F800000#32)) = 1#1) : ∃ r : ℝ, x = r := by
  rw [bot_word, top_word] at h
  induction x with
  | coe r => exact ⟨r, rfl⟩
  | bot => exact absurd h (by simp [FloatOps.cmpf, Ideal.cmp, IntOp.andi])
  | top => exact absurd h (by simp [FloatOps.cmpf, Ideal.cmp, IntOp.andi])

/-- The facts of the precondition's operations. -/
instance facts : Cert.Pre_finite_scores.Facts where
  bcast_S_S16x4096x8x2x64 := by decide
  bcast_S_S16x8x2x64 := by decide

/-- What the precondition says of a memory. -/
theorem of_pre (m : (ℓ : Loc Cert.KernelIdeal.nD Cert.KernelIdeal.τ Cert.KernelIdeal.sig) → Buf (Elt Ideal) ℓ)
    (h : Cert.Pre_KernelIdeal_finite_scores m) (c : Dev Cert.KernelIdeal.nD) :
    Real' (KernelIdeal.Host.q m c) ∧ Real' (KernelIdeal.Host.k m c) ∧ Real' (KernelIdeal.Host.kMeta m c) :=
  ⟨fun i => real_of_mask _ (congrFun (h c).1 i), fun i => real_of_mask _ (congrFun (h c).2.2 i),
    fun i => real_of_mask _ (congrFun (h c).2.1 i)⟩

end Cert.Finite
-- ==== Proof.FfnSpec.lean ====
module

public import Idealize.ShloMosaic.PureOps
public import Idealize.ShloMosaic.Lib.Pointwise

/-!
# A row of the output projection and the feed-forward block

What one row of the result is, over the merged mixers' row, the row of the residual stream and the weights.
-/

@[expose] public section

noncomputable section

namespace Cert.Ffn

open Idealize.ShloMosaic

/-- A row divided by the root of its mean square, times a weight. -/
def norm (v w : Fin 1024 → EReal) (n : Fin 1024) : EReal :=
  v n * Ideal.rsqrt (Ideal.div (∑ k : Fin 1024, v k * v k) (Ideal.ofBits .f32 0x44800000#32) + Ideal.ofBits .f32 0x358637BD#32) * w n

/-- A row times a square matrix. -/
def mixed (a : Fin 1024 → EReal) (W : Fin 1024 → Fin 1024 → EReal) (n : Fin 1024) : EReal := ∑ k : Fin 1024, a k * W k n

/-- The residual stream after the mixers. -/
def first (a x : Fin 1024 → EReal) (W : Fin 1024 → Fin 1024 → EReal) (w : Fin 1024 → EReal) (n : Fin 1024) : EReal :=
  x n + norm (mixed a W) w n

/-- A row times a matrix of the hidden width. -/
def wide (h : Fin 1024 → EReal) (G : Fin 1024 → Fin 2816 → EReal) (f : Fin 2816) : EReal := ∑ k : Fin 1024, h k * G k f

/-- The gated hidden row. -/
def act (g u : EReal) : EReal :=
  g * Ideal.div (Ideal.ofBits .f32 0x3F800000#32) (Ideal.ofBits .f32 0x3F800000#32 + Ideal.exp (-g)) * u

/-- The feed-forward block's row before its norm. -/
def down (h : Fin 1024 → EReal) (G U : Fin 1024 → Fin 2816 → EReal) (D : Fin 2816 → Fin 1024 → EReal) (n : Fin 1024) : EReal :=
  ∑ f : Fin 2816, act (wide h G f) (wide h U f) * D f n

/-- The result's row. -/
def out (a x : Fin 1024 → EReal) (W : Fin 1024 → Fin 1024 → EReal) (w1 w2 w3 : Fin 1024 → EReal)
    (G U : Fin 1024 → Fin 2816 → EReal) (D : Fin 2816 → Fin 1024 → EReal) (n : Fin 1024) : EReal :=
  first a x W w1 n + norm (down (norm (first a x W w1) w2) G U D) w3 n

end Cert.Ffn
-- ==== Proof.FfnReference.lean ====
module

public import proofs.«01_k».proof.Proof.FfnSpec
public import proofs.«01_k».proof.Proof.Gen.ReferenceFfnIdeal.Read
public import Idealize.ShloMosaic.Lib.Pointwise

/-!
# The reference of the output projection and the feed-forward block, entry by entry
-/

@[expose] public section

set_option maxRecDepth 16384

noncomputable section

namespace Cert.Ffn.Reference

open Cert.ReferenceFfnIdeal Cert.ReferenceFfnIdeal.Read
open Idealize.ShloMosaic Idealize.ShloMosaic.TcCoe Idealize.ShloMosaic.Tactic

variable (x0 : (⟨S16x4096x1024, .bf16⟩ : BufTy).Contents (Elt Ideal)) (x1 : (⟨S16x4096x1024, .f32⟩ : BufTy).Contents (Elt Ideal))
variable (x2 : (⟨S1x1024, .f32⟩ : BufTy).Contents (Elt Ideal)) (x3 : (⟨S1x1024x1024, .f32⟩ : BufTy).Contents (Elt Ideal))
variable (x4 x5 : (⟨S1x1024, .f32⟩ : BufTy).Contents (Elt Ideal))
variable (x6 x7 : (⟨S1x1024x2816, .f32⟩ : BufTy).Contents (Elt Ideal)) (x8 : (⟨S1x2816x1024, .f32⟩ : BufTy).Contents (Elt Ideal))

/-- The stream after the mixers, row `n` of batch `b`. -/
def mid (b : Fin 16) (n : Fin 4096) : Fin 1024 → EReal :=
  first (fun k => x0 (ix3 b n k)) (fun k => x1 (ix3 b n k)) (fun k j => x3 (ix3 0 k j)) (fun k => x2 (ix2 0 k))

theorem mixes (b : Fin 16) (n : Fin 4096) (x : Fin 1024) :
    val_main_v2 (F := Ideal) x0 x3 (ix3 b n x) = mixed (fun k => x0 (ix3 b n k)) (fun k j => x3 (ix3 0 k j)) x := by
  unfold mixed val_main_v2 val_main_v1 val_main_v0
  pointwise

theorem firsts (b : Fin 16) (n : Fin 4096) (x : Fin 1024) :
    val_main_v17 (F := Ideal) x0 x1 x2 x3 (ix3 b n x) = mid x0 x1 x2 x3 b n x := by
  unfold val_main_v17 val_main_v16 val_main_v15 val_main_v14 val_main_v13 val_main_v12 val_main_v11 val_main_v10 val_main_v9 val_main_v8 val_main_v7 val_main_v6 val_main_v5 val_main_v4 val_main_v3 val_main_cst val_main_cst_0 val_main_cst_1 mid first norm
  simp only [← mixes]
  generalize val_main_v2 (F := Ideal) x0 x3 = y
  pointwise

theorem hiddens (b : Fin 16) (n : Fin 4096) (x : Fin 1024) :
    val_main_v31 (F := Ideal) x0 x1 x2 x3 x4 (ix3 b n x) = norm (mid x0 x1 x2 x3 b n) (fun k => x4 (ix2 0 k)) x := by
  unfold val_main_v31 val_main_v30 val_main_v29 val_main_v28 val_main_v27 val_main_v26 val_main_v25 val_main_v24 val_main_v23 val_main_v22 val_main_v21 val_main_v20 val_main_v19 val_main_v18 val_main_cst_2 val_main_cst_3 val_main_cst_4 norm
  simp only [← firsts]
  generalize val_main_v17 (F := Ideal) x0 x1 x2 x3 = y
  pointwise

/-- The hidden row. -/
def hid (b : Fin 16) (n : Fin 4096) : Fin 1024 → EReal := norm (mid x0 x1 x2 x3 b n) (fun k => x4 (ix2 0 k))

theorem gates (b : Fin 16) (n : Fin 4096) (f : Fin 2816) :
    val_main_v35 (F := Ideal) x0 x1 x2 x3 x4 x6 (ix3 b n f) = wide (hid x0 x1 x2 x3 x4 b n) (fun k j => x6 (ix3 0 k j)) f := by
  unfold val_main_v35 val_main_v32 wide hid
  simp only [← hiddens]
  generalize val_main_v31 (F := Ideal) x0 x1 x2 x3 x4 = y
  pointwise

theorem ups (b : Fin 16) (n : Fin 4096) (f : Fin 2816) :
    val_main_v36 (F := Ideal) x0 x1 x2 x3 x4 x7 (ix3 b n f) = wide (hid x0 x1 x2 x3 x4 b n) (fun k j => x7 (ix3 0 k j)) f := by
  unfold val_main_v36 val_main_v33 wide hid
  simp only [← hiddens]
  generalize val_main_v31 (F := Ideal) x0 x1 x2 x3 x4 = y
  pointwise

theorem acts (b : Fin 16) (n : Fin 4096) (f : Fin 2816) :
    val_main_v38 (F := Ideal) x0 x1 x2 x3 x4 x6 x7 (ix3 b n f)
      = act (wide (hid x0 x1 x2 x3 x4 b n) (fun k j => x6 (ix3 0 k j)) f) (wide (hid x0 x1 x2 x3 x4 b n) (fun k j => x7 (ix3 0 k j)) f) := by
  unfold val_main_v38 val_main_v37 val_main_call0_v5 val_main_call0_v4 val_main_call0_v3 val_main_call0_v2 val_main_call0_v1 val_main_call0_v0 val_main_call0_cst val_main_call0_cst_0 act
  rw [← gates x0 x1 x2 x3 x4 x6, ← ups x0 x1 x2 x3 x4 x7]
  generalize val_main_v35 (F := Ideal) x0 x1 x2 x3 x4 x6 = y
  generalize val_main_v36 (F := Ideal) x0 x1 x2 x3 x4 x7 = w
  pointwise

theorem downs (b : Fin 16) (n : Fin 4096) (x : Fin 1024) :
    val_main_v39 (F := Ideal) x0 x1 x2 x3 x4 x6 x7 x8 (ix3 b n x)
      = down (hid x0 x1 x2 x3 x4 b n) (fun k j => x6 (ix3 0 k j)) (fun k j => x7 (ix3 0 k j)) (fun f j => x8 (ix3 0 f j)) x := by
  unfold val_main_v39 val_main_v34 down
  simp only [← acts]
  generalize val_main_v38 (F := Ideal) x0 x1 x2 x3 x4 x6 x7 = y
  pointwise

/-- The result, entry by entry. -/
theorem result (r : Fin 65536) (x : Fin 1024) :
    val_main_v55 (F := Ideal) x0 x1 x2 x3 x4 x5 x6 x7 x8 (ix2 r x)
      = out (fun k => x0 (ix3 ⟨r.val / 4096, by omega⟩ ⟨r.val % 4096, by omega⟩ k)) (fun k => x1 (ix3 ⟨r.val / 4096, by omega⟩ ⟨r.val % 4096, by omega⟩ k))
          (fun k j => x3 (ix3 0 k j)) (fun k => x2 (ix2 0 k)) (fun k => x4 (ix2 0 k)) (fun k => x5 (ix2 0 k))
          (fun k j => x6 (ix3 0 k j)) (fun k j => x7 (ix3 0 k j)) (fun f j => x8 (ix3 0 f j)) x := by
  have h : val_main_v54 (F := Ideal) x0 x1 x2 x3 x4 x5 x6 x7 x8 (ix3 ⟨r.val / 4096, by omega⟩ ⟨r.val % 4096, by omega⟩ x)
      = out (fun k => x0 (ix3 ⟨r.val / 4096, by omega⟩ ⟨r.val % 4096, by omega⟩ k)) (fun k => x1 (ix3 ⟨r.val / 4096, by omega⟩ ⟨r.val % 4096, by omega⟩ k))
          (fun k j => x3 (ix3 0 k j)) (fun k => x2 (ix2 0 k)) (fun k => x4 (ix2 0 k)) (fun k => x5 (ix2 0 k))
          (fun k j => x6 (ix3 0 k j)) (fun k j => x7 (ix3 0 k j)) (fun f j => x8 (ix3 0 f j)) x := by
    generalize (⟨r.val / 4096, by omega⟩ : Fin 16) = b
    generalize (⟨r.val % 4096, by omega⟩ : Fin 4096) = n
    change _ = mid x0 x1 x2 x3 b n x + norm (down (hid x0 x1 x2 x3 x4 b n) (fun k j => x6 (ix3 0 k j)) (fun k j => x7 (ix3 0 k j)) (fun f j => x8 (ix3 0 f j))) (fun k => x5 (ix2 0 k)) x
    unfold val_main_v54 val_main_v53 val_main_v52 val_main_v51 val_main_v50 val_main_v49 val_main_v48 val_main_v47 val_main_v46 val_main_v45 val_main_v44 val_main_v43 val_main_v42 val_main_v41 val_main_v40 val_main_cst_5 val_main_cst_6 val_main_cst_7 norm
    simp only [← downs, ← firsts]
    generalize val_main_v39 (F := Ideal) x0 x1 x2 x3 x4 x6 x7 x8 = y
    generalize val_main_v17 (F := Ideal) x0 x1 x2 x3 = w
    pointwise
  rw [← h]
  unfold val_main_v55
  generalize val_main_v54 (F := Ideal) x0 x1 x2 x3 x4 x5 x6 x7 x8 = y
  pointwise

end Cert.Ffn.Reference
-- ==== Proof.FfnBlock.lean ====
module

public import proofs.«01_k».proof.Proof.FfnSpec
public import proofs.«01_k».proof.Proof.Gen.KernelFfnIdeal.Value
public import Idealize.ShloMosaic.Lib.Pointwise
public import Idealize.ShloMosaic.Lib.StableHlo.ReadAt
public import Idealize.ShloMosaic.Lib.Pipeline.ValueKit

/-!
# The kernel of the output projection and the feed-forward block, entry by entry
-/

@[expose] public section

set_option maxRecDepth 16384

noncomputable section

namespace Cert.Ffn.Block

open Cert.KernelFfnIdeal Cert.KernelFfnIdeal.Gen
open Idealize.ShloMosaic Idealize.ShloMosaic.TcCoe Idealize.ShloMosaic.Tactic

section Body

variable (x0 : Vec Ideal S512x1024 .bf16) (x1 : Vec Ideal S512x1024 .f32) (x2 : Vec Ideal S1024x1024 .bf16) (x3 x4 x5 : Vec Ideal S1x1024 .f32)
variable (x6 x7 : Vec Ideal S1024x2816 .bf16) (x8 : Vec Ideal S2816x1024 .bf16)

/-- Row `r` of the stream after the mixers. -/
def mid (r : Fin 512) : Fin 1024 → EReal :=
  first (fun k => x0 (ix2 r k)) (fun k => x1 (ix2 r k)) (fun k j => x2 (ix2 k j)) (fun k => x3 (ix2 0 k))

/-- Row `r` of the hidden input. -/
def hid (r : Fin 512) : Fin 1024 → EReal := norm (mid x0 x1 x2 x3 r) (fun k => x4 (ix2 0 k))

theorem firsts (r : Fin 512) (x : Fin 1024) : k0_pay2 (F := Ideal) x0 x2 x1 x3 (ix2 r x) = mid x0 x1 x2 x3 r x := by
  unfold k0_pay2 mid first norm mixed
  pointwise

theorem hiddens (r : Fin 512) (x : Fin 1024) : k0_pay3 (F := Ideal) x0 x2 x1 x3 x4 (ix2 r x) = hid x0 x1 x2 x3 x4 r x := by
  unfold k0_pay3 hid norm
  simp only [← firsts]
  generalize k0_pay2 (F := Ideal) x0 x2 x1 x3 = y
  pointwise

theorem gates (r : Fin 512) (f : Fin 2816) :
    k0_pay4 (F := Ideal) x0 x2 x1 x3 x4 x6 (ix2 r f) = wide (hid x0 x1 x2 x3 x4 r) (fun k j => x6 (ix2 k j)) f := by
  unfold k0_pay4 wide
  simp only [← hiddens]
  generalize k0_pay3 (F := Ideal) x0 x2 x1 x3 x4 = y
  pointwise

theorem last (y : Vec Ideal S512x1024 .f32) (h : Vec Ideal S512x1024 .bf16) (g : Vec Ideal S512x2816 .f32) (r : Fin 512) (x : Fin 1024) :
    k0_pay1 (F := Ideal) y h g x7 x8 x5 (ix2 r x)
      = y (ix2 r x) + norm (fun n => ∑ f : Fin 2816, act (g (ix2 r f)) (wide (fun k => h (ix2 r k)) (fun k j => x7 (ix2 k j)) f) * x8 (ix2 f n)) (fun k => x5 (ix2 0 k)) x := by
  unfold k0_pay1 norm act wide
  pointwise
  simp only [zero_sub]

/-- The block of the result. -/
theorem block (r : Fin 512) (x : Fin 1024) :
    out0_9 (F := Ideal) x0 x1 x2 x3 x4 x5 x6 x7 x8 (ix2 r x)
      = out (fun k => x0 (ix2 r k)) (fun k => x1 (ix2 r k)) (fun k j => x2 (ix2 k j)) (fun k => x3 (ix2 0 k)) (fun k => x4 (ix2 0 k)) (fun k => x5 (ix2 0 k))
          (fun k j => x6 (ix2 k j)) (fun k j => x7 (ix2 k j)) (fun f j => x8 (ix2 f j)) x := by
  unfold out0_9
  have hz : (![0, 0] : Fin 2 → ℕ) = fun _ => 0 := by funext a; fin_cases a <;> rfl
  rw [View.canon_unit_zero hz]
  simp only [r0_0, r0_1, r0_2, r0_3, r0_4, View.ld_unit_zero (S := S512x1024) hz, View.ld_unit_zero (S := S1024x1024) hz, View.ld_unit_zero (S := S1x1024) hz,
    View.ld_unit_zero (S := S1024x2816) hz, View.ld_unit_zero (S := S2816x1024) hz]
  rw [last]
  simp only [firsts, hiddens, gates]
  rfl

end Body

variable (m : (ℓ : Loc nD τ sig) → Buf (Elt Ideal) ℓ) (c : Dev nD)

/-- The tile of rows of a grid point. -/
abbrev til (t : Fin cfg0.N) : Fin 128 := grid0.coords t 0

theorem idx : ∀ t : Fin grid0.N,
    win0_0.index t = ![(grid0.coords t 0).val, 0] ∧ win0_1.index t = ![(grid0.coords t 0).val, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![(grid0.coords t 0).val, 0] := by
  decide +kernel

/-- Row `r` of tile `t`. -/
def row (t : Fin cfg0.N) (r : Fin 512) : Fin 65536 := ⟨(til t).val * 512 + r.val, by omega⟩

theorem blk0 (t : Fin cfg0.N) (r : Fin 512) (x : Fin 1024) :
    (iblk m c 0 t : S512x1024.Idx → EReal) (ix2 r x) = (V m c main_v8 : S65536x1024.Idx → EReal) (ix2 (row t r) x) := by
  unfold row
  blk_ext [iblk, idx t, til]

theorem blk1 (t : Fin cfg0.N) (r : Fin 512) (x : Fin 1024) :
    (iblk m c 1 t : S512x1024.Idx → EReal) (ix2 r x) = (V m c main_v9 : S65536x1024.Idx → EReal) (ix2 (row t r) x) := by
  unfold row
  blk_ext [iblk, idx t, til]

theorem blk2 (t : Fin cfg0.N) (k x : Fin 1024) :
    (iblk m c 2 t : S1024x1024.Idx → EReal) (ix2 k x) = (V m c main_v1 : S1024x1024.Idx → EReal) (ix2 k x) := by
  blk_ext [iblk, idx t]

theorem blk3 (t : Fin cfg0.N) (x : Fin 1024) :
    (iblk m c 3 t : S1x1024.Idx → EReal) (ix2 0 x) = (V m c main_arg2 : S1x1024.Idx → EReal) (ix2 0 x) := by
  blk_ext [iblk, idx t]

theorem blk4 (t : Fin cfg0.N) (x : Fin 1024) :
    (iblk m c 4 t : S1x1024.Idx → EReal) (ix2 0 x) = (V m c main_arg4 : S1x1024.Idx → EReal) (ix2 0 x) := by
  blk_ext [iblk, idx t]

theorem blk5 (t : Fin cfg0.N) (x : Fin 1024) :
    (iblk m c 5 t : S1x1024.Idx → EReal) (ix2 0 x) = (V m c main_arg5 : S1x1024.Idx → EReal) (ix2 0 x) := by
  blk_ext [iblk, idx t]

theorem blk6 (t : Fin cfg0.N) (k : Fin 1024) (x : Fin 2816) :
    (iblk m c 6 t : S1024x2816.Idx → EReal) (ix2 k x) = (V m c main_v3 : S1024x2816.Idx → EReal) (ix2 k x) := by
  blk_ext [iblk, idx t]

theorem blk7 (t : Fin cfg0.N) (k : Fin 1024) (x : Fin 2816) :
    (iblk m c 7 t : S1024x2816.Idx → EReal) (ix2 k x) = (V m c main_v5 : S1024x2816.Idx → EReal) (ix2 k x) := by
  blk_ext [iblk, idx t]

theorem blk8 (t : Fin cfg0.N) (k : Fin 2816) (x : Fin 1024) :
    (iblk m c 8 t : S2816x1024.Idx → EReal) (ix2 k x) = (V m c main_v7 : S2816x1024.Idx → EReal) (ix2 k x) := by
  blk_ext [iblk, idx t]

/-- The argument arrays. -/
abbrev a0 : S16x4096x1024.Idx → EReal := m ((c : Thread nD τ).loc main_arg0)
abbrev a1 : S16x4096x1024.Idx → EReal := m ((c : Thread nD τ).loc main_arg1)
abbrev a2 : S1x1024.Idx → EReal := m ((c : Thread nD τ).loc main_arg2)
abbrev a3 : S1x1024x1024.Idx → EReal := m ((c : Thread nD τ).loc main_arg3)
abbrev a4 : S1x1024.Idx → EReal := m ((c : Thread nD τ).loc main_arg4)
abbrev a5 : S1x1024.Idx → EReal := m ((c : Thread nD τ).loc main_arg5)
abbrev a6 : S1x1024x2816.Idx → EReal := m ((c : Thread nD τ).loc main_arg6)
abbrev a7 : S1x1024x2816.Idx → EReal := m ((c : Thread nD τ).loc main_arg7)
abbrev a8 : S1x2816x1024.Idx → EReal := m ((c : Thread nD τ).loc main_arg8)

theorem host8 (r : Fin 65536) (x : Fin 1024) :
    (V m c main_v8 : S65536x1024.Idx → EReal) (ix2 r x) = a0 m c (ix3 ⟨r.val / 4096, by omega⟩ ⟨r.val % 4096, by omega⟩ x) := by
  unfold V
  simp only [hostOps0, List.flatten_cons, List.flatten_nil, List.cons_append, List.nil_append]
  after_reads_at

theorem host9 (r : Fin 65536) (x : Fin 1024) :
    (V m c main_v9 : S65536x1024.Idx → EReal) (ix2 r x) = a1 m c (ix3 ⟨r.val / 4096, by omega⟩ ⟨r.val % 4096, by omega⟩ x) := by
  unfold V
  simp only [hostOps0, List.flatten_cons, List.flatten_nil, List.cons_append, List.nil_append]
  after_reads_at

theorem host1 (k x : Fin 1024) : (V m c main_v1 : S1024x1024.Idx → EReal) (ix2 k x) = a3 m c (ix3 0 k x) := by
  unfold V
  simp only [hostOps0, List.flatten_cons, List.flatten_nil, List.cons_append, List.nil_append]
  after_reads_at

theorem host3 (k : Fin 1024) (x : Fin 2816) : (V m c main_v3 : S1024x2816.Idx → EReal) (ix2 k x) = a6 m c (ix3 0 k x) := by
  unfold V
  simp only [hostOps0, List.flatten_cons, List.flatten_nil, List.cons_append, List.nil_append]
  after_reads_at

theorem host5 (k : Fin 1024) (x : Fin 2816) : (V m c main_v5 : S1024x2816.Idx → EReal) (ix2 k x) = a7 m c (ix3 0 k x) := by
  unfold V
  simp only [hostOps0, List.flatten_cons, List.flatten_nil, List.cons_append, List.nil_append]
  after_reads_at

theorem host7 (k : Fin 2816) (x : Fin 1024) : (V m c main_v7 : S2816x1024.Idx → EReal) (ix2 k x) = a8 m c (ix3 0 k x) := by
  unfold V
  simp only [hostOps0, List.flatten_cons, List.flatten_nil, List.cons_append, List.nil_append]
  after_reads_at

/-- The result, over the arguments. -/
def spec (r : Fin 65536) (x : Fin 1024) : EReal :=
  out (fun k => a0 m c (ix3 ⟨r.val / 4096, by omega⟩ ⟨r.val % 4096, by omega⟩ k)) (fun k => a1 m c (ix3 ⟨r.val / 4096, by omega⟩ ⟨r.val % 4096, by omega⟩ k))
    (fun k j => a3 m c (ix3 0 k j)) (fun k => a2 m c (ix2 0 k)) (fun k => a4 m c (ix2 0 k)) (fun k => a5 m c (ix2 0 k))
    (fun k j => a6 m c (ix3 0 k j)) (fun k j => a7 m c (ix3 0 k j)) (fun f j => a8 m c (ix3 0 f j)) x

/-- The kernel's result array. -/
theorem array : ((dats m 0 c).arrAt 9 cfg0.N : S65536x1024.Idx → EReal) = fun y => spec m c (y 0) (y 1) := by
  refine (dats m 0 c).arrAt_eq_of_covers 9 _ (by decide +kernel) fun t hf y => ?_
  blk_simp [idx t]
  rw [after0_9]
  change S512x1024.Idx at y
  obtain ⟨r, x, rfl⟩ : ∃ r x, y = ix2 r x := ⟨y 0, y 1, by funext a; fin_cases a <;> rfl⟩
  have h : (out0_9 (F := Ideal) (iblk m c 0 t) (iblk m c 1 t) (iblk m c 2 t) (iblk m c 3 t) (iblk m c 4 t) (iblk m c 5 t) (iblk m c 6 t) (iblk m c 7 t) (iblk m c 8 t) : S512x1024.Idx → EReal) (ix2 r x) = spec m c (row t r) x := by
    refine (block _ _ _ _ _ _ _ _ _ r x).trans ?_
    unfold spec
    congr 1
    · exact funext fun k => (blk0 m c t r k).trans (host8 m c (row t r) k)
    · exact funext fun k => (blk1 m c t r k).trans (host9 m c (row t r) k)
    · exact funext fun k => funext fun j => (blk2 m c t k j).trans (host1 m c k j)
    · exact funext fun k => (blk3 m c t k).trans (congrFun (V_main_arg2 m c) _)
    · exact funext fun k => (blk4 m c t k).trans (congrFun (V_main_arg4 m c) _)
    · exact funext fun k => (blk5 m c t k).trans (congrFun (V_main_arg5 m c) _)
    · exact funext fun k => funext fun j => (blk6 m c t k j).trans (host3 m c k j)
    · exact funext fun k => funext fun j => (blk7 m c t k j).trans (host5 m c k j)
    · exact funext fun k => funext fun j => (blk8 m c t k j).trans (host7 m c k j)
  have e : (fun y : S65536x1024.Idx => spec m c (y 0) (y 1)) (ix2 (row t r) x) = spec m c (row t r) x := rfl
  refine h.trans (e.symm.trans (congrArg (fun y : S65536x1024.Idx => spec m c (y 0) (y 1)) ?_))
  unfold row
  blk_ext [idx t, til]

end Cert.Ffn.Block
-- ==== Proof.FfnSampleReference.lean ====
module

public import proofs.«01_k».proof.Proof.FfnSpec
public import proofs.«01_k».proof.Proof.Gen.ReferenceFfnSampleIdeal.Read
public import Idealize.ShloMosaic.Lib.Pointwise

/-!
# The reference of the output projection and the feed-forward block, entry by entry
-/

@[expose] public section

set_option maxRecDepth 16384

noncomputable section

namespace Cert.FfnSample.Reference

open Cert.Ffn Cert.ReferenceFfnSampleIdeal Cert.ReferenceFfnSampleIdeal.Read
open Idealize.ShloMosaic Idealize.ShloMosaic.TcCoe Idealize.ShloMosaic.Tactic

variable (x0 : (⟨S128x1x1024, .bf16⟩ : BufTy).Contents (Elt Ideal)) (x1 : (⟨S128x1x1024, .f32⟩ : BufTy).Contents (Elt Ideal))
variable (x2 : (⟨S1x1024, .f32⟩ : BufTy).Contents (Elt Ideal)) (x3 : (⟨S1x1024x1024, .f32⟩ : BufTy).Contents (Elt Ideal))
variable (x4 x5 : (⟨S1x1024, .f32⟩ : BufTy).Contents (Elt Ideal))
variable (x6 x7 : (⟨S1x1024x2816, .f32⟩ : BufTy).Contents (Elt Ideal)) (x8 : (⟨S1x2816x1024, .f32⟩ : BufTy).Contents (Elt Ideal))

/-- The stream after the mixers, row `n` of batch `b`. -/
def mid (b : Fin 128) (n : Fin 1) : Fin 1024 → EReal :=
  first (fun k => x0 (ix3 b n k)) (fun k => x1 (ix3 b n k)) (fun k j => x3 (ix3 0 k j)) (fun k => x2 (ix2 0 k))

theorem mixes (b : Fin 128) (n : Fin 1) (x : Fin 1024) :
    val_main_v2 (F := Ideal) x0 x3 (ix3 b n x) = mixed (fun k => x0 (ix3 b n k)) (fun k j => x3 (ix3 0 k j)) x := by
  unfold mixed val_main_v2 val_main_v1 val_main_v0
  pointwise

theorem firsts (b : Fin 128) (n : Fin 1) (x : Fin 1024) :
    val_main_v17 (F := Ideal) x0 x1 x2 x3 (ix3 b n x) = mid x0 x1 x2 x3 b n x := by
  obtain rfl : n = 0 := Subsingleton.elim _ _
  unfold val_main_v17 val_main_v16 val_main_v15 val_main_v14 val_main_v13 val_main_v12 val_main_v11 val_main_v10 val_main_v9 val_main_v8 val_main_v7 val_main_v6 val_main_v5 val_main_v4 val_main_v3 val_main_cst val_main_cst_0 val_main_cst_1 mid first Ffn.norm
  simp only [← mixes]
  generalize val_main_v2 (F := Ideal) x0 x3 = y
  pointwise

theorem hiddens (b : Fin 128) (n : Fin 1) (x : Fin 1024) :
    val_main_v31 (F := Ideal) x0 x1 x2 x3 x4 (ix3 b n x) = Ffn.norm (mid x0 x1 x2 x3 b n) (fun k => x4 (ix2 0 k)) x := by
  obtain rfl : n = 0 := Subsingleton.elim _ _
  unfold val_main_v31 val_main_v30 val_main_v29 val_main_v28 val_main_v27 val_main_v26 val_main_v25 val_main_v24 val_main_v23 val_main_v22 val_main_v21 val_main_v20 val_main_v19 val_main_v18 val_main_cst_2 val_main_cst_3 val_main_cst_4 Ffn.norm
  simp only [← firsts]
  generalize val_main_v17 (F := Ideal) x0 x1 x2 x3 = y
  pointwise

/-- The hidden row. -/
def hid (b : Fin 128) (n : Fin 1) : Fin 1024 → EReal := Ffn.norm (mid x0 x1 x2 x3 b n) (fun k => x4 (ix2 0 k))

theorem gates (b : Fin 128) (n : Fin 1) (f : Fin 2816) :
    val_main_v35 (F := Ideal) x0 x1 x2 x3 x4 x6 (ix3 b n f) = wide (hid x0 x1 x2 x3 x4 b n) (fun k j => x6 (ix3 0 k j)) f := by
  unfold val_main_v35 val_main_v32 wide hid
  simp only [← hiddens]
  generalize val_main_v31 (F := Ideal) x0 x1 x2 x3 x4 = y
  pointwise

theorem ups (b : Fin 128) (n : Fin 1) (f : Fin 2816) :
    val_main_v36 (F := Ideal) x0 x1 x2 x3 x4 x7 (ix3 b n f) = wide (hid x0 x1 x2 x3 x4 b n) (fun k j => x7 (ix3 0 k j)) f := by
  unfold val_main_v36 val_main_v33 wide hid
  simp only [← hiddens]
  generalize val_main_v31 (F := Ideal) x0 x1 x2 x3 x4 = y
  pointwise

theorem acts (b : Fin 128) (n : Fin 1) (f : Fin 2816) :
    val_main_v38 (F := Ideal) x0 x1 x2 x3 x4 x6 x7 (ix3 b n f)
      = act (wide (hid x0 x1 x2 x3 x4 b n) (fun k j => x6 (ix3 0 k j)) f) (wide (hid x0 x1 x2 x3 x4 b n) (fun k j => x7 (ix3 0 k j)) f) := by
  unfold val_main_v38 val_main_v37 val_main_call0_v5 val_main_call0_v4 val_main_call0_v3 val_main_call0_v2 val_main_call0_v1 val_main_call0_v0 val_main_call0_cst val_main_call0_cst_0 act
  rw [← gates x0 x1 x2 x3 x4 x6, ← ups x0 x1 x2 x3 x4 x7]
  generalize val_main_v35 (F := Ideal) x0 x1 x2 x3 x4 x6 = y
  generalize val_main_v36 (F := Ideal) x0 x1 x2 x3 x4 x7 = w
  pointwise

theorem downs (b : Fin 128) (n : Fin 1) (x : Fin 1024) :
    val_main_v39 (F := Ideal) x0 x1 x2 x3 x4 x6 x7 x8 (ix3 b n x)
      = down (hid x0 x1 x2 x3 x4 b n) (fun k j => x6 (ix3 0 k j)) (fun k j => x7 (ix3 0 k j)) (fun f j => x8 (ix3 0 f j)) x := by
  unfold val_main_v39 val_main_v34 down
  simp only [← acts]
  generalize val_main_v38 (F := Ideal) x0 x1 x2 x3 x4 x6 x7 = y
  pointwise

/-- The result, entry by entry. -/
theorem result (r : Fin 128) (x : Fin 1024) :
    val_main_v55 (F := Ideal) x0 x1 x2 x3 x4 x5 x6 x7 x8 (ix2 r x)
      = out (fun k => x0 (ix3 r 0 k)) (fun k => x1 (ix3 r 0 k))
          (fun k j => x3 (ix3 0 k j)) (fun k => x2 (ix2 0 k)) (fun k => x4 (ix2 0 k)) (fun k => x5 (ix2 0 k))
          (fun k j => x6 (ix3 0 k j)) (fun k j => x7 (ix3 0 k j)) (fun f j => x8 (ix3 0 f j)) x := by
  have h : val_main_v54 (F := Ideal) x0 x1 x2 x3 x4 x5 x6 x7 x8 (ix3 r 0 x)
      = out (fun k => x0 (ix3 r 0 k)) (fun k => x1 (ix3 r 0 k))
          (fun k j => x3 (ix3 0 k j)) (fun k => x2 (ix2 0 k)) (fun k => x4 (ix2 0 k)) (fun k => x5 (ix2 0 k))
          (fun k j => x6 (ix3 0 k j)) (fun k j => x7 (ix3 0 k j)) (fun f j => x8 (ix3 0 f j)) x := by
    change _ = mid x0 x1 x2 x3 r 0 x + Ffn.norm (down (hid x0 x1 x2 x3 x4 r 0) (fun k j => x6 (ix3 0 k j)) (fun k j => x7 (ix3 0 k j)) (fun f j => x8 (ix3 0 f j))) (fun k => x5 (ix2 0 k)) x
    unfold val_main_v54 val_main_v53 val_main_v52 val_main_v51 val_main_v50 val_main_v49 val_main_v48 val_main_v47 val_main_v46 val_main_v45 val_main_v44 val_main_v43 val_main_v42 val_main_v41 val_main_v40 val_main_cst_5 val_main_cst_6 val_main_cst_7 Ffn.norm
    simp only [← downs, ← firsts]
    generalize val_main_v39 (F := Ideal) x0 x1 x2 x3 x4 x6 x7 x8 = y
    generalize val_main_v17 (F := Ideal) x0 x1 x2 x3 = w
    pointwise
  rw [← h]
  unfold val_main_v55
  generalize val_main_v54 (F := Ideal) x0 x1 x2 x3 x4 x5 x6 x7 x8 = y
  pointwise

end Cert.FfnSample.Reference
-- ==== Proof.FfnSampleBlock.lean ====
module

public import proofs.«01_k».proof.Proof.FfnSpec
public import proofs.«01_k».proof.Proof.Gen.KernelFfnSampleIdeal.Value
public import Idealize.ShloMosaic.Lib.Pointwise
public import Idealize.ShloMosaic.Lib.StableHlo.ReadAt
public import Idealize.ShloMosaic.Lib.Pipeline.ValueKit

/-!
# The kernel of the output projection and the feed-forward block at the sample, entry by entry
-/

@[expose] public section

set_option maxRecDepth 16384

noncomputable section

namespace Cert.FfnSample.Block

open Cert.Ffn Cert.KernelFfnSampleIdeal Cert.KernelFfnSampleIdeal.Gen
open Idealize.ShloMosaic Idealize.ShloMosaic.TcCoe Idealize.ShloMosaic.Tactic

section Body

variable (x0 : Vec Ideal S128x1024 .bf16) (x1 : Vec Ideal S128x1024 .f32) (x2 : Vec Ideal S1024x1024 .bf16) (x3 x4 x5 : Vec Ideal S1x1024 .f32)
variable (x6 x7 : Vec Ideal S1024x2816 .bf16) (x8 : Vec Ideal S2816x1024 .bf16)

/-- Row `r` of the stream after the mixers. -/
def mid (r : Fin 128) : Fin 1024 → EReal :=
  first (fun k => x0 (ix2 r k)) (fun k => x1 (ix2 r k)) (fun k j => x2 (ix2 k j)) (fun k => x3 (ix2 0 k))

/-- Row `r` of the hidden input. -/
def hid (r : Fin 128) : Fin 1024 → EReal := Ffn.norm (mid x0 x1 x2 x3 r) (fun k => x4 (ix2 0 k))

theorem firsts (r : Fin 128) (x : Fin 1024) : k0_pay2 (F := Ideal) x0 x2 x1 x3 (ix2 r x) = mid x0 x1 x2 x3 r x := by
  unfold k0_pay2 mid first Ffn.norm mixed
  pointwise

theorem hiddens (r : Fin 128) (x : Fin 1024) : k0_pay3 (F := Ideal) x0 x2 x1 x3 x4 (ix2 r x) = hid x0 x1 x2 x3 x4 r x := by
  unfold k0_pay3 hid Ffn.norm
  simp only [← firsts]
  generalize k0_pay2 (F := Ideal) x0 x2 x1 x3 = y
  pointwise

theorem gates (r : Fin 128) (f : Fin 2816) :
    k0_pay4 (F := Ideal) x0 x2 x1 x3 x4 x6 (ix2 r f) = wide (hid x0 x1 x2 x3 x4 r) (fun k j => x6 (ix2 k j)) f := by
  unfold k0_pay4 wide
  simp only [← hiddens]
  generalize k0_pay3 (F := Ideal) x0 x2 x1 x3 x4 = y
  pointwise

theorem last (y : Vec Ideal S128x1024 .f32) (h : Vec Ideal S128x1024 .bf16) (g : Vec Ideal S128x2816 .f32) (r : Fin 128) (x : Fin 1024) :
    k0_pay1 (F := Ideal) y h g x7 x8 x5 (ix2 r x)
      = y (ix2 r x) + Ffn.norm (fun n => ∑ f : Fin 2816, act (g (ix2 r f)) (wide (fun k => h (ix2 r k)) (fun k j => x7 (ix2 k j)) f) * x8 (ix2 f n)) (fun k => x5 (ix2 0 k)) x := by
  unfold k0_pay1 Ffn.norm act wide
  pointwise
  simp only [zero_sub]

/-- The block of the result. -/
theorem block (r : Fin 128) (x : Fin 1024) :
    out0_9 (F := Ideal) x0 x1 x2 x3 x4 x5 x6 x7 x8 (ix2 r x)
      = out (fun k => x0 (ix2 r k)) (fun k => x1 (ix2 r k)) (fun k j => x2 (ix2 k j)) (fun k => x3 (ix2 0 k)) (fun k => x4 (ix2 0 k)) (fun k => x5 (ix2 0 k))
          (fun k j => x6 (ix2 k j)) (fun k j => x7 (ix2 k j)) (fun f j => x8 (ix2 f j)) x := by
  unfold out0_9
  have hz : (![0, 0] : Fin 2 → ℕ) = fun _ => 0 := by funext a; fin_cases a <;> rfl
  rw [View.canon_unit_zero hz]
  simp only [r0_0, r0_1, r0_2, r0_3, r0_4, View.ld_unit_zero (S := S128x1024) hz, View.ld_unit_zero (S := S1024x1024) hz, View.ld_unit_zero (S := S1x1024) hz,
    View.ld_unit_zero (S := S1024x2816) hz, View.ld_unit_zero (S := S2816x1024) hz]
  rw [last]
  simp only [firsts, hiddens, gates]
  rfl

end Body

variable (m : (ℓ : Loc nD τ sig) → Buf (Elt Ideal) ℓ) (c : Dev nD)

/-- The tile of rows of a grid point. -/
abbrev til (t : Fin cfg0.N) : Fin 1 := grid0.coords t 0

theorem idx : ∀ t : Fin grid0.N,
    win0_0.index t = ![(grid0.coords t 0).val, 0] ∧ win0_1.index t = ![(grid0.coords t 0).val, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![(grid0.coords t 0).val, 0] := by
  decide +kernel

/-- Row `r` of tile `t`. -/
def row (t : Fin cfg0.N) (r : Fin 128) : Fin 128 := ⟨(til t).val * 128 + r.val, by omega⟩

theorem blk0 (t : Fin cfg0.N) (r : Fin 128) (x : Fin 1024) :
    (iblk m c 0 t : S128x1024.Idx → EReal) (ix2 r x) = (V m c main_v9 : S128x1024.Idx → EReal) (ix2 (row t r) x) := by
  unfold row
  blk_ext [iblk, idx t, til]

theorem blk1 (t : Fin cfg0.N) (r : Fin 128) (x : Fin 1024) :
    (iblk m c 1 t : S128x1024.Idx → EReal) (ix2 r x) = (V m c main_v0 : S128x1024.Idx → EReal) (ix2 (row t r) x) := by
  unfold row
  blk_ext [iblk, idx t, til]

theorem blk2 (t : Fin cfg0.N) (k x : Fin 1024) :
    (iblk m c 2 t : S1024x1024.Idx → EReal) (ix2 k x) = (V m c main_v2 : S1024x1024.Idx → EReal) (ix2 k x) := by
  blk_ext [iblk, idx t]

theorem blk3 (t : Fin cfg0.N) (x : Fin 1024) :
    (iblk m c 3 t : S1x1024.Idx → EReal) (ix2 0 x) = (V m c main_arg2 : S1x1024.Idx → EReal) (ix2 0 x) := by
  blk_ext [iblk, idx t]

theorem blk4 (t : Fin cfg0.N) (x : Fin 1024) :
    (iblk m c 4 t : S1x1024.Idx → EReal) (ix2 0 x) = (V m c main_arg4 : S1x1024.Idx → EReal) (ix2 0 x) := by
  blk_ext [iblk, idx t]

theorem blk5 (t : Fin cfg0.N) (x : Fin 1024) :
    (iblk m c 5 t : S1x1024.Idx → EReal) (ix2 0 x) = (V m c main_arg5 : S1x1024.Idx → EReal) (ix2 0 x) := by
  blk_ext [iblk, idx t]

theorem blk6 (t : Fin cfg0.N) (k : Fin 1024) (x : Fin 2816) :
    (iblk m c 6 t : S1024x2816.Idx → EReal) (ix2 k x) = (V m c main_v4 : S1024x2816.Idx → EReal) (ix2 k x) := by
  blk_ext [iblk, idx t]

theorem blk7 (t : Fin cfg0.N) (k : Fin 1024) (x : Fin 2816) :
    (iblk m c 7 t : S1024x2816.Idx → EReal) (ix2 k x) = (V m c main_v6 : S1024x2816.Idx → EReal) (ix2 k x) := by
  blk_ext [iblk, idx t]

theorem blk8 (t : Fin cfg0.N) (k : Fin 2816) (x : Fin 1024) :
    (iblk m c 8 t : S2816x1024.Idx → EReal) (ix2 k x) = (V m c main_v8 : S2816x1024.Idx → EReal) (ix2 k x) := by
  blk_ext [iblk, idx t]

/-- The argument arrays. -/
abbrev a0 : S128x1x1024.Idx → EReal := m ((c : Thread nD τ).loc main_arg0)
abbrev a1 : S128x1x1024.Idx → EReal := m ((c : Thread nD τ).loc main_arg1)
abbrev a2 : S1x1024.Idx → EReal := m ((c : Thread nD τ).loc main_arg2)
abbrev a3 : S1x1024x1024.Idx → EReal := m ((c : Thread nD τ).loc main_arg3)
abbrev a4 : S1x1024.Idx → EReal := m ((c : Thread nD τ).loc main_arg4)
abbrev a5 : S1x1024.Idx → EReal := m ((c : Thread nD τ).loc main_arg5)
abbrev a6 : S1x1024x2816.Idx → EReal := m ((c : Thread nD τ).loc main_arg6)
abbrev a7 : S1x1024x2816.Idx → EReal := m ((c : Thread nD τ).loc main_arg7)
abbrev a8 : S1x2816x1024.Idx → EReal := m ((c : Thread nD τ).loc main_arg8)

theorem host9 (r : Fin 128) (x : Fin 1024) :
    (V m c main_v9 : S128x1024.Idx → EReal) (ix2 r x) = a0 m c (ix3 r 0 x) := by
  unfold V
  simp only [hostOps0, List.flatten_cons, List.flatten_nil, List.cons_append, List.nil_append]
  after_reads_at

theorem host0 (r : Fin 128) (x : Fin 1024) :
    (V m c main_v0 : S128x1024.Idx → EReal) (ix2 r x) = a1 m c (ix3 r 0 x) := by
  unfold V
  simp only [hostOps0, List.flatten_cons, List.flatten_nil, List.cons_append, List.nil_append]
  after_reads_at

theorem host2 (k x : Fin 1024) : (V m c main_v2 : S1024x1024.Idx → EReal) (ix2 k x) = a3 m c (ix3 0 k x) := by
  unfold V
  simp only [hostOps0, List.flatten_cons, List.flatten_nil, List.cons_append, List.nil_append]
  after_reads_at

theorem host4 (k : Fin 1024) (x : Fin 2816) : (V m c main_v4 : S1024x2816.Idx → EReal) (ix2 k x) = a6 m c (ix3 0 k x) := by
  unfold V
  simp only [hostOps0, List.flatten_cons, List.flatten_nil, List.cons_append, List.nil_append]
  after_reads_at

theorem host6 (k : Fin 1024) (x : Fin 2816) : (V m c main_v6 : S1024x2816.Idx → EReal) (ix2 k x) = a7 m c (ix3 0 k x) := by
  unfold V
  simp only [hostOps0, List.flatten_cons, List.flatten_nil, List.cons_append, List.nil_append]
  after_reads_at

theorem host8 (k : Fin 2816) (x : Fin 1024) : (V m c main_v8 : S2816x1024.Idx → EReal) (ix2 k x) = a8 m c (ix3 0 k x) := by
  unfold V
  simp only [hostOps0, List.flatten_cons, List.flatten_nil, List.cons_append, List.nil_append]
  after_reads_at

/-- The result, over the arguments. -/
def spec (r : Fin 128) (x : Fin 1024) : EReal :=
  out (fun k => a0 m c (ix3 r 0 k)) (fun k => a1 m c (ix3 r 0 k))
    (fun k j => a3 m c (ix3 0 k j)) (fun k => a2 m c (ix2 0 k)) (fun k => a4 m c (ix2 0 k)) (fun k => a5 m c (ix2 0 k))
    (fun k j => a6 m c (ix3 0 k j)) (fun k j => a7 m c (ix3 0 k j)) (fun f j => a8 m c (ix3 0 f j)) x

/-- The kernel's result array. -/
theorem array : ((dats m 0 c).arrAt 9 cfg0.N : S128x1024.Idx → EReal) = fun y => spec m c (y 0) (y 1) := by
  refine (dats m 0 c).arrAt_eq_of_covers 9 _ (by decide +kernel) fun t hf y => ?_
  blk_simp [idx t]
  rw [after0_9]
  change S128x1024.Idx at y
  obtain ⟨r, x, rfl⟩ : ∃ r x, y = ix2 r x := ⟨y 0, y 1, by funext a; fin_cases a <;> rfl⟩
  have h : (out0_9 (F := Ideal) (iblk m c 0 t) (iblk m c 1 t) (iblk m c 2 t) (iblk m c 3 t) (iblk m c 4 t) (iblk m c 5 t) (iblk m c 6 t) (iblk m c 7 t) (iblk m c 8 t) : S128x1024.Idx → EReal) (ix2 r x) = spec m c (row t r) x := by
    refine (block _ _ _ _ _ _ _ _ _ r x).trans ?_
    unfold spec
    congr 1
    · exact funext fun k => (blk0 m c t r k).trans (host9 m c (row t r) k)
    · exact funext fun k => (blk1 m c t r k).trans (host0 m c (row t r) k)
    · exact funext fun k => funext fun j => (blk2 m c t k j).trans (host2 m c k j)
    · exact funext fun k => (blk3 m c t k).trans (congrFun (V_main_arg2 m c) _)
    · exact funext fun k => (blk4 m c t k).trans (congrFun (V_main_arg4 m c) _)
    · exact funext fun k => (blk5 m c t k).trans (congrFun (V_main_arg5 m c) _)
    · exact funext fun k => funext fun j => (blk6 m c t k j).trans (host4 m c k j)
    · exact funext fun k => funext fun j => (blk7 m c t k j).trans (host6 m c k j)
    · exact funext fun k => funext fun j => (blk8 m c t k j).trans (host8 m c k j)
  have e : (fun y : S128x1024.Idx => spec m c (y 0) (y 1)) (ix2 (row t r) x) = spec m c (row t r) x := rfl
  refine h.trans (e.symm.trans (congrArg (fun y : S128x1024.Idx => spec m c (y 0) (y 1)) ?_))
  unfold row
  blk_ext [idx t, til]

end Cert.FfnSample.Block
-- ==== Proof.ProjSpec.lean ====
module

public import proofs.«01_k».proof.Proof.FfnSpec

/-!
# A row of the sample's projections

The first 512 lanes are the queries of four heads, the next 512 the keys, both turned by the angle of the first
position after the prompt; the keys are scaled. The lanes after them are the plain product.
-/

@[expose] public section

noncomputable section

namespace Cert.Proj

open Idealize.ShloMosaic

/-- The angle of a lane's rate at the first position after the prompt. -/
def angle (j : ℕ) : EReal :=
  (Ideal.ofBits FTy.f32 1174405120#32 + FloatOps.sitofp (F := Ideal) (w := 32) FTy.f32 0#32) *
    Ideal.pow (Ideal.ofBits FTy.f32 1176256512#32)
      (Ideal.div (-FloatOps.sitofp (F := Ideal) (w := 32) FTy.f32 (BitVec.ofNat 32 j)) (Ideal.ofBits FTy.f32 1115684864#32))

/-- The cosine a lane is multiplied by. -/
def cosine (l : Fin 128) : EReal := if l.val < 64 then Ideal.cos (angle l.val) else Ideal.cos (angle (l.val - 64))

/-- The signed sine a lane's partner is multiplied by. -/
def sine (l : Fin 128) : EReal := if l.val < 64 then -Ideal.sin (angle l.val) else Ideal.sin (angle (l.val - 64))

/-- Each pair of halves turned by the angle of its lane. -/
def turn {n : ℕ} (hn : 1024 ≤ n) (p : Fin n → EReal) (cs sn : Fin 128 → EReal) (x : Fin n) (hx : x.val < 1024) : EReal :=
  p x * cs ⟨x.val % 128, by omega⟩ + p ⟨x.val / 128 * 128 + (x.val % 128 + 64) % 128, by omega⟩ * sn ⟨x.val % 128, by omega⟩

theorem turn_eq {n : ℕ} (hn : 1024 ≤ n) (p : Fin n → EReal) (cs sn : Fin 128 → EReal) (x : Fin n) (hx : x.val < 1024) (a b : Fin n) (l : Fin 128)
    (ha : a.val = x.val) (hb : b.val = x.val / 128 * 128 + (x.val % 128 + 64) % 128) (hl : l.val = x.val % 128) :
    p a * cs l + p b * sn l = turn hn p cs sn x hx := by
  obtain rfl : a = x := Fin.ext ha
  refine congrArg₂ (· + ·) (congrArg (p a * ·) (congrArg cs (Fin.ext hl))) (congrArg₂ (· * ·) (congrArg p (Fin.ext hb)) (congrArg sn (Fin.ext hl)))

/-- A lower lane, as the difference the plain rotation takes. -/
theorem turn_lower (p : Fin 8192 → EReal) (x : Fin 8192) (hx : x.val < 1024) (h : x.val % 128 < 64) (a b : Fin 8192) (j : ℕ)
    (ha : a.val = x.val) (hb : b.val = x.val + 64) (hj : j = x.val % 128) :
    p a * Ideal.cos (angle j) - p b * Ideal.sin (angle j) = turn (by omega) p cosine sine x hx := by
  subst hj
  refine Eq.trans ?_ (turn_eq (by omega) p cosine sine x hx a b ⟨x.val % 128, by omega⟩ ha (by omega) rfl)
  rw [cosine, sine, if_pos h, if_pos h, mul_neg, sub_eq_add_neg]

/-- An upper lane, as the sum the plain rotation takes. -/
theorem turn_upper (p : Fin 8192 → EReal) (x : Fin 8192) (hx : x.val < 1024) (h : ¬x.val % 128 < 64) (a b : Fin 8192) (j : ℕ)
    (ha : a.val = x.val - 64) (hb : b.val = x.val) (hj : j = x.val % 128 - 64) :
    p a * Ideal.sin (angle j) + p b * Ideal.cos (angle j) = turn (by omega) p cosine sine x hx := by
  subst hj
  refine Eq.trans ?_ (turn_eq (by omega) p cosine sine x hx b a ⟨x.val % 128, by omega⟩ hb (by omega) rfl)
  rw [cosine, sine, if_neg h, if_neg h, add_comm]

/-- A row of the result, over the row of products. -/
def lanes (p : Fin 8192 → EReal) (x : Fin 8192) : EReal :=
  if h : x.val < 1024 then
    if x.val < 512 then turn (by omega) p cosine sine x h else turn (by omega) p cosine sine x h * Ideal.ofBits FTy.f32 1035273459#32
  else p x

theorem lanes_query (p : Fin 8192 → EReal) (x : Fin 8192) (h : x.val < 512) : lanes p x = turn (by omega) p cosine sine x (by omega) := by
  unfold lanes
  rw [dif_pos (by omega), if_pos h]

theorem lanes_key (p : Fin 8192 → EReal) (x : Fin 8192) (h : ¬x.val < 512) (h' : x.val < 1024) :
    lanes p x = turn (by omega) p cosine sine x h' * Ideal.ofBits FTy.f32 1035273459#32 := by
  unfold lanes
  rw [dif_pos h', if_neg h]

theorem lanes_rest (p : Fin 8192 → EReal) (x : Fin 8192) (h : ¬x.val < 1024) : lanes p x = p x := by
  unfold lanes
  rw [dif_neg h]

end Cert.Proj
-- ==== Proof.ProjReference.lean ====
module

public import proofs.«01_k».proof.Proof.ProjSpec
public import proofs.«01_k».proof.Proof.Gen.ReferenceProjIdeal.Read
public import Idealize.ShloMosaic.Lib.Pointwise

/-!
# The reference of the sample's projections, entry by entry
-/

@[expose] public section

set_option maxRecDepth 16384

noncomputable section

namespace Cert.Proj.Reference

open Cert.ReferenceProjIdeal Cert.ReferenceProjIdeal.Read Cert.Ffn
open Idealize.ShloMosaic Idealize.ShloMosaic.TcCoe Idealize.ShloMosaic.Tactic

variable (x0 : (⟨S128x1x1024, .f32⟩ : BufTy).Contents (Elt Ideal)) (x1 : (⟨S1x1024, .f32⟩ : BufTy).Contents (Elt Ideal))
variable (x2 : (⟨S1x1024x8192, .f32⟩ : BufTy).Contents (Elt Ideal))

theorem products (r : Fin 128) (x : Fin 8192) :
    val_main_v18 (F := Ideal) x0 x1 x2 (ix3 r 0 x)
      = ∑ k : Fin 1024, Ffn.norm (fun k => x0 (ix3 r 0 k)) (fun k => x1 (ix2 0 k)) k * x2 (ix3 0 k x) := by
  unfold val_main_v18 val_main_v17 val_main_v16 val_main_v15 val_main_v14 val_main_v13 val_main_v12 val_main_v11 val_main_v10 val_main_v9 val_main_v8 val_main_v7 val_main_v6 val_main_v5 val_main_v4 val_main_v3 val_main_cst_0 val_main_cst_1 val_main_cst_2 Ffn.norm
  pointwise

theorem angles (j : Fin 64) : val_main_v32 (F := Ideal) (ix2 0 j) = angle j.val := by
  unfold val_main_v32 val_main_v31 val_main_v30 val_main_v29 val_main_v28 val_main_v27 val_main_v26 val_main_v25 val_main_v24 val_main_v23 val_main_v2 val_main_v1 val_main_v0 val_main_cst val_main_cst_3 val_main_cst_4
  pointwise
  rfl

theorem angles' (j : Fin 64) : val_main_v64 (F := Ideal) (ix2 0 j) = angle j.val := by
  unfold val_main_v64 val_main_v63 val_main_v62 val_main_v61 val_main_v60 val_main_v59 val_main_v58 val_main_v57 val_main_v56 val_main_v55 val_main_v2 val_main_v1 val_main_v0 val_main_cst val_main_cst_5 val_main_cst_6
  pointwise
  rfl

set_option maxHeartbeats 4000000 in
theorem result (r : Fin 128) (x : Fin 8192) : val_main_v91 (F := Ideal) x0 x1 x2 (ix2 r x)
      = lanes (fun x => ∑ k : Fin 1024, Ffn.norm (fun k => x0 (ix3 r 0 k)) (fun k => x1 (ix2 0 k)) k * x2 (ix3 0 k x)) x := by
  unfold val_main_v91 val_main_v90 val_main_v89 val_main_v88 val_main_v87 val_main_v86 val_main_cst_7 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v22 val_main_v21 val_main_v20 val_main_v19
  simp only [← products]
  generalize val_main_v18 (F := Ideal) x0 x1 x2 = y
  have hw := angles
  have hw' := angles'
  generalize val_main_v32 (F := Ideal) = w at hw ⊢
  generalize val_main_v64 (F := Ideal) = w' at hw' ⊢
  have hx := x.isLt
  by_cases h5 : x.val < 512
  · rw [lanes_query _ _ h5]
    pointwise
    rw [dif_pos h5]
    by_cases h : x.val % 128 < 64
    · rw [dif_pos h, hw]
      exact turn_lower (fun x => y (ix3 r 0 x)) x (by omega) (by omega) _ _ _ (by first | omega | (dsimp only; omega) | dsimp only) (by first | omega | (dsimp only; omega) | dsimp only) (by first | omega | (dsimp only; omega) | dsimp only)
    · rw [dif_neg h, hw]
      exact turn_upper (fun x => y (ix3 r 0 x)) x (by omega) (by omega) _ _ _ (by first | omega | (dsimp only; omega) | dsimp only) (by first | omega | (dsimp only; omega) | dsimp only) (by first | omega | (dsimp only; omega) | dsimp only)
  · by_cases h10 : x.val < 1024
    · rw [lanes_key _ _ h5 h10]
      pointwise
      rw [dif_neg h5, dif_pos (by omega)]
      refine congrArg (· * Ideal.ofBits FTy.f32 1035273459#32) ?_
      by_cases h : (x.val - 512) % 128 < 64
      · rw [dif_pos h, hw']
        exact turn_lower (fun x => y (ix3 r 0 x)) x (by omega) (by omega) _ _ _ (by first | omega | (dsimp only; omega) | dsimp only) (by first | omega | (dsimp only; omega) | dsimp only) (by first | omega | (dsimp only; omega) | dsimp only)
      · rw [dif_neg h, hw']
        exact turn_upper (fun x => y (ix3 r 0 x)) x (by omega) (by omega) _ _ _ (by first | omega | (dsimp only; omega) | dsimp only) (by first | omega | (dsimp only; omega) | dsimp only) (by first | omega | (dsimp only; omega) | dsimp only)
    · rw [lanes_rest _ _ h10]
      pointwise
      rw [dif_neg h5, dif_neg (by omega)]
      refine congrArg (fun x => y (ix3 r 0 x)) (Fin.ext ?_)
      dsimp only
      omega

end Cert.Proj.Reference
-- ==== Proof.ProjBlock.lean ====
module

public import proofs.«01_k».proof.Proof.ProjSpec
public import proofs.«01_k».proof.Proof.Gen.KernelProjIdeal.Value
public import Idealize.ShloMosaic.Lib.Pointwise
public import Idealize.ShloMosaic.Lib.StableHlo.ReadAt
public import Idealize.ShloMosaic.Lib.Pipeline.ValueKit

/-!
# The kernel of the sample's projections, entry by entry
-/

@[expose] public section

set_option maxRecDepth 16384

noncomputable section

namespace Cert.Proj.Block

open Cert.KernelProjIdeal Cert.KernelProjIdeal.Gen Cert.Ffn
open Idealize.ShloMosaic Idealize.ShloMosaic.TcCoe Idealize.ShloMosaic.Tactic

section Body

variable (x0 : Vec Ideal S128x1024 .f32) (x1 : Vec Ideal S1x1024 .f32) (x2 : Vec Ideal S1024x1024 .bf16) (x3 x4 : Vec Ideal S1x128 .f32)

theorem products (r : Fin 128) (x : Fin 1024) :
    k0_pay1 (F := Ideal) x0 x1 x2 (ix2 r x) = mixed (Ffn.norm (fun k => x0 (ix2 r k)) (fun k => x1 (ix2 0 k))) (fun k j => x2 (ix2 k j)) x := by
  unfold k0_pay1 Ffn.norm mixed
  pointwise

variable (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S128x1024 .f32) (harg6 : arg6.IsWhole)

theorem hz : (![0, 0] : Fin 2 → ℕ) = fun _ => 0 := by funext a; fin_cases a <;> rfl

theorem blockB (hc0 : ¬cond0_0 i) (hc1 : cond0_1 i) :
    out0_B_5 (F := Ideal) c i arg1 harg1 arg2 harg2 arg3 harg3 arg4 harg4 arg5 harg5 arg6 harg6 hc0 hc1 x0 x1 x2 x3 x4 = k0_pay1 (F := Ideal) x0 x1 x2 := by
  unfold out0_B_5
  rw [View.read_writes_junk_eq_canon]
  refine (View.canon_unit_zero (S := S128x1024) hz inb_S128x1024_S128x1024_0_0 _).trans ?_
  simp only [View.readAt_eq_ld, harg1.read_unread, harg2.read_unread, harg3.read_unread, View.ld_unit_zero (S := S128x1024) hz,
    View.ld_unit_zero (S := S1x1024) hz, View.ld_unit_zero (S := S1024x1024) hz]

theorem blockA (hc0 : cond0_0 i) (hc1 : ¬cond0_1 i) :
    out0_A_5 (F := Ideal) c i arg1 harg1 arg2 harg2 arg3 harg3 arg4 harg4 arg5 harg5 arg6 harg6 hc0 hc1 x0 x1 x2 x3 x4
      = k0_pay2 (F := Ideal) x0 x1 x2 (k0_pay3 x3) (k0_pay4 x4) (k0_pay5 (k0_pay1 x0 x1 x2) x3 x4) (k0_pay6 (k0_pay1 x0 x1 x2) x3 x4)
          (k0_pay7 (k0_pay1 x0 x1 x2) x3 x4) (k0_pay8 (k0_pay1 x0 x1 x2) x3 x4) (k0_pay9 (k0_pay1 x0 x1 x2) x3 x4) (k0_pay10 (k0_pay1 x0 x1 x2) x3 x4)
          (k0_pay11 (k0_pay1 x0 x1 x2)) (k0_pay12 (k0_pay1 x0 x1 x2) x3) 64#32 := by
  unfold out0_A_5
  rw [View.read_writes_junk_eq_canon]
  refine (View.canon_unit_zero (S := S128x1024) hz inb_S128x1024_S128x1024_0_0 _).trans ?_
  simp only [View.readAt_eq_ld, harg1.read_unread, harg2.read_unread, harg3.read_unread, harg4.read_unread, harg5.read_unread, View.ld_unit_zero (S := S128x1024) hz,
    View.ld_unit_zero (S := S1x1024) hz, View.ld_unit_zero (S := S1024x1024) hz, View.ld_unit_zero (S := S1x128) hz,
    kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]

theorem joined_query (r : Fin 128) (x : Fin 1024) (h : x.val < 512) :
    k0_pay2 (F := Ideal) x0 x1 x2 (k0_pay3 x3) (k0_pay4 x4) (k0_pay5 (k0_pay1 x0 x1 x2) x3 x4) (k0_pay6 (k0_pay1 x0 x1 x2) x3 x4)
          (k0_pay7 (k0_pay1 x0 x1 x2) x3 x4) (k0_pay8 (k0_pay1 x0 x1 x2) x3 x4) (k0_pay9 (k0_pay1 x0 x1 x2) x3 x4) (k0_pay10 (k0_pay1 x0 x1 x2) x3 x4)
          (k0_pay11 (k0_pay1 x0 x1 x2)) (k0_pay12 (k0_pay1 x0 x1 x2) x3) 64#32 (ix2 r x)
      = turn (le_refl 1024) (fun k => k0_pay1 (F := Ideal) x0 x1 x2 (ix2 r k)) (fun l => x3 (ix2 0 l)) (fun l => x4 (ix2 0 l)) x x.isLt := by
  unfold k0_pay2 k0_pay12 k0_pay11 k0_pay10 k0_pay9 k0_pay8 k0_pay7 k0_pay6 k0_pay5 k0_pay4 k0_pay3
  generalize k0_pay1 (F := Ideal) x0 x1 x2 = y
  pointwise
  have hx := x.isLt
  split_ifs
  all_goals first
    | omega
    | exact turn_eq (le_refl 1024) (fun k => y (ix2 r k)) (fun l => x3 (ix2 0 l)) (fun l => x4 (ix2 0 l)) x x.isLt _ _ _ (by first | omega | (dsimp only; omega)) (by first | omega | (dsimp only; omega)) (by first | omega | (dsimp only; omega))

theorem joined_key (r : Fin 128) (x : Fin 1024) (h : ¬x.val < 512) :
    k0_pay2 (F := Ideal) x0 x1 x2 (k0_pay3 x3) (k0_pay4 x4) (k0_pay5 (k0_pay1 x0 x1 x2) x3 x4) (k0_pay6 (k0_pay1 x0 x1 x2) x3 x4)
          (k0_pay7 (k0_pay1 x0 x1 x2) x3 x4) (k0_pay8 (k0_pay1 x0 x1 x2) x3 x4) (k0_pay9 (k0_pay1 x0 x1 x2) x3 x4) (k0_pay10 (k0_pay1 x0 x1 x2) x3 x4)
          (k0_pay11 (k0_pay1 x0 x1 x2)) (k0_pay12 (k0_pay1 x0 x1 x2) x3) 64#32 (ix2 r x)
      = turn (le_refl 1024) (fun k => k0_pay1 (F := Ideal) x0 x1 x2 (ix2 r k)) (fun l => x3 (ix2 0 l)) (fun l => x4 (ix2 0 l)) x x.isLt * Ideal.ofBits .f32 1035273459#32 := by
  unfold k0_pay2 k0_pay12 k0_pay11 k0_pay10 k0_pay9 k0_pay8 k0_pay7 k0_pay6 k0_pay5 k0_pay4 k0_pay3
  generalize k0_pay1 (F := Ideal) x0 x1 x2 = y
  pointwise
  have hx := x.isLt
  split_ifs
  all_goals first
    | omega
    | exact congrArg (· * Ideal.ofBits .f32 1035273459#32) (turn_eq (le_refl 1024) (fun k => y (ix2 r k)) (fun l => x3 (ix2 0 l)) (fun l => x4 (ix2 0 l)) x x.isLt _ _ _ (by first | omega | (dsimp only; omega)) (by first | omega | (dsimp only; omega)) (by first | omega | (dsimp only; omega)))

end Body

variable (m : (ℓ : Loc nD τ sig) → Buf (Elt Ideal) ℓ) (c : Dev nD)

/-- The argument arrays. -/
abbrev a0 : S128x1x1024.Idx → EReal := m ((c : Thread nD τ).loc main_arg0)
abbrev a1 : S1x1024.Idx → EReal := m ((c : Thread nD τ).loc main_arg1)
abbrev a2 : S1x1024x8192.Idx → EReal := m ((c : Thread nD τ).loc main_arg2)

theorem host1 (k : Fin 1024) (x : Fin 8192) : (V m c main_v1 : S1024x8192.Idx → EReal) (ix2 k x) = a2 m c (ix3 0 k x) := by
  unfold V
  simp only [hostOps0, List.flatten_cons, List.flatten_nil, List.cons_append, List.nil_append]
  after_reads_at

theorem host20 (r : Fin 128) (k : Fin 1024) : (V m c main_v20 : S128x1024.Idx → EReal) (ix2 r k) = a0 m c (ix3 r 0 k) := by
  unfold V
  simp only [hostOps0, List.flatten_cons, List.flatten_nil, List.cons_append, List.nil_append]
  after_reads_at

theorem cosines (l : Fin 128) : (V m c main_v17 : S1x128.Idx → EReal) (ix2 0 l) = cosine l := by
  unfold V
  simp only [hostOps0, List.flatten_cons, List.flatten_nil, List.cons_append, List.nil_append]
  after_reads_at
  rfl

theorem sines (l : Fin 128) : (V m c main_v19 : S1x128.Idx → EReal) (ix2 0 l) = sine l := by
  unfold V
  simp only [hostOps0, List.flatten_cons, List.flatten_nil, List.cons_append, List.nil_append]
  after_reads_at
  rfl

theorem idx : ∀ t : Fin grid0.N,
    win0_0.index t = ![0, 0] ∧ win0_1.index t = ![0, 0] ∧ win0_2.index t = ![0, (grid0.coords t 0).val]
    ∧ win0_3.index t = ![0, 0] ∧ win0_4.index t = ![0, 0] ∧ win0_5.index t = ![0, (grid0.coords t 0).val] := by
  decide +kernel

theorem coord : ∀ t : Fin grid0.N, (grid0.coords t 0).val = t.val := by decide +kernel

/-- The group of columns of a grid point. -/
abbrev til (t : Fin cfg0.N) : Fin 8 := grid0.coords t 0

/-- Column `x` of group `t`. -/
def col (t : Fin cfg0.N) (x : Fin 1024) : Fin 8192 := ⟨(til t).val * 1024 + x.val, by omega⟩

theorem blk0 (t : Fin cfg0.N) (r : Fin 128) (x : Fin 1024) :
    (iblk m c 0 t : S128x1024.Idx → EReal) (ix2 r x) = (V m c main_v20 : S128x1024.Idx → EReal) (ix2 r x) := by
  blk_ext [iblk, idx t]

theorem blk1 (t : Fin cfg0.N) (x : Fin 1024) :
    (iblk m c 1 t : S1x1024.Idx → EReal) (ix2 0 x) = (V m c main_arg1 : S1x1024.Idx → EReal) (ix2 0 x) := by
  blk_ext [iblk, idx t]

theorem blk2 (t : Fin cfg0.N) (k x : Fin 1024) :
    (iblk m c 2 t : S1024x1024.Idx → EReal) (ix2 k x) = (V m c main_v1 : S1024x8192.Idx → EReal) (ix2 k (col t x)) := by
  unfold col
  blk_ext [iblk, idx t, til]

theorem blk3 (t : Fin cfg0.N) (x : Fin 128) :
    (iblk m c 3 t : S1x128.Idx → EReal) (ix2 0 x) = (V m c main_v17 : S1x128.Idx → EReal) (ix2 0 x) := by
  blk_ext [iblk, idx t]

theorem blk4 (t : Fin cfg0.N) (x : Fin 128) :
    (iblk m c 4 t : S1x128.Idx → EReal) (ix2 0 x) = (V m c main_v19 : S1x128.Idx → EReal) (ix2 0 x) := by
  blk_ext [iblk, idx t]

/-- The row of products, over the arguments. -/
def product (r : Fin 128) (x : Fin 8192) : EReal :=
  ∑ k : Fin 1024, Ffn.norm (fun k => a0 m c (ix3 r 0 k)) (fun k => a1 m c (ix2 0 k)) k * a2 m c (ix3 0 k x)

/-- The result, over the arguments. -/
def spec (r : Fin 128) (x : Fin 8192) : EReal := lanes (product m c r) x

theorem prods (t : Fin cfg0.N) (r : Fin 128) (x : Fin 1024) :
    k0_pay1 (F := Ideal) (iblk m c 0 t) (iblk m c 1 t) (iblk m c 2 t) (ix2 r x) = product m c r (col t x) := by
  refine (products _ _ _ r x).trans ?_
  unfold product mixed
  refine Finset.sum_congr rfl fun k _ => congrArg₂ (· * ·) ?_ ((blk2 m c t k x).trans (host1 m c k _))
  congr 1
  · exact funext fun k => (blk0 m c t r k).trans (host20 m c r k)
  · exact funext fun k => (blk1 m c t k).trans (congrFun (V_main_arg1 m c) _)

theorem outs (t : Fin cfg0.N) (r : Fin 128) (x : Fin 1024) : (outsAt0 m c t.val t.isLt : S128x1024.Idx → EReal) (ix2 r x) = spec m c r (col t x) := by
  have hc := coord t
  have ht : t.val < 8 := t.isLt
  have hx := x.isLt
  unfold spec lanes
  by_cases h : t.val = 0
  · rw [outsAt0_A m c t (by omega) (by omega), blockA]
    have hv : (col t x).val = x.val := by unfold col; dsimp only [til]; omega
    have e : turn (le_refl 1024) (fun k => k0_pay1 (F := Ideal) (iblk m c 0 t) (iblk m c 1 t) (iblk m c 2 t) (ix2 r k)) (fun l => (iblk m c 3 t : S1x128.Idx → EReal) (ix2 0 l))
        (fun l => (iblk m c 4 t : S1x128.Idx → EReal) (ix2 0 l)) x x.isLt = turn (by omega) (product m c r) cosine sine (col t x) (by omega) := by
      unfold turn
      simp only []
      rw [prods, prods, blk3, blk4, cosines, sines]
      refine turn_eq (by omega) (product m c r) cosine sine (col t x) (by omega) _ _ _ rfl ?_ ?_
      · unfold col; dsimp only [til]; omega
      · unfold col; dsimp only [til]; omega
    rw [dif_pos (by omega)]
    by_cases h5 : x.val < 512
    · rw [joined_query _ _ _ _ _ r x h5, if_pos (by omega)]
      exact e
    · rw [joined_key _ _ _ _ _ r x h5, if_neg (by omega)]
      exact congrArg (· * Ideal.ofBits .f32 1035273459#32) e
  · have hv : ¬(col t x).val < 1024 := by unfold col; dsimp only [til]; omega
    rw [outsAt0_B m c t (by omega) (by omega), blockB, dif_neg hv]
    exact prods m c t r x

/-- The kernel's result array. -/
theorem array : ((dats m 0 c).arrAt 5 cfg0.N : S128x8192.Idx → EReal) = fun y => spec m c (y 0) (y 1) := by
  refine (dats m 0 c).arrAt_eq_of_covers 5 _ (by decide +kernel) fun t hf y => ?_
  blk_simp [idx t]
  rw [after0_5]
  change S128x1024.Idx at y
  obtain ⟨r, x, rfl⟩ : ∃ r x, y = ix2 r x := ⟨y 0, y 1, by funext a; fin_cases a <;> rfl⟩
  have e : (fun y : S128x8192.Idx => spec m c (y 0) (y 1)) (ix2 r (col t x)) = spec m c r (col t x) := rfl
  refine (outs m c t r x).trans (e.symm.trans (congrArg (fun y : S128x8192.Idx => spec m c (y 0) (y 1)) ?_))
  unfold col
  blk_ext [idx t, til]

end Cert.Proj.Block
-- ==== Proof.InSpec.lean ====
module

public import proofs.«01_k».proof.Proof.ProjSpec

/-!
# A row of the prompt's projections

The row of products is cut into the heads' columns: queries and keys turned by the angle of their position, the
keys scaled; the values, the keys and values of the second mixer, plain; two gates.
-/

@[expose] public section

noncomputable section

namespace Cert.In

open Idealize.ShloMosaic Cert.Ffn Cert.Proj

/-- The row of products, column `x`. -/
def product (v w : Fin 1024 → EReal) (W : Fin 1024 → Fin 8192 → EReal) (x : Fin 8192) : EReal :=
  ∑ k : Fin 1024, Ffn.norm v w k * W k x

/-- The angle of a lane's rate at position `p`. -/
def angle (p j : ℕ) : EReal :=
  FloatOps.sitofp (F := Ideal) (w := 32) FTy.f32 (BitVec.ofNat 32 p) *
    Ideal.pow (Ideal.ofBits FTy.f32 1176256512#32)
      (Ideal.div (-FloatOps.sitofp (F := Ideal) (w := 32) FTy.f32 (BitVec.ofNat 32 j)) (Ideal.ofBits FTy.f32 1115684864#32))

/-- The cosine a lane is multiplied by. -/
def cosine (p : ℕ) (l : Fin 128) : EReal := if l.val < 64 then Ideal.cos (angle p l.val) else Ideal.cos (angle p (l.val - 64))

/-- The signed sine a lane's partner is multiplied by. -/
def sine (p : ℕ) (l : Fin 128) : EReal := if l.val < 64 then -Ideal.sin (angle p l.val) else Ideal.sin (angle p (l.val - 64))

/-- A lower lane, as the difference the plain rotation takes. -/
theorem turn_lower (p : ℕ) (P : Fin 8192 → EReal) (x : Fin 8192) (hx : x.val < 1024) (h : x.val % 128 < 64) (a b : Fin 8192) (j : ℕ)
    (ha : a.val = x.val) (hb : b.val = x.val + 64) (hj : j = x.val % 128) :
    P a * Ideal.cos (angle p j) - P b * Ideal.sin (angle p j) = turn (by omega) P (cosine p) (sine p) x hx := by
  subst hj
  refine Eq.trans ?_ (turn_eq (by omega) P (cosine p) (sine p) x hx a b ⟨x.val % 128, by omega⟩ ha (by omega) rfl)
  rw [cosine, sine, if_pos h, if_pos h, mul_neg, sub_eq_add_neg]

/-- An upper lane, as the sum the plain rotation takes. -/
theorem turn_upper (p : ℕ) (P : Fin 8192 → EReal) (x : Fin 8192) (hx : x.val < 1024) (h : ¬x.val % 128 < 64) (a b : Fin 8192) (j : ℕ)
    (ha : a.val = x.val - 64) (hb : b.val = x.val) (hj : j = x.val % 128 - 64) :
    P a * Ideal.sin (angle p j) + P b * Ideal.cos (angle p j) = turn (by omega) P (cosine p) (sine p) x hx := by
  subst hj
  refine Eq.trans ?_ (turn_eq (by omega) P (cosine p) (sine p) x hx b a ⟨x.val % 128, by omega⟩ hb (by omega) rfl)
  rw [cosine, sine, if_neg h, if_neg h, add_comm]

/-- A query's lane at position `p`. -/
def query (p : ℕ) (P : Fin 8192 → EReal) (x : Fin 512) : EReal :=
  turn (by omega) P (cosine p) (sine p) ⟨x.val, by omega⟩ (by dsimp only; omega)

/-- A key's lane at position `p`. -/
def key (p : ℕ) (P : Fin 8192 → EReal) (x : Fin 512) : EReal :=
  turn (by omega) P (cosine p) (sine p) ⟨512 + x.val, by omega⟩ (by dsimp only; omega) * Ideal.ofBits FTy.f32 1035273459#32

/-- The logistic function. -/
def gate (a : EReal) : EReal :=
  Ideal.div (Ideal.ofBits .f32 0x3F800000#32) (Ideal.ofBits .f32 0x3F800000#32 + Ideal.exp (-a))

/-- The gate of the retention's output. -/
def gateR (P : Fin 8192 → EReal) (x : Fin 1024) : EReal :=
  P ⟨2048 + x.val, by omega⟩ * gate (P ⟨2048 + x.val, by omega⟩) * gate (P ⟨6144 + x.val, by omega⟩)

/-- The gate of the attention's output, with the weight of its heads' norm. -/
def gateD (P : Fin 8192 → EReal) (w : Fin 128 → EReal) (x : Fin 1024) : EReal :=
  gate (P ⟨7168 + x.val, by omega⟩) * (w ⟨x.val % 128, by omega⟩ * Ideal.ofBits .f32 0x3F4CCCCD#32)

end Cert.In
-- ==== Proof.InReference.lean ====
module

public import proofs.«01_k».proof.Proof.InSpec
public import proofs.«01_k».proof.Proof.Gen.ReferenceInIdeal.Read
public import Idealize.ShloMosaic.Lib.Pointwise

/-!
# The reference of the prompt's projections, entry by entry
-/

@[expose] public section

set_option maxRecDepth 16384

noncomputable section

namespace Cert.In.Reference

open Cert.ReferenceInIdeal Cert.ReferenceInIdeal.Read Cert.Ffn Cert.Proj
open Idealize.ShloMosaic Idealize.ShloMosaic.TcCoe Idealize.ShloMosaic.Tactic

variable (x0 : (⟨S16x4096x1024, .f32⟩ : BufTy).Contents (Elt Ideal)) (x1 : (⟨S1x1024, .f32⟩ : BufTy).Contents (Elt Ideal))
variable (x2 : (⟨S1x1024x8192, .f32⟩ : BufTy).Contents (Elt Ideal)) (x3 : (⟨S1x128, .f32⟩ : BufTy).Contents (Elt Ideal))

/-- Row `n` of batch `b` of the products. -/
def prod (b : Fin 16) (n : Fin 4096) : Fin 8192 → EReal :=
  product (fun k => x0 (ix3 b n k)) (fun k => x1 (ix2 0 k)) (fun k j => x2 (ix3 0 k j))

theorem products (b : Fin 16) (n : Fin 4096) (x : Fin 8192) :
    val_main_v17 (F := Ideal) x0 x1 x2 (ix3 b n x) = prod x0 x1 x2 b n x := by
  unfold prod product val_main_v17 val_main_v16 val_main_v15 val_main_v14 val_main_v13 val_main_v12 val_main_v11 val_main_v10 val_main_v9 val_main_v8 val_main_v7 val_main_v6 val_main_v5 val_main_v4 val_main_v3 val_main_v2 val_main_cst val_main_cst_0 val_main_cst_1 Ffn.norm
  pointwise

theorem angles (n : Fin 4096) (j : Fin 64) : val_main_v38 (F := Ideal) (ix2 n j) = angle (16 + n.val) j.val := by
  unfold val_main_v38 val_main_v37 val_main_v36 val_main_v35 val_main_v34 val_main_v33 val_main_v32 val_main_v31 val_main_v30 val_main_v29 val_main_v28 val_main_v1 val_main_v0 val_main_cst_2 val_main_cst_3
  pointwise
  rfl

theorem angles' (n : Fin 4096) (j : Fin 64) : val_main_v72 (F := Ideal) (ix2 n j) = angle (16 + n.val) j.val := by
  unfold val_main_v72 val_main_v71 val_main_v70 val_main_v69 val_main_v68 val_main_v67 val_main_v66 val_main_v65 val_main_v64 val_main_v63 val_main_v62 val_main_v1 val_main_v0 val_main_cst_4 val_main_cst_5
  pointwise
  rfl

set_option maxHeartbeats 4000000 in
theorem queries (b : Fin 16) (n : Fin 4096) (x : Fin 512) :
    val_main_v123 (F := Ideal) x0 x1 x2 (ix3 b n x) = query (16 + n.val) (prod x0 x1 x2 b n) x := by
  unfold query val_main_v123 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v27 val_main_v18
  have hp := products x0 x1 x2
  generalize val_main_v17 (F := Ideal) x0 x1 x2 = y at hp ⊢
  have hw := angles
  generalize val_main_v38 (F := Ideal) = w at hw ⊢
  rw [← show (fun x => y (ix3 b n x)) = prod x0 x1 x2 b n from funext fun x => hp b n x]
  have hx := x.isLt
  pointwise
  by_cases h : x.val % 128 < 64
  · rw [dif_pos h, hw]
    exact turn_lower (16 + n.val) (fun x => y (ix3 b n x)) ⟨x.val, by omega⟩ (by dsimp only; omega) (by dsimp only; omega) _ _ _ (by first | omega | (dsimp only; omega) | dsimp only) (by first | omega | (dsimp only; omega) | dsimp only) (by first | omega | (dsimp only; omega) | dsimp only)
  · rw [dif_neg h, hw]
    exact turn_upper (16 + n.val) (fun x => y (ix3 b n x)) ⟨x.val, by omega⟩ (by dsimp only; omega) (by dsimp only; omega) _ _ _ (by first | omega | (dsimp only; omega) | dsimp only) (by first | omega | (dsimp only; omega) | dsimp only) (by first | omega | (dsimp only; omega) | dsimp only)

set_option maxHeartbeats 4000000 in
theorem keys (b : Fin 16) (n : Fin 4096) (x : Fin 512) :
    val_main_v124 (F := Ideal) x0 x1 x2 (ix3 b n x) = key (16 + n.val) (prod x0 x1 x2 b n) x := by
  unfold key val_main_v124 val_main_v96 val_main_v95 val_main_v94 val_main_cst_6 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v61 val_main_v19
  have hp := products x0 x1 x2
  generalize val_main_v17 (F := Ideal) x0 x1 x2 = y at hp ⊢
  have hw := angles'
  generalize val_main_v72 (F := Ideal) = w at hw ⊢
  rw [← show (fun x => y (ix3 b n x)) = prod x0 x1 x2 b n from funext fun x => hp b n x]
  have hx := x.isLt
  pointwise
  refine congrArg (· * Ideal.ofBits FTy.f32 1035273459#32) ?_
  by_cases h : x.val % 128 < 64
  · rw [dif_pos h, hw]
    exact turn_lower (16 + n.val) (fun x => y (ix3 b n x)) ⟨512 + x.val, by omega⟩ (by dsimp only; omega) (by dsimp only; omega) _ _ _ (by first | omega | (dsimp only; omega) | dsimp only) (by first | omega | (dsimp only; omega) | dsimp only) (by first | omega | (dsimp only; omega) | dsimp only)
  · rw [dif_neg h, hw]
    exact turn_upper (16 + n.val) (fun x => y (ix3 b n x)) ⟨512 + x.val, by omega⟩ (by dsimp only; omega) (by dsimp only; omega) _ _ _ (by first | omega | (dsimp only; omega) | dsimp only) (by first | omega | (dsimp only; omega) | dsimp only) (by first | omega | (dsimp only; omega) | dsimp only)

theorem values (b : Fin 16) (n : Fin 4096) (x : Fin 1024) :
    val_main_v125 (F := Ideal) x0 x1 x2 (ix3 b n x) = prod x0 x1 x2 b n ⟨1024 + x.val, by omega⟩ := by
  unfold val_main_v125 val_main_v20
  simp only [← products]
  generalize val_main_v17 (F := Ideal) x0 x1 x2 = y
  pointwise

theorem keysD (b : Fin 16) (n : Fin 4096) (x : Fin 1024) :
    val_main_v126 (F := Ideal) x0 x1 x2 (ix3 b n x) = prod x0 x1 x2 b n ⟨4096 + x.val, by omega⟩ := by
  unfold val_main_v126 val_main_v23
  simp only [← products]
  generalize val_main_v17 (F := Ideal) x0 x1 x2 = y
  pointwise

theorem newKeys (b : Fin 16) (n : Fin 4096) (h : Fin 8) (l : Fin 128) :
    val_main_v120 (F := Ideal) x0 x1 x2 (ix5 0 b n h l) = prod x0 x1 x2 b n ⟨4096 + (h.val * 128 + l.val), by omega⟩ := by
  unfold val_main_v120 val_main_v119 val_main_v23
  simp only [← products]
  generalize val_main_v17 (F := Ideal) x0 x1 x2 = y
  pointwise

theorem newValues (b : Fin 16) (n : Fin 4096) (h : Fin 8) (l : Fin 128) :
    val_main_v122 (F := Ideal) x0 x1 x2 (ix5 0 b n h l) = prod x0 x1 x2 b n ⟨5120 + (h.val * 128 + l.val), by omega⟩ := by
  unfold val_main_v122 val_main_v121 val_main_v24
  simp only [← products]
  generalize val_main_v17 (F := Ideal) x0 x1 x2 = y
  pointwise

theorem gatesR (b : Fin 16) (n : Fin 4096) (x : Fin 1024) :
    val_main_v104 (F := Ideal) x0 x1 x2 (ix3 b n x) = gateR (prod x0 x1 x2 b n) x := by
  unfold gateR gate val_main_v104 val_main_v103 val_main_call0_v5 val_main_call0_v4 val_main_call0_v3 val_main_call0_v2 val_main_call0_v1 val_main_call0_v0 val_main_call0_cst val_main_call0_cst_0 val_main_v102 val_main_v101 val_main_v100 val_main_v99 val_main_v98 val_main_v97 val_main_cst_7 val_main_cst_8 val_main_v21 val_main_v25
  simp only [← products]
  generalize val_main_v17 (F := Ideal) x0 x1 x2 = y
  rw [mul_comm]
  pointwise

theorem gatesD (b : Fin 16) (n : Fin 4096) (x : Fin 1024) :
    val_main_v118 (F := Ideal) x0 x1 x2 x3 (ix3 b n x) = gateD (prod x0 x1 x2 b n) (fun l => x3 (ix2 0 l)) x := by
  unfold gateD gate val_main_v118 val_main_v117 val_main_v116 val_main_v115 val_main_v114 val_main_v113 val_main_v112 val_main_v111 val_main_v110 val_main_v109 val_main_v108 val_main_v107 val_main_v106 val_main_v105 val_main_cst_9 val_main_cst_10 val_main_cst_11 val_main_v26
  simp only [← products]
  generalize val_main_v17 (F := Ideal) x0 x1 x2 = y
  pointwise

end Cert.In.Reference
-- ==== Proof.InBlock.lean ====
module

public import proofs.«01_k».proof.Proof.InSpec
public import proofs.«01_k».proof.Proof.Gen.KernelInIdeal.Value
public import Idealize.ShloMosaic.Lib.Pointwise
public import Idealize.ShloMosaic.Lib.StableHlo.ReadAt
public import Idealize.ShloMosaic.Lib.Pipeline.ValueKit

/-!
# The kernel of the prompt's projections, entry by entry
-/

@[expose] public section

set_option maxRecDepth 16384

noncomputable section

namespace Cert.In.Block

open Cert.KernelInIdeal Cert.KernelInIdeal.Gen Cert.Ffn Cert.Proj
open Idealize.ShloMosaic Idealize.ShloMosaic.TcCoe Idealize.ShloMosaic.Tactic

section Body

variable (x0 : Vec Ideal S1x256x1024 .f32) (x1 : Vec Ideal S1x1024 .f32) (x2 : Vec Ideal S1024x8192 .bf16)
variable (x3 x4 : Vec Ideal S256x128 .f32) (x5 : Vec Ideal S1x1024 .f32)

theorem hz : (![0, 0] : Fin 2 → ℕ) = fun _ => 0 := by funext a; fin_cases a <;> rfl

theorem hz3 : (![0, 0, 0] : Fin 3 → ℕ) = fun _ => 0 := by funext a; fin_cases a <;> rfl

/-- Row `r` of the tile's products. -/
def prod (r : Fin 256) : Fin 8192 → EReal :=
  product (fun k => x0 (ix3 0 r k)) (fun k => x1 (ix2 0 k)) (fun k j => x2 (ix2 k j))

theorem normed (r : Fin 256) (k : Fin 1024) :
    k0_pay3 (F := Ideal) x0 x1 (ix2 r k) = Ffn.norm (fun k => x0 (ix3 0 r k)) (fun k => x1 (ix2 0 k)) k := by
  unfold k0_pay3 Ffn.norm
  pointwise

theorem ld_3 (k : Fin 1024) (x : Fin 512) : View.ld x2 r0_3 (ix2 k x) = x2 (ix2 k ⟨x.val, by omega⟩) := by
  refine View.ld_unit_apply_of x2 _ _ _ _ _ fun a => ?_
  fin_cases a <;> simp [ix2]

theorem ld_5 (k : Fin 1024) (x : Fin 512) : View.ld x2 r0_5 (ix2 k x) = x2 (ix2 k ⟨512 + x.val, by omega⟩) := by
  refine View.ld_unit_apply_of x2 _ _ _ _ _ fun a => ?_
  fin_cases a <;> simp [ix2]

theorem ld_6 (k : Fin 1024) (x : Fin 1024) : View.ld x2 r0_6 (ix2 k x) = x2 (ix2 k ⟨1024 + x.val, by omega⟩) := by
  refine View.ld_unit_apply_of x2 _ _ _ _ _ fun a => ?_
  fin_cases a <;> simp [ix2]

theorem ld_7 (k : Fin 1024) (x : Fin 1024) : View.ld x2 r0_7 (ix2 k x) = x2 (ix2 k ⟨2048 + x.val, by omega⟩) := by
  refine View.ld_unit_apply_of x2 _ _ _ _ _ fun a => ?_
  fin_cases a <;> simp [ix2]

theorem ld_8 (k : Fin 1024) (x : Fin 1024) : View.ld x2 r0_8 (ix2 k x) = x2 (ix2 k ⟨6144 + x.val, by omega⟩) := by
  refine View.ld_unit_apply_of x2 _ _ _ _ _ fun a => ?_
  fin_cases a <;> simp [ix2]

theorem ld_26 (k : Fin 1024) (x : Fin 1024) : View.ld x2 r0_26 (ix2 k x) = x2 (ix2 k ⟨4096 + x.val, by omega⟩) := by
  refine View.ld_unit_apply_of x2 _ _ _ _ _ fun a => ?_
  fin_cases a <;> simp [ix2]

theorem ld_35 (k : Fin 1024) (x : Fin 1024) : View.ld x2 r0_35 (ix2 k x) = x2 (ix2 k ⟨5120 + x.val, by omega⟩) := by
  refine View.ld_unit_apply_of x2 _ _ _ _ _ fun a => ?_
  fin_cases a <;> simp [ix2]

theorem ld_44 (k : Fin 1024) (x : Fin 1024) : View.ld x2 r0_44 (ix2 k x) = x2 (ix2 k ⟨7168 + x.val, by omega⟩) := by
  refine View.ld_unit_apply_of x2 _ _ _ _ _ fun a => ?_
  fin_cases a <;> simp [ix2]

theorem cols (W : Vec Ideal S1024x1024 .bf16) (r : Fin 256) (x : Fin 1024) :
    k0_pay38 (F := Ideal) (k0_pay3 x0 x1) W (ix2 r x) = ∑ k : Fin 1024, Ffn.norm (fun k => x0 (ix3 0 r k)) (fun k => x1 (ix2 0 k)) k * W (ix2 k x) := by
  unfold k0_pay38
  simp only [← normed]
  generalize k0_pay3 (F := Ideal) x0 x1 = y
  pointwise

theorem colsQ (W : Vec Ideal S1024x512 .bf16) (r : Fin 256) (x : Fin 512) :
    k0_pay6 (F := Ideal) x0 x1 W (ix2 r x) = ∑ k : Fin 1024, Ffn.norm (fun k => x0 (ix3 0 r k)) (fun k => x1 (ix2 0 k)) k * W (ix2 k x) := by
  unfold k0_pay6
  simp only [← normed]
  generalize k0_pay3 (F := Ideal) x0 x1 = y
  pointwise

theorem col_3 (r : Fin 256) (x : Fin 512) : k0_pay6 (F := Ideal) x0 x1 (View.ld x2 r0_3) (ix2 r x) = prod x0 x1 x2 r ⟨x.val, by omega⟩ :=
  (colsQ x0 x1 _ r x).trans (Finset.sum_congr rfl fun k _ => congrArg (_ * ·) (ld_3 x2 k x))

theorem col_5 (r : Fin 256) (x : Fin 512) : k0_pay6 (F := Ideal) x0 x1 (View.ld x2 r0_5) (ix2 r x) = prod x0 x1 x2 r ⟨512 + x.val, by omega⟩ :=
  (colsQ x0 x1 _ r x).trans (Finset.sum_congr rfl fun k _ => congrArg (_ * ·) (ld_5 x2 k x))

theorem col_6 (r : Fin 256) (x : Fin 1024) : k0_pay38 (F := Ideal) (k0_pay3 x0 x1) (View.ld x2 r0_6) (ix2 r x) = prod x0 x1 x2 r ⟨1024 + x.val, by omega⟩ :=
  (cols x0 x1 _ r x).trans (Finset.sum_congr rfl fun k _ => congrArg (_ * ·) (ld_6 x2 k x))

theorem col_7 (r : Fin 256) (x : Fin 1024) : k0_pay38 (F := Ideal) (k0_pay3 x0 x1) (View.ld x2 r0_7) (ix2 r x) = prod x0 x1 x2 r ⟨2048 + x.val, by omega⟩ :=
  (cols x0 x1 _ r x).trans (Finset.sum_congr rfl fun k _ => congrArg (_ * ·) (ld_7 x2 k x))

theorem col_8 (r : Fin 256) (x : Fin 1024) : k0_pay38 (F := Ideal) (k0_pay3 x0 x1) (View.ld x2 r0_8) (ix2 r x) = prod x0 x1 x2 r ⟨6144 + x.val, by omega⟩ :=
  (cols x0 x1 _ r x).trans (Finset.sum_congr rfl fun k _ => congrArg (_ * ·) (ld_8 x2 k x))

theorem col_26 (r : Fin 256) (x : Fin 1024) : k0_pay38 (F := Ideal) (k0_pay3 x0 x1) (View.ld x2 r0_26) (ix2 r x) = prod x0 x1 x2 r ⟨4096 + x.val, by omega⟩ :=
  (cols x0 x1 _ r x).trans (Finset.sum_congr rfl fun k _ => congrArg (_ * ·) (ld_26 x2 k x))

theorem col_35 (r : Fin 256) (x : Fin 1024) : k0_pay38 (F := Ideal) (k0_pay3 x0 x1) (View.ld x2 r0_35) (ix2 r x) = prod x0 x1 x2 r ⟨5120 + x.val, by omega⟩ :=
  (cols x0 x1 _ r x).trans (Finset.sum_congr rfl fun k _ => congrArg (_ * ·) (ld_35 x2 k x))

theorem col_44 (r : Fin 256) (x : Fin 1024) : k0_pay38 (F := Ideal) (k0_pay3 x0 x1) (View.ld x2 r0_44) (ix2 r x) = prod x0 x1 x2 r ⟨7168 + x.val, by omega⟩ :=
  (cols x0 x1 _ r x).trans (Finset.sum_congr rfl fun k _ => congrArg (_ * ·) (ld_44 x2 k x))

set_option maxHeartbeats 4000000 in
theorem query_pay (W : Vec Ideal S1024x512 .bf16) (P : Fin 8192 → EReal) (r : Fin 256) (x : Fin 512)
    (hP : ∀ x : Fin 512, k0_pay6 (F := Ideal) x0 x1 W (ix2 r x) = P ⟨x.val, by omega⟩) :
    k0_pay12 (F := Ideal) (k0_pay5 x4) (k0_pay7 x0 x1 x3 x4 W) (k0_pay8 x0 x1 x3 x4 W) (k0_pay9 x0 x1 x3 x4 W) (k0_pay10 x0 x1 W) (k0_pay11 x0 x1 x3 W) (ix3 0 r x)
      = turn (by omega) P (fun l => x3 (ix2 r l)) (fun l => x4 (ix2 r l)) ⟨x.val, by omega⟩ (by dsimp only; omega) := by
  unfold k0_pay12 k0_pay11 k0_pay10 k0_pay9 k0_pay8 k0_pay7 k0_pay5 k0_pay4
  generalize k0_pay6 (F := Ideal) x0 x1 W = y at hP ⊢
  pointwise
  have hx := x.isLt
  split_ifs
  all_goals first
    | omega
    | (rw [hP, hP]
       exact turn_eq (by omega) P (fun l => x3 (ix2 r l)) (fun l => x4 (ix2 r l)) ⟨x.val, by omega⟩ (by dsimp only; omega) _ _ _ (by first | omega | (dsimp only; omega)) (by first | omega | (dsimp only; omega)) (by first | omega | (dsimp only; omega)))

set_option maxHeartbeats 4000000 in
theorem key_pay (W : Vec Ideal S1024x512 .bf16) (P : Fin 8192 → EReal) (r : Fin 256) (x : Fin 512)
    (hP : ∀ x : Fin 512, k0_pay6 (F := Ideal) x0 x1 W (ix2 r x) = P ⟨512 + x.val, by omega⟩) :
    k0_pay13 (F := Ideal) (k0_pay3 x0 x1) (k0_pay4 x3) (k0_pay5 x4) W (ix3 0 r x)
      = turn (by omega) P (fun l => x3 (ix2 r l)) (fun l => x4 (ix2 r l)) ⟨512 + x.val, by omega⟩ (by dsimp only; omega) * Ideal.ofBits FTy.f32 1035273459#32 := by
  unfold k0_pay13 k0_pay5 k0_pay4
  unfold k0_pay6 at hP
  dsimp only at hP ⊢
  generalize matmul (F := Ideal) dot_S256x1024_S1024x512_S256x512_1_0_0_1_n_n none (k0_pay3 x0 x1) _ _ = y at hP ⊢
  pointwise
  have hx := x.isLt
  split_ifs
  all_goals first
    | omega
    | (refine congrArg (· * Ideal.ofBits FTy.f32 1035273459#32) ?_
       rw [hP, hP]
       exact turn_eq (by omega) P (fun l => x3 (ix2 r l)) (fun l => x4 (ix2 r l)) ⟨512 + x.val, by omega⟩ (by dsimp only; omega) _ _ _ (by first | omega | (dsimp only; omega)) (by first | omega | (dsimp only; omega)) (by first | omega | (dsimp only; omega)))

theorem block6 (r : Fin 256) (x : Fin 512) : out0_6 (F := Ideal) x0 x1 x2 x3 x4 x5 (ix3 0 r x)
    = turn (by omega) (prod x0 x1 x2 r) (fun l => x3 (ix2 r l)) (fun l => x4 (ix2 r l)) ⟨x.val, by omega⟩ (by dsimp only; omega) := by
  unfold out0_6 k0_pay69
  rw [View.canon_unit_zero hz3]
  simp only [View.ld_unit_zero (S := S1x256x1024) hz3, View.ld_unit_zero (S := S1x1024) hz, View.ld_unit_zero (S := S256x128) hz]
  exact query_pay x0 x1 x3 x4 _ _ r x (col_3 x0 x1 x2 r)

theorem block7 (r : Fin 256) (x : Fin 512) : out0_7 (F := Ideal) x0 x1 x2 x3 x4 x5 (ix3 0 r x)
    = turn (by omega) (prod x0 x1 x2 r) (fun l => x3 (ix2 r l)) (fun l => x4 (ix2 r l)) ⟨512 + x.val, by omega⟩ (by dsimp only; omega) * Ideal.ofBits FTy.f32 1035273459#32 := by
  unfold out0_7 k0_pay68 k0_pay69
  rw [View.canon_unit_zero hz3]
  simp only [View.ld_unit_zero (S := S1x256x1024) hz3, View.ld_unit_zero (S := S1x1024) hz, View.ld_unit_zero (S := S256x128) hz]
  exact key_pay x0 x1 x3 x4 _ _ r x (col_5 x0 x1 x2 r)

theorem pay15 (a : FVec Ideal S256x1024 .bf16) (W : Vec Ideal S1024x1024 .bf16) (r : Fin 256) (x : Fin 1024) :
    k0_pay15 (F := Ideal) a (k0_pay14 W) (constant S256x1024 .f32 0x00000000#32) (ix3 0 r x) = k0_pay38 (F := Ideal) a W (ix2 r x) := by
  unfold k0_pay15 k0_pay14 k0_pay38
  pointwise

theorem block8 (r : Fin 256) (x : Fin 1024) : out0_8 (F := Ideal) x0 x1 x2 x3 x4 x5 (ix3 0 r x) = prod x0 x1 x2 r ⟨1024 + x.val, by omega⟩ := by
  unfold out0_8 k0_pay68
  rw [View.canon_unit_zero hz3]
  simp only [View.ld_unit_zero (S := S1x256x1024) hz3, View.ld_unit_zero (S := S1x1024) hz]
  exact (pay15 _ _ r x).trans (col_6 x0 x1 x2 r x)

theorem pay16 (a : FVec Ideal S256x1024 .bf16) (W W' : Vec Ideal S1024x1024 .bf16) (r : Fin 256) (x : Fin 1024) :
    k0_pay16 (F := Ideal) a W W' (ix3 0 r x)
      = k0_pay38 (F := Ideal) a W (ix2 r x) * gate (k0_pay38 (F := Ideal) a W (ix2 r x)) * gate (k0_pay38 (F := Ideal) a W' (ix2 r x)) := by
  unfold k0_pay16 k0_pay38 gate
  generalize matmul (F := Ideal) dot_S256x1024_S1024x1024_S256x1024_1_0_0_1_n_n none a (shapeCast S1024x1024 W _) _ = y
  generalize matmul (F := Ideal) dot_S256x1024_S1024x1024_S256x1024_1_0_0_1_n_n none a (shapeCast S1024x1024 W' _) _ = y'
  pointwise
  simp only [zero_sub]

theorem block9 (r : Fin 256) (x : Fin 1024) : out0_9 (F := Ideal) x0 x1 x2 x3 x4 x5 (ix3 0 r x) = gateR (prod x0 x1 x2 r) x := by
  unfold out0_9 k0_pay68 gateR
  rw [View.canon_unit_zero hz3]
  simp only [View.ld_unit_zero (S := S1x256x1024) hz3, View.ld_unit_zero (S := S1x1024) hz]
  refine (pay16 _ _ _ r x).trans ?_
  rw [col_7 x0 x1 x2 r x, col_8 x0 x1 x2 r x]

theorem pay48 (a : FVec Ideal S256x1024 .f32) (r : Fin 256) (x : Fin 1024) : k0_pay48 (F := Ideal) a (ix3 0 r x) = a (ix2 r x) := by
  unfold k0_pay48
  pointwise

theorem block11 (r : Fin 256) (x : Fin 1024) : out0_11 (F := Ideal) x0 x1 x2 x3 x4 x5 (ix3 0 r x) = prod x0 x1 x2 r ⟨4096 + x.val, by omega⟩ := by
  unfold out0_11 k0_pay71 k0_pay68
  rw [View.canon_unit_zero hz3]
  simp only [View.ld_unit_zero (S := S1x256x1024) hz3, View.ld_unit_zero (S := S1x1024) hz]
  exact (pay48 _ r x).trans (col_26 x0 x1 x2 r x)

theorem block13 (r : Fin 256) (h : Fin 8) (l : Fin 128) : out0_13 (F := Ideal) x0 x1 x2 x3 x4 x5 (ix5 0 0 r h l) = prod x0 x1 x2 r ⟨4096 + (h.val * 128 + l.val), by omega⟩ := by
  unfold out0_13 k0_pay71 k0_pay68
  simp only [View.ld_unit_zero (S := S1x256x1024) hz3, View.ld_unit_zero (S := S1x1024) hz]
  refine (Value.canon13_eq x0 x1 (View.ld x2 r0_26) _).trans ?_
  refine Eq.trans ?_ (col_26 x0 x1 x2 r ⟨h.val * 128 + l.val, by omega⟩)
  refine congrArg (k0_pay38 (F := Ideal) (k0_pay3 x0 x1) (View.ld x2 r0_26)) (funext fun a => ?_)
  fin_cases a <;> rfl

theorem block14 (r : Fin 256) (h : Fin 8) (l : Fin 128) : out0_14 (F := Ideal) x0 x1 x2 x3 x4 x5 (ix5 0 0 r h l) = prod x0 x1 x2 r ⟨5120 + (h.val * 128 + l.val), by omega⟩ := by
  unfold out0_14 k0_pay72 k0_pay68
  simp only [View.ld_unit_zero (S := S1x256x1024) hz3, View.ld_unit_zero (S := S1x1024) hz]
  refine (Value.canon14_eq x0 x1 (View.ld x2 r0_35) _).trans ?_
  refine Eq.trans ?_ (col_35 x0 x1 x2 r ⟨h.val * 128 + l.val, by omega⟩)
  refine congrArg (k0_pay49 (F := Ideal) (k0_pay3 x0 x1) (View.ld x2 r0_35)) (funext fun a => ?_)
  fin_cases a <;> rfl

theorem pay2 (a : FVec Ideal S256x1024 .bf16) (W : Vec Ideal S1024x1024 .bf16) (r : Fin 256) (x : Fin 1024) :
    k0_pay2 (F := Ideal) a W x5 (ix3 0 r x) = gate (k0_pay38 (F := Ideal) a W (ix2 r x)) * x5 (ix2 0 x) := by
  unfold k0_pay2 k0_pay38 gate
  generalize matmul (F := Ideal) dot_S256x1024_S1024x1024_S256x1024_1_0_0_1_n_n none a (shapeCast S1024x1024 W _) _ = y
  pointwise
  simp only [zero_sub]

theorem block15 (r : Fin 256) (x : Fin 1024) : out0_15 (F := Ideal) x0 x1 x2 x3 x4 x5 (ix3 0 r x)
    = gate (prod x0 x1 x2 r ⟨7168 + x.val, by omega⟩) * x5 (ix2 0 x) := by
  unfold out0_15 k0_pay68
  rw [View.canon_unit_zero hz3]
  simp only [View.ld_unit_zero (S := S1x256x1024) hz3, View.ld_unit_zero (S := S1x1024) hz]
  refine (pay2 x5 _ _ r x).trans ?_
  rw [col_44 x0 x1 x2 r x]

end Body

variable (m : (ℓ : Loc nD τ sig) → Buf (Elt Ideal) ℓ) (c : Dev nD)

/-- The argument arrays. -/
abbrev a0 : S16x4096x1024.Idx → EReal := m ((c : Thread nD τ).loc main_arg0)
abbrev a1 : S1x1024.Idx → EReal := m ((c : Thread nD τ).loc main_arg1)
abbrev a2 : S1x1024x8192.Idx → EReal := m ((c : Thread nD τ).loc main_arg2)
abbrev a3 : S1x128.Idx → EReal := m ((c : Thread nD τ).loc main_arg3)

theorem host1 (k : Fin 1024) (x : Fin 8192) : (V m c main_v1 : S1024x8192.Idx → EReal) (ix2 k x) = a2 m c (ix3 0 k x) := by
  unfold V
  simp only [hostOps0, List.flatten_cons, List.flatten_nil, List.cons_append, List.nil_append]
  after_reads_at

theorem host6 (x : Fin 1024) : (V m c main_v6 : S1x1024.Idx → EReal) (ix2 0 x) = a3 m c (ix2 0 ⟨x.val % 128, by omega⟩) * Ideal.ofBits .f32 0x3F4CCCCD#32 := by
  unfold V
  simp only [hostOps0, List.flatten_cons, List.flatten_nil, List.cons_append, List.nil_append]
  after_reads_at

theorem cosines (n : Fin 4096) (l : Fin 128) : (V m c main_v24 : S4096x128.Idx → EReal) (ix2 n l) = cosine (16 + n.val) l := by
  unfold V
  simp only [hostOps0, List.flatten_cons, List.flatten_nil, List.cons_append, List.nil_append]
  after_reads_at
  rfl

theorem sines (n : Fin 4096) (l : Fin 128) : (V m c main_v25 : S4096x128.Idx → EReal) (ix2 n l) = sine (16 + n.val) l := by
  unfold V
  simp only [hostOps0, List.flatten_cons, List.flatten_nil, List.cons_append, List.nil_append]
  after_reads_at
  rfl

theorem idx : ∀ t : Fin grid0.N,
    win0_0.index t = ![(grid0.coords t 0).val, (grid0.coords t 1).val, 0] ∧ win0_1.index t = ![0, 0] ∧ win0_2.index t = ![0, 0]
    ∧ win0_3.index t = ![(grid0.coords t 1).val, 0] ∧ win0_4.index t = ![(grid0.coords t 1).val, 0] ∧ win0_5.index t = ![0, 0]
    ∧ win0_6.index t = ![(grid0.coords t 0).val, (grid0.coords t 1).val, 0] ∧ win0_7.index t = ![(grid0.coords t 0).val, (grid0.coords t 1).val, 0]
    ∧ win0_8.index t = ![(grid0.coords t 0).val, (grid0.coords t 1).val, 0] ∧ win0_9.index t = ![(grid0.coords t 0).val, (grid0.coords t 1).val, 0]
    ∧ win0_11.index t = ![(grid0.coords t 0).val, (grid0.coords t 1).val, 0]
    ∧ win0_13.index t = ![0, (grid0.coords t 0).val, (grid0.coords t 1).val, 0, 0]
    ∧ win0_14.index t = ![0, (grid0.coords t 0).val, (grid0.coords t 1).val, 0, 0]
    ∧ win0_15.index t = ![(grid0.coords t 0).val, (grid0.coords t 1).val, 0] := by
  decide +kernel

/-- The batch and the tile of a grid point. -/
abbrev bat (t : Fin cfg0.N) : Fin 16 := grid0.coords t 0
abbrev til (t : Fin cfg0.N) : Fin 16 := grid0.coords t 1

/-- Row `r` of tile `t`. -/
def row (t : Fin cfg0.N) (r : Fin 256) : Fin 4096 := ⟨(til t).val * 256 + r.val, by omega⟩

theorem blk0 (t : Fin cfg0.N) (r : Fin 256) (x : Fin 1024) :
    (iblk m c 0 t : S1x256x1024.Idx → EReal) (ix3 0 r x) = (V m c main_arg0 : S16x4096x1024.Idx → EReal) (ix3 (bat t) (row t r) x) := by
  unfold row
  blk_ext [iblk, idx t, til, bat]

theorem blk1 (t : Fin cfg0.N) (x : Fin 1024) :
    (iblk m c 1 t : S1x1024.Idx → EReal) (ix2 0 x) = (V m c main_arg1 : S1x1024.Idx → EReal) (ix2 0 x) := by
  blk_ext [iblk, idx t]

theorem blk2 (t : Fin cfg0.N) (k : Fin 1024) (x : Fin 8192) :
    (iblk m c 2 t : S1024x8192.Idx → EReal) (ix2 k x) = (V m c main_v1 : S1024x8192.Idx → EReal) (ix2 k x) := by
  blk_ext [iblk, idx t]

theorem blk3 (t : Fin cfg0.N) (r : Fin 256) (x : Fin 128) :
    (iblk m c 3 t : S256x128.Idx → EReal) (ix2 r x) = (V m c main_v24 : S4096x128.Idx → EReal) (ix2 (row t r) x) := by
  unfold row
  blk_ext [iblk, idx t, til]

theorem blk4 (t : Fin cfg0.N) (r : Fin 256) (x : Fin 128) :
    (iblk m c 4 t : S256x128.Idx → EReal) (ix2 r x) = (V m c main_v25 : S4096x128.Idx → EReal) (ix2 (row t r) x) := by
  unfold row
  blk_ext [iblk, idx t, til]

theorem blk5 (t : Fin cfg0.N) (x : Fin 1024) :
    (iblk m c 5 t : S1x1024.Idx → EReal) (ix2 0 x) = (V m c main_v6 : S1x1024.Idx → EReal) (ix2 0 x) := by
  blk_ext [iblk, idx t]

/-- Row `n` of batch `b` of the products, over the arguments. -/
def line (b : Fin 16) (n : Fin 4096) : Fin 8192 → EReal :=
  product (fun k => a0 m c (ix3 b n k)) (fun k => a1 m c (ix2 0 k)) (fun k j => a2 m c (ix3 0 k j))

theorem lines (t : Fin cfg0.N) (r : Fin 256) : prod (iblk m c 0 t) (iblk m c 1 t) (iblk m c 2 t) r = line m c (bat t) (row t r) := by
  unfold prod line
  congr 1
  · exact funext fun k => (blk0 m c t r k).trans (congrFun (V_main_arg0 m c) _)
  · exact funext fun k => (blk1 m c t k).trans (congrFun (V_main_arg1 m c) _)
  · exact funext fun k => funext fun j => (blk2 m c t k j).trans (host1 m c k j)

theorem coss (t : Fin cfg0.N) (r : Fin 256) : (fun l : Fin 128 => (iblk m c 3 t : S256x128.Idx → EReal) (ix2 r l)) = cosine (16 + (row t r).val) :=
  funext fun l => (blk3 m c t r l).trans (cosines m c _ l)

theorem sins (t : Fin cfg0.N) (r : Fin 256) : (fun l : Fin 128 => (iblk m c 4 t : S256x128.Idx → EReal) (ix2 r l)) = sine (16 + (row t r).val) :=
  funext fun l => (blk4 m c t r l).trans (sines m c _ l)

theorem unit5 (y : S1x1x256x8x128.Idx) : y = ix5 0 0 (y 2) (y 3) (y 4) := by
  funext a
  fin_cases a
  · exact Subsingleton.elim (α := Fin 1) _ _
  · exact Subsingleton.elim (α := Fin 1) _ _
  · rfl
  · rfl
  · rfl

theorem unitRow (y : S1x16x4096x8x128.Idx) : y = ix5 0 (y 1) (y 2) (y 3) (y 4) := by
  funext a
  fin_cases a
  · exact Subsingleton.elim (α := Fin 1) _ _
  · rfl
  · rfl
  · rfl
  · rfl

/-- The result arrays' entries, over the arguments. -/
def spec6 (b : Fin 16) (n : Fin 4096) (x : Fin 512) : EReal := query (16 + n.val) (line m c b n) x
def spec7 (b : Fin 16) (n : Fin 4096) (x : Fin 512) : EReal := key (16 + n.val) (line m c b n) x
def spec8 (b : Fin 16) (n : Fin 4096) (x : Fin 1024) : EReal := line m c b n ⟨1024 + x.val, by omega⟩
def spec9 (b : Fin 16) (n : Fin 4096) (x : Fin 1024) : EReal := gateR (line m c b n) x
def spec11 (b : Fin 16) (n : Fin 4096) (x : Fin 1024) : EReal := line m c b n ⟨4096 + x.val, by omega⟩
def spec13 (b : Fin 16) (n : Fin 4096) (h : Fin 8) (l : Fin 128) : EReal := line m c b n ⟨4096 + (h.val * 128 + l.val), by omega⟩
def spec14 (b : Fin 16) (n : Fin 4096) (h : Fin 8) (l : Fin 128) : EReal := line m c b n ⟨5120 + (h.val * 128 + l.val), by omega⟩
def spec15 (b : Fin 16) (n : Fin 4096) (x : Fin 1024) : EReal := gateD (line m c b n) (fun l => a3 m c (ix2 0 l)) x

theorem entry6 (t : Fin cfg0.N) (r : Fin 256) (x : Fin 512) :
    (out0_6 (F := Ideal) (iblk m c 0 t) (iblk m c 1 t) (iblk m c 2 t) (iblk m c 3 t) (iblk m c 4 t) (iblk m c 5 t) : S1x256x512.Idx → EReal) (ix3 0 r x) = spec6 m c (bat t) (row t r) x := by
  refine (block6 _ _ _ _ _ _ r x).trans ?_
  rw [lines, coss, sins]
  rfl

/-- Result window 6's array. -/
theorem array6 : ((dats m 0 c).arrAt 6 cfg0.N : S16x4096x512.Idx → EReal) = fun y => spec6 m c (y 0) (y 1) (y 2) := by
  refine (dats m 0 c).arrAt_eq_of_covers 6 _ (by decide +kernel) fun t hf y => ?_
  blk_simp [idx t]
  rw [after0_6]
  change S1x256x512.Idx at y
  obtain ⟨r, x, rfl⟩ : ∃ r x, y = ix3 0 r x := ⟨y 1, y 2, (eq_ix3 y).trans (congrArg (fun z => ix3 z (y 1) (y 2)) (Subsingleton.elim _ _))⟩
  have e : (fun y : S16x4096x512.Idx => spec6 m c (y 0) (y 1) (y 2)) (ix3 (bat t) (row t r) x) = spec6 m c (bat t) (row t r) x := rfl
  refine (entry6 m c t r x).trans (e.symm.trans (congrArg (fun y : S16x4096x512.Idx => spec6 m c (y 0) (y 1) (y 2)) ?_))
  unfold row
  blk_ext [idx t, til, bat]

theorem entry7 (t : Fin cfg0.N) (r : Fin 256) (x : Fin 512) :
    (out0_7 (F := Ideal) (iblk m c 0 t) (iblk m c 1 t) (iblk m c 2 t) (iblk m c 3 t) (iblk m c 4 t) (iblk m c 5 t) : S1x256x512.Idx → EReal) (ix3 0 r x) = spec7 m c (bat t) (row t r) x := by
  refine (block7 _ _ _ _ _ _ r x).trans ?_
  rw [lines, coss, sins]
  rfl

/-- Result window 7's array. -/
theorem array7 : ((dats m 0 c).arrAt 7 cfg0.N : S16x4096x512.Idx → EReal) = fun y => spec7 m c (y 0) (y 1) (y 2) := by
  refine (dats m 0 c).arrAt_eq_of_covers 7 _ (by decide +kernel) fun t hf y => ?_
  blk_simp [idx t]
  rw [after0_7]
  change S1x256x512.Idx at y
  obtain ⟨r, x, rfl⟩ : ∃ r x, y = ix3 0 r x := ⟨y 1, y 2, (eq_ix3 y).trans (congrArg (fun z => ix3 z (y 1) (y 2)) (Subsingleton.elim _ _))⟩
  have e : (fun y : S16x4096x512.Idx => spec7 m c (y 0) (y 1) (y 2)) (ix3 (bat t) (row t r) x) = spec7 m c (bat t) (row t r) x := rfl
  refine (entry7 m c t r x).trans (e.symm.trans (congrArg (fun y : S16x4096x512.Idx => spec7 m c (y 0) (y 1) (y 2)) ?_))
  unfold row
  blk_ext [idx t, til, bat]

theorem entry8 (t : Fin cfg0.N) (r : Fin 256) (x : Fin 1024) :
    (out0_8 (F := Ideal) (iblk m c 0 t) (iblk m c 1 t) (iblk m c 2 t) (iblk m c 3 t) (iblk m c 4 t) (iblk m c 5 t) : S1x256x1024.Idx → EReal) (ix3 0 r x) = spec8 m c (bat t) (row t r) x := by
  refine (block8 _ _ _ _ _ _ r x).trans ?_
  rw [lines]
  rfl

/-- Result window 8's array. -/
theorem array8 : ((dats m 0 c).arrAt 8 cfg0.N : S16x4096x1024.Idx → EReal) = fun y => spec8 m c (y 0) (y 1) (y 2) := by
  refine (dats m 0 c).arrAt_eq_of_covers 8 _ (by decide +kernel) fun t hf y => ?_
  blk_simp [idx t]
  rw [after0_8]
  change S1x256x1024.Idx at y
  obtain ⟨r, x, rfl⟩ : ∃ r x, y = ix3 0 r x := ⟨y 1, y 2, (eq_ix3 y).trans (congrArg (fun z => ix3 z (y 1) (y 2)) (Subsingleton.elim _ _))⟩
  have e : (fun y : S16x4096x1024.Idx => spec8 m c (y 0) (y 1) (y 2)) (ix3 (bat t) (row t r) x) = spec8 m c (bat t) (row t r) x := rfl
  refine (entry8 m c t r x).trans (e.symm.trans (congrArg (fun y : S16x4096x1024.Idx => spec8 m c (y 0) (y 1) (y 2)) ?_))
  unfold row
  blk_ext [idx t, til, bat]

theorem entry9 (t : Fin cfg0.N) (r : Fin 256) (x : Fin 1024) :
    (out0_9 (F := Ideal) (iblk m c 0 t) (iblk m c 1 t) (iblk m c 2 t) (iblk m c 3 t) (iblk m c 4 t) (iblk m c 5 t) : S1x256x1024.Idx → EReal) (ix3 0 r x) = spec9 m c (bat t) (row t r) x := by
  refine (block9 _ _ _ _ _ _ r x).trans ?_
  rw [lines]
  rfl

/-- Result window 9's array. -/
theorem array9 : ((dats m 0 c).arrAt 9 cfg0.N : S16x4096x1024.Idx → EReal) = fun y => spec9 m c (y 0) (y 1) (y 2) := by
  refine (dats m 0 c).arrAt_eq_of_covers 9 _ (by decide +kernel) fun t hf y => ?_
  blk_simp [idx t]
  rw [after0_9]
  change S1x256x1024.Idx at y
  obtain ⟨r, x, rfl⟩ : ∃ r x, y = ix3 0 r x := ⟨y 1, y 2, (eq_ix3 y).trans (congrArg (fun z => ix3 z (y 1) (y 2)) (Subsingleton.elim _ _))⟩
  have e : (fun y : S16x4096x1024.Idx => spec9 m c (y 0) (y 1) (y 2)) (ix3 (bat t) (row t r) x) = spec9 m c (bat t) (row t r) x := rfl
  refine (entry9 m c t r x).trans (e.symm.trans (congrArg (fun y : S16x4096x1024.Idx => spec9 m c (y 0) (y 1) (y 2)) ?_))
  unfold row
  blk_ext [idx t, til, bat]

theorem entry11 (t : Fin cfg0.N) (r : Fin 256) (x : Fin 1024) :
    (out0_11 (F := Ideal) (iblk m c 0 t) (iblk m c 1 t) (iblk m c 2 t) (iblk m c 3 t) (iblk m c 4 t) (iblk m c 5 t) : S1x256x1024.Idx → EReal) (ix3 0 r x) = spec11 m c (bat t) (row t r) x := by
  refine (block11 _ _ _ _ _ _ r x).trans ?_
  rw [lines]
  rfl

/-- Result window 11's array. -/
theorem array11 : ((dats m 0 c).arrAt 11 cfg0.N : S16x4096x1024.Idx → EReal) = fun y => spec11 m c (y 0) (y 1) (y 2) := by
  refine (dats m 0 c).arrAt_eq_of_covers 11 _ (by decide +kernel) fun t hf y => ?_
  blk_simp [idx t]
  rw [after0_11]
  change S1x256x1024.Idx at y
  obtain ⟨r, x, rfl⟩ : ∃ r x, y = ix3 0 r x := ⟨y 1, y 2, (eq_ix3 y).trans (congrArg (fun z => ix3 z (y 1) (y 2)) (Subsingleton.elim _ _))⟩
  have e : (fun y : S16x4096x1024.Idx => spec11 m c (y 0) (y 1) (y 2)) (ix3 (bat t) (row t r) x) = spec11 m c (bat t) (row t r) x := rfl
  refine (entry11 m c t r x).trans (e.symm.trans (congrArg (fun y : S16x4096x1024.Idx => spec11 m c (y 0) (y 1) (y 2)) ?_))
  unfold row
  blk_ext [idx t, til, bat]

theorem entry15 (t : Fin cfg0.N) (r : Fin 256) (x : Fin 1024) :
    (out0_15 (F := Ideal) (iblk m c 0 t) (iblk m c 1 t) (iblk m c 2 t) (iblk m c 3 t) (iblk m c 4 t) (iblk m c 5 t) : S1x256x1024.Idx → EReal) (ix3 0 r x) = spec15 m c (bat t) (row t r) x := by
  refine (block15 _ _ _ _ _ _ r x).trans ?_
  rw [lines, blk5, host6]
  rfl

/-- Result window 15's array. -/
theorem array15 : ((dats m 0 c).arrAt 15 cfg0.N : S16x4096x1024.Idx → EReal) = fun y => spec15 m c (y 0) (y 1) (y 2) := by
  refine (dats m 0 c).arrAt_eq_of_covers 15 _ (by decide +kernel) fun t hf y => ?_
  blk_simp [idx t]
  rw [after0_15]
  change S1x256x1024.Idx at y
  obtain ⟨r, x, rfl⟩ : ∃ r x, y = ix3 0 r x := ⟨y 1, y 2, (eq_ix3 y).trans (congrArg (fun z => ix3 z (y 1) (y 2)) (Subsingleton.elim _ _))⟩
  have e : (fun y : S16x4096x1024.Idx => spec15 m c (y 0) (y 1) (y 2)) (ix3 (bat t) (row t r) x) = spec15 m c (bat t) (row t r) x := rfl
  refine (entry15 m c t r x).trans (e.symm.trans (congrArg (fun y : S16x4096x1024.Idx => spec15 m c (y 0) (y 1) (y 2)) ?_))
  unfold row
  blk_ext [idx t, til, bat]

theorem entry13 (t : Fin cfg0.N) (r : Fin 256) (h : Fin 8) (l : Fin 128) :
    (out0_13 (F := Ideal) (iblk m c 0 t) (iblk m c 1 t) (iblk m c 2 t) (iblk m c 3 t) (iblk m c 4 t) (iblk m c 5 t) : S1x1x256x8x128.Idx → EReal) (ix5 0 0 r h l) = spec13 m c (bat t) (row t r) h l := by
  refine (block13 _ _ _ _ _ _ r h l).trans ?_
  rw [lines]
  rfl

/-- Result window 13's array. -/
theorem array13 : ((dats m 0 c).arrAt 13 cfg0.N : S1x16x4096x8x128.Idx → EReal) = fun y => spec13 m c (y 1) (y 2) (y 3) (y 4) := by
  refine (dats m 0 c).arrAt_eq_of_covers 13 _ (by decide +kernel) fun t hf y => ?_
  blk_simp [idx t]
  rw [after0_13]
  change S1x1x256x8x128.Idx at y
  obtain ⟨r, h, l, rfl⟩ : ∃ r h l, y = ix5 0 0 r h l := ⟨y 2, y 3, y 4, unit5 y⟩
  have e : (fun y : S1x16x4096x8x128.Idx => spec13 m c (y 1) (y 2) (y 3) (y 4)) (ix5 0 (bat t) (row t r) h l) = spec13 m c (bat t) (row t r) h l := rfl
  refine (entry13 m c t r h l).trans (e.symm.trans (congrArg (fun y : S1x16x4096x8x128.Idx => spec13 m c (y 1) (y 2) (y 3) (y 4)) ?_))
  unfold row
  blk_ext [idx t, til, bat]

theorem entry14 (t : Fin cfg0.N) (r : Fin 256) (h : Fin 8) (l : Fin 128) :
    (out0_14 (F := Ideal) (iblk m c 0 t) (iblk m c 1 t) (iblk m c 2 t) (iblk m c 3 t) (iblk m c 4 t) (iblk m c 5 t) : S1x1x256x8x128.Idx → EReal) (ix5 0 0 r h l) = spec14 m c (bat t) (row t r) h l := by
  refine (block14 _ _ _ _ _ _ r h l).trans ?_
  rw [lines]
  rfl

/-- Result window 14's array. -/
theorem array14 : ((dats m 0 c).arrAt 14 cfg0.N : S1x16x4096x8x128.Idx → EReal) = fun y => spec14 m c (y 1) (y 2) (y 3) (y 4) := by
  refine (dats m 0 c).arrAt_eq_of_covers 14 _ (by decide +kernel) fun t hf y => ?_
  blk_simp [idx t]
  rw [after0_14]
  change S1x1x256x8x128.Idx at y
  obtain ⟨r, h, l, rfl⟩ : ∃ r h l, y = ix5 0 0 r h l := ⟨y 2, y 3, y 4, unit5 y⟩
  have e : (fun y : S1x16x4096x8x128.Idx => spec14 m c (y 1) (y 2) (y 3) (y 4)) (ix5 0 (bat t) (row t r) h l) = spec14 m c (bat t) (row t r) h l := rfl
  refine (entry14 m c t r h l).trans (e.symm.trans (congrArg (fun y : S1x16x4096x8x128.Idx => spec14 m c (y 1) (y 2) (y 3) (y 4)) ?_))
  unfold row
  blk_ext [idx t, til, bat]

end Cert.In.Block
-- ==== Proof.InEquation.lean ====
module

public import proofs.«01_k».proof.Proof.InReference
public import proofs.«01_k».proof.Proof.InBlock

/-!
# The prompt's projections: every result array of the kernel is the reference's
-/

@[expose] public section

set_option maxRecDepth 16384

noncomputable section

namespace Cert.In.Equation

open Cert.KernelInIdeal Cert.KernelInIdeal.Gen Cert.In.Block Cert.ReferenceInIdeal.Read
open Idealize.ShloMosaic Idealize.ShloMosaic.TcCoe Idealize.ShloMosaic.Tactic

variable (m : (ℓ : Loc nD τ sig) → Buf (Elt Ideal) ℓ) (c : Dev nD)

theorem unit5' (y : S1x16x4096x8x128.Idx) : y = ix5 0 (y 1) (y 2) (y 3) (y 4) := by
  funext a
  fin_cases a
  · exact Subsingleton.elim (α := Fin 1) _ _
  · rfl
  · rfl
  · rfl
  · rfl

theorem eq6 : (val_main_v123 (F := Ideal) (a0 m c) (a1 m c) (a2 m c) : S16x4096x512.Idx → EReal) = (dats m 0 c).arrAt 6 cfg0.N := by
  refine Eq.trans (funext fun y => ?_) (array6 m c).symm
  obtain ⟨b, n, x, rfl⟩ : ∃ b n x, y = ix3 b n x := ⟨y 0, y 1, y 2, eq_ix3 y⟩
  change _ = spec6 m c b n x
  unfold spec6 line
  exact Cert.In.Reference.queries (a0 m c) (a1 m c) (a2 m c) b n x

theorem eq7 : (val_main_v124 (F := Ideal) (a0 m c) (a1 m c) (a2 m c) : S16x4096x512.Idx → EReal) = (dats m 0 c).arrAt 7 cfg0.N := by
  refine Eq.trans (funext fun y => ?_) (array7 m c).symm
  obtain ⟨b, n, x, rfl⟩ : ∃ b n x, y = ix3 b n x := ⟨y 0, y 1, y 2, eq_ix3 y⟩
  change _ = spec7 m c b n x
  unfold spec7 line
  exact Cert.In.Reference.keys (a0 m c) (a1 m c) (a2 m c) b n x

theorem eq8 : (val_main_v125 (F := Ideal) (a0 m c) (a1 m c) (a2 m c) : S16x4096x1024.Idx → EReal) = (dats m 0 c).arrAt 8 cfg0.N := by
  refine Eq.trans (funext fun y => ?_) (array8 m c).symm
  obtain ⟨b, n, x, rfl⟩ : ∃ b n x, y = ix3 b n x := ⟨y 0, y 1, y 2, eq_ix3 y⟩
  change _ = spec8 m c b n x
  unfold spec8 line
  exact Cert.In.Reference.values (a0 m c) (a1 m c) (a2 m c) b n x

theorem eq9 : (val_main_v104 (F := Ideal) (a0 m c) (a1 m c) (a2 m c) : S16x4096x1024.Idx → EReal) = (dats m 0 c).arrAt 9 cfg0.N := by
  refine Eq.trans (funext fun y => ?_) (array9 m c).symm
  obtain ⟨b, n, x, rfl⟩ : ∃ b n x, y = ix3 b n x := ⟨y 0, y 1, y 2, eq_ix3 y⟩
  change _ = spec9 m c b n x
  unfold spec9 line
  exact Cert.In.Reference.gatesR (a0 m c) (a1 m c) (a2 m c) b n x

theorem eq11 : (val_main_v126 (F := Ideal) (a0 m c) (a1 m c) (a2 m c) : S16x4096x1024.Idx → EReal) = (dats m 0 c).arrAt 11 cfg0.N := by
  refine Eq.trans (funext fun y => ?_) (array11 m c).symm
  obtain ⟨b, n, x, rfl⟩ : ∃ b n x, y = ix3 b n x := ⟨y 0, y 1, y 2, eq_ix3 y⟩
  change _ = spec11 m c b n x
  unfold spec11 line
  exact Cert.In.Reference.keysD (a0 m c) (a1 m c) (a2 m c) b n x

theorem eq15 : (val_main_v118 (F := Ideal) (a0 m c) (a1 m c) (a2 m c) (a3 m c) : S16x4096x1024.Idx → EReal) = (dats m 0 c).arrAt 15 cfg0.N := by
  refine Eq.trans (funext fun y => ?_) (array15 m c).symm
  obtain ⟨b, n, x, rfl⟩ : ∃ b n x, y = ix3 b n x := ⟨y 0, y 1, y 2, eq_ix3 y⟩
  change _ = spec15 m c b n x
  unfold spec15 line
  exact Cert.In.Reference.gatesD (a0 m c) (a1 m c) (a2 m c) (a3 m c) b n x

theorem eq13 : (val_main_v120 (F := Ideal) (a0 m c) (a1 m c) (a2 m c) : S1x16x4096x8x128.Idx → EReal) = (dats m 0 c).arrAt 13 cfg0.N := by
  refine Eq.trans (funext fun y => ?_) (array13 m c).symm
  obtain ⟨b, n, h, l, rfl⟩ : ∃ b n h l, y = ix5 0 b n h l := ⟨y 1, y 2, y 3, y 4, unit5' y⟩
  change _ = spec13 m c b n h l
  unfold spec13 line
  exact Cert.In.Reference.newKeys (a0 m c) (a1 m c) (a2 m c) b n h l

theorem eq14 : (val_main_v122 (F := Ideal) (a0 m c) (a1 m c) (a2 m c) : S1x16x4096x8x128.Idx → EReal) = (dats m 0 c).arrAt 14 cfg0.N := by
  refine Eq.trans (funext fun y => ?_) (array14 m c).symm
  obtain ⟨b, n, h, l, rfl⟩ : ∃ b n h l, y = ix5 0 b n h l := ⟨y 1, y 2, y 3, y 4, unit5' y⟩
  change _ = spec14 m c b n h l
  unfold spec14 line
  exact Cert.In.Reference.newValues (a0 m c) (a1 m c) (a2 m c) b n h l

end Cert.In.Equation
-- ==== Proof.StepSpec.lean ====
module

public import Idealize.ShloMosaic.PureOps.Ideal

/-!
# One step of the retention for one token of the sample

A head's new state is the old one times its decay plus key times value. The token's output is the query's score with
its own key times the value, plus the query read from the old state times the decay.
-/

@[expose] public section

noncomputable section

namespace Cert.Step

open Idealize.ShloMosaic

/-- An entry of a head's new state. -/
def grown (k : Fin 128 → EReal) (v : Fin 256 → EReal) (s : Fin 128 → Fin 256 → EReal) (g : EReal) (i : Fin 128) (j : Fin 256) : EReal :=
  s i j * g + k i * v j

/-- A head's output. -/
def read (q k : Fin 128 → EReal) (v : Fin 256 → EReal) (s : Fin 128 → Fin 256 → EReal) (g : EReal) (j : Fin 256) : EReal :=
  (∑ d : Fin 128, q d * k d) * v j + (∑ d : Fin 128, q d * s d j) * g

/-- The logistic function. -/
def logistic (x : EReal) : EReal := Ideal.div (Ideal.ofBits FTy.f32 1065353216#32) (Ideal.ofBits FTy.f32 1065353216#32 + Ideal.exp (-x))

/-- A head's output normalised. -/
def normed (o : Fin 256 → EReal) (j : Fin 256) : EReal :=
  o j * Ideal.rsqrt (Ideal.div (∑ e : Fin 256, o e * o e) (Ideal.ofBits FTy.f32 1132462080#32) + Ideal.ofBits FTy.f32 897988541#32)

/-- A head's output normalised and multiplied by both gates. -/
def gated (o : Fin 256 → EReal) (rg ga : EReal) (j : Fin 256) : EReal := normed o j * (rg * logistic rg) * logistic ga

/-- A head's decay. -/
def decay (h : Fin 4) : EReal :=
  Ideal.exp (Ideal.log (Ideal.ofBits FTy.f32 1065353216#32 - Ideal.pow (Ideal.ofBits FTy.f32 1073741824#32)
    (Ideal.ofBits FTy.f32 3231711232#32 - FloatOps.sitofp (F := Ideal) (w := 32) FTy.f32 (BitVec.ofNat 32 h.val))))

/-- A head's query, key, value and two gates in a row of projections. -/
def rowQ (p : Fin 8192 → EReal) (h : Fin 4) (d : Fin 128) : EReal := p ⟨h.val * 128 + d.val, by omega⟩
def rowK (p : Fin 8192 → EReal) (h : Fin 4) (d : Fin 128) : EReal := p ⟨512 + h.val * 128 + d.val, by omega⟩
def rowV (p : Fin 8192 → EReal) (h : Fin 4) (e : Fin 256) : EReal := p ⟨1024 + (h.val * 256 + e.val), by omega⟩
def rowR (p : Fin 8192 → EReal) (h : Fin 4) (e : Fin 256) : EReal := p ⟨2048 + (h.val * 256 + e.val), by omega⟩
def rowA (p : Fin 8192 → EReal) (h : Fin 4) (e : Fin 256) : EReal := p ⟨6144 + (h.val * 256 + e.val), by omega⟩

/-- An entry of the new state, from a row of projections and the token's old states. -/
def stepS (p : Fin 8192 → EReal) (s : Fin 4 → Fin 128 → Fin 256 → EReal) (h : Fin 4) (i : Fin 128) (j : Fin 256) : EReal :=
  grown (rowK p h) (rowV p h) (s h) (decay h) i j

/-- An entry of the output, from a row of projections and the token's old states. -/
def stepY (p : Fin 8192 → EReal) (s : Fin 4 → Fin 128 → Fin 256 → EReal) (h : Fin 4) (e : Fin 256) : EReal :=
  gated (read (rowQ p h) (rowK p h) (rowV p h) (s h) (decay h)) (rowR p h e) (rowA p h e) e

end Cert.Step
-- ==== Proof.StepReference.lean ====
module

public import proofs.«01_k».proof.Proof.StepSpec
public import proofs.«01_k».proof.Proof.Gen.ReferenceStepIdeal.Read
public import Idealize.ShloMosaic.Lib.Pointwise

/-!
# The reference of the retention's step, entry by entry
-/

@[expose] public section

set_option maxRecDepth 16384

noncomputable section

namespace Cert.Step.Reference

open Cert.ReferenceStepIdeal Cert.ReferenceStepIdeal.Read
open Idealize.ShloMosaic Idealize.ShloMosaic.TcCoe Idealize.ShloMosaic.Tactic

variable (x0 : (⟨S128x8192, .f32⟩ : BufTy).Contents (Elt Ideal)) (x1 : (⟨S1x128x4x128x256, .f32⟩ : BufTy).Contents (Elt Ideal))

/-- The logarithm of a head's decay. -/
def rate (h : Fin 4) : EReal :=
  Ideal.log (Ideal.ofBits FTy.f32 1065353216#32 - Ideal.pow (Ideal.ofBits FTy.f32 1073741824#32)
    (Ideal.ofBits FTy.f32 3231711232#32 - FloatOps.sitofp (F := Ideal) (w := 32) FTy.f32 (BitVec.ofNat 32 h.val)))

theorem origin : FloatOps.sitofp (F := Ideal) (w := 32) FTy.f32 0#32 = 0 := by
  show ((((0#32 : BitVec 32).toInt : ℝ)) : EReal) = 0
  simp

theorem exp_zero : Ideal.exp 0 = 1 := by
  show ((Real.exp 0 : ℝ) : EReal) = 1
  rw [Real.exp_zero]
  rfl

theorem rates (h : Fin 4) : val_main_v19 (F := Ideal) (ix1 h) = rate h := by
  unfold val_main_v19 val_main_v18 val_main_v17 val_main_v16 val_main_v15 val_main_v14 val_main_v13 val_main_v12 val_main_cst val_main_cst_0 val_main_cst_1 rate
  pointwise

theorem queries (n : Fin 128) (h : Fin 4) (d : Fin 128) : val_main_v9 (F := Ideal) x0 (ix4 n 0 h d) = rowQ (fun k => x0 (ix2 n k)) h d := by
  unfold val_main_v9 val_main_v0 rowQ
  pointwise

theorem keys (n : Fin 128) (h : Fin 4) (d : Fin 128) : val_main_v10 (F := Ideal) x0 (ix4 n 0 h d) = rowK (fun k => x0 (ix2 n k)) h d := by
  unfold val_main_v10 val_main_v1 rowK
  pointwise
  exact congrArg (fun z => x0 (ix2 n z)) (Fin.ext (by show 512 + (h.val * 128 + d.val) = 512 + h.val * 128 + d.val; omega))

theorem values (n : Fin 128) (h : Fin 4) (e : Fin 256) : val_main_v11 (F := Ideal) x0 (ix4 n 0 h e) = rowV (fun k => x0 (ix2 n k)) h e := by
  unfold val_main_v11 val_main_v2 rowV
  pointwise

theorem states (n : Fin 128) (h : Fin 4) (i : Fin 128) (j : Fin 256) :
    val_main_v92 (F := Ideal) x0 x1 (ix5 0 n h i j) = stepS (fun k => x0 (ix2 n k)) (fun h i j => x1 (ix5 0 n h i j)) h i j := by
  unfold val_main_v92 val_main_v71 val_main_v70 val_main_v69 val_main_v68 val_main_v67 val_main_v66 val_main_v65 val_main_v64 val_main_v63 val_main_v62 val_main_v61 val_main_cst_7 val_main_v60 val_main_v59 val_main_v58 val_main_v57 val_main_v56 val_main_v55 val_main_v54 val_main_cst_6 val_main_v21 val_main_v20 stepS grown
  simp only [← keys, ← values]
  have hr := rates h
  generalize val_main_v10 (F := Ideal) x0 = k
  generalize val_main_v11 (F := Ideal) x0 = v
  generalize val_main_v19 (F := Ideal) = g at hr ⊢
  pointwise
  rw [origin, hr, Fin.sum_univ_one, sub_zero, zero_mul, exp_zero, mul_one]
  rfl

theorem reads (n : Fin 128) (h : Fin 4) (e : Fin 256) :
    val_main_v53 (F := Ideal) x0 x1 (ix4 n 0 h e)
      = read (rowQ (fun k => x0 (ix2 n k)) h) (rowK (fun k => x0 (ix2 n k)) h) (rowV (fun k => x0 (ix2 n k)) h) (fun i j => x1 (ix5 0 n h i j)) (decay h) e := by
  unfold val_main_v53 val_main_v52 val_main_v51 val_main_v50 val_main_v49 val_main_v48 val_main_v47 val_main_v46 val_main_v45 val_main_v44 val_main_v43 val_main_v42 val_main_v41 val_main_cst_5 val_main_v40 val_main_v39 val_main_v38 val_main_v37 val_main_v36 val_main_v35 val_main_v34 val_main_call0_v2 val_main_call0_v1 val_main_call0_v0 val_main_cst_4 val_main_v33 val_main_v32 val_main_v31 val_main_v30 val_main_v29 val_main_v28 val_main_v27 val_main_v26 val_main_v25 val_main_v24 val_main_v23 val_main_v22 val_main_v21 val_main_cst_2 val_main_cst_3 val_main_v20 read
  simp only [← keys, ← values, ← queries]
  have hr := rates h
  generalize val_main_v9 (F := Ideal) x0 = q
  generalize val_main_v10 (F := Ideal) x0 = k
  generalize val_main_v11 (F := Ideal) x0 = v
  generalize val_main_v19 (F := Ideal) = g at hr ⊢
  pointwise
  rw [origin, hr, Fin.sum_univ_one, sub_zero, if_pos le_rfl, max_self, zero_mul, exp_zero, mul_one, mul_comm (v (ix4 n 0 h e))]
  refine congrArg₂ (· + ·) rfl (congrArg₂ (· * ·) (Finset.sum_congr rfl fun d _ => mul_comm _ _) ?_)
  show Ideal.exp ((0 + 1) * rate h) = Ideal.exp (rate h)
  exact congrArg Ideal.exp ((congrArg (· * rate h) (zero_add (1 : EReal))).trans (one_mul _))

theorem rowR_eq (p : Fin 8192 → EReal) (x : Fin 1024) : rowR p ⟨x.val / 256, by omega⟩ ⟨x.val % 256, by omega⟩ = p ⟨2048 + x.val, by omega⟩ :=
  congrArg p (Fin.ext (by show 2048 + (x.val / 256 * 256 + x.val % 256) = 2048 + x.val; omega))

theorem rowA_eq (p : Fin 8192 → EReal) (x : Fin 1024) : rowA p ⟨x.val / 256, by omega⟩ ⟨x.val % 256, by omega⟩ = p ⟨6144 + x.val, by omega⟩ :=
  congrArg p (Fin.ext (by show 6144 + (x.val / 256 * 256 + x.val % 256) = 6144 + x.val; omega))

/-- The output, entry by entry. -/
theorem outputs (n : Fin 128) (x : Fin 1024) :
    val_main_v91 (F := Ideal) x0 x1 (ix2 n x)
      = stepY (fun k => x0 (ix2 n k)) (fun h i j => x1 (ix5 0 n h i j)) ⟨x.val / 256, by omega⟩ ⟨x.val % 256, by omega⟩ := by
  unfold stepY gated normed logistic
  simp only [← reads]
  unfold val_main_v91 val_main_v90 val_main_v89 val_main_call1_v5 val_main_call1_v4 val_main_call1_v3 val_main_call1_v2 val_main_call1_v1 val_main_call1_v0 val_main_call1_cst val_main_call1_cst_0 val_main_v88 val_main_v87 val_main_v86 val_main_v85 val_main_v84 val_main_v83 val_main_v82 val_main_v81 val_main_v80 val_main_v79 val_main_v78 val_main_v77 val_main_v76 val_main_v75 val_main_v74 val_main_v73 val_main_v72 val_main_cst_8 val_main_cst_9 val_main_cst_10 val_main_cst_11 val_main_cst_12 val_main_v7 val_main_v3
  generalize val_main_v53 (F := Ideal) x0 x1 = y
  pointwise
  rw [rowR_eq, rowA_eq]
  exact mul_comm _ _

end Cert.Step.Reference
-- ==== Proof.StepBlock.lean ====
module

public import proofs.«01_k».proof.Proof.StepSpec
public import proofs.«01_k».proof.Proof.Gen.KernelStepIdeal.Value
public import Idealize.ShloMosaic.Lib.Pointwise
public import Idealize.ShloMosaic.Lib.StableHlo.ReadAt
public import Idealize.ShloMosaic.Lib.Pipeline.ValueKit

/-!
# The kernel of the retention's step, entry by entry
-/

@[expose] public section

set_option maxRecDepth 16384

noncomputable section

namespace Cert.Step.Block

open Cert.KernelStepIdeal Cert.KernelStepIdeal.Gen
open Idealize.ShloMosaic Idealize.ShloMosaic.TcCoe Idealize.ShloMosaic.Tactic

section Cell

variable (q k : Vec Ideal S1x128 .f32) (v rg ga : Vec Ideal S1x256 .f32) (s : Vec Ideal S1x1x1x128x256 .f32) (g : Vec Ideal S1x1x256 .f32)

/-- The new state of one head of one row. -/
def cellS : Vec Ideal S1x1x1x128x256 .f32 := k0_pay12 (F := Ideal) k0_pay2 k v s g

/-- The output of one head of one row. -/
def cellY : Vec Ideal S1x256 .f32 := k0_pay13 (F := Ideal) (k0_pay11 k0_pay2 q k v s g) rg ga

/-- A row picked through the diagonal. -/
theorem diagonal (f : Fin 128 → EReal) (i : Fin 128) :
    (∑ x : Fin 128, Scalar.select (IntOp.cmpi CmpIPredicate.eq (BitVec.ofNat 32 i.val) (BitVec.ofNat 32 x.val)) (f x) 0) = f i := by
  have h : ∀ x : Fin 128, Scalar.select (IntOp.cmpi CmpIPredicate.eq (BitVec.ofNat 32 i.val) (BitVec.ofNat 32 x.val)) (f x) 0 = if i = x then f x else 0 := by
    intro x
    have e : BitVec.ofNat 32 i.val = BitVec.ofNat 32 x.val ↔ i = x := by
      constructor
      · intro e
        have := congrArg BitVec.toNat e
        simp only [BitVec.toNat_ofNat] at this
        exact Fin.ext (by omega)
      · rintro rfl; rfl
    by_cases q : i = x
    · simp [Scalar.select, IntOp.cmpi, q]
    · have n : (BitVec.ofNat 32 i.val == BitVec.ofNat 32 x.val) = false := beq_eq_false_iff_ne.mpr (mt e.mp q)
      simp [Scalar.select, IntOp.cmpi, q, n]
  simp only [h, Finset.sum_ite_eq, Finset.mem_univ, if_true]

theorem cellS_apply (i : Fin 128) (j : Fin 256) :
    cellS k v s g (ix5 0 0 0 i j) = s (ix5 0 0 0 i j) * g (ix3 0 0 j) + k (ix2 0 i) * v (ix2 0 j) := by
  unfold cellS k0_pay12 k0_pay10 k0_pay9 k0_pay2
  pointwise
  rw [diagonal (fun x => k (ix2 0 x))]

theorem read_apply (j : Fin 256) :
    k0_pay11 (F := Ideal) k0_pay2 q k v s g (ix2 0 j)
      = (∑ d : Fin 128, q (ix2 0 d) * k (ix2 0 d)) * v (ix2 0 j) + (∑ d : Fin 128, q (ix2 0 d) * s (ix5 0 0 0 d j)) * g (ix3 0 0 j) := by
  unfold k0_pay11 k0_pay10 k0_pay9 k0_pay2
  pointwise
  simp only [diagonal (fun x => q (ix2 0 x))]

theorem gated_apply (o : FVec Ideal S1x256 .f32) (j : Fin 256) :
    k0_pay13 (F := Ideal) o rg ga (ix2 0 j) = gated (fun e => o (ix2 0 e)) (rg (ix2 0 j)) (ga (ix2 0 j)) j := by
  unfold k0_pay13 gated normed logistic
  pointwise
  simp only [zero_sub]

theorem cellY_apply (j : Fin 256) :
    cellY q k v rg ga s g (ix2 0 j)
      = gated (fun e => (∑ d : Fin 128, q (ix2 0 d) * k (ix2 0 d)) * v (ix2 0 e) + (∑ d : Fin 128, q (ix2 0 d) * s (ix5 0 0 0 d e)) * g (ix3 0 0 e))
          (rg (ix2 0 j)) (ga (ix2 0 j)) j := by
  unfold cellY
  rw [gated_apply]
  simp only [read_apply]

end Cell

section Body

variable (x0 x1 x2 x3 : Vec Ideal S8x1024 .f32) (x4 : Vec Ideal S1x8x4x128x256 .f32) (x5 : Vec Ideal S4x1x256 .f32)

/-- The query of head `h` in row `r`. -/
def qry (r : Fin 8) (h : Fin 4) (d : Fin 128) : EReal := x0 (ix2 r ⟨h.val * 128 + d.val, by omega⟩)

/-- The key of head `h` in row `r`. -/
def key (r : Fin 8) (h : Fin 4) (d : Fin 128) : EReal := x0 (ix2 r ⟨512 + h.val * 128 + d.val, by omega⟩)

/-- A value, or a gate, of head `h` in row `r`. -/
def val (x : Vec Ideal S8x1024 .f32) (r : Fin 8) (h : Fin 4) (e : Fin 256) : EReal := x (ix2 r ⟨h.val * 256 + e.val, by omega⟩)

/-- The block of new states. -/
def outS : Vec Ideal S1x8x4x128x256 .f32 := fun y =>
  x4 y * x5 (ix3 (y 2) 0 (y 4)) + key x0 (y 1) (y 2) (y 3) * val x1 (y 1) (y 2) (y 4)

/-- Row `r` of head `h` in the block of outputs. -/
def outY (r : Fin 8) (h : Fin 4) (e : Fin 256) : EReal :=
  gated (fun e => (∑ d : Fin 128, qry x0 r h d * key x0 r h d) * val x1 r h e + (∑ d : Fin 128, qry x0 r h d * x4 (ix5 0 r h d e)) * x5 (ix3 h 0 e))
    (val x2 r h e) (val x3 r h e) e

/-- The block of outputs. -/
def outYs : Vec Ideal S8x1024 .f32 := fun y =>
  outY x0 x1 x2 x3 x4 x5 (y 0) ⟨(y 1).val / 256, by have h : (y 1).val < 1024 := (y 1).isLt; omega⟩ ⟨(y 1).val % 256, by omega⟩

theorem pieceS (b h ck cv : ℕ) (hb : b < 8) (hh : h < 4) (hk : ck = 512 + h * 128) (hv : cv = h * 256) (i0 i1 i4 i5)
    (x : S1x1x1x128x256.Idx) :
    cellS (View.ld x0 (Rect.unit (s := S8x1024) ![b, ck] S1x128.size i0)) (View.ld x1 (Rect.unit (s := S8x1024) ![b, cv] S1x256.size i1))
        (View.ld x4 (Rect.unit (s := S1x8x4x128x256) ![0, b, h, 0, 0] S1x1x1x128x256.size i4)) (View.ld x5 (Rect.unit (s := S4x1x256) ![h, 0, 0] S1x1x256.size i5)) x
      = outS x0 x1 x4 x5 ((Rect.unit (s := S1x8x4x128x256) ![0, b, h, 0, 0] S1x1x1x128x256.size i4).idx x) := by
  obtain ⟨i, j, rfl⟩ : ∃ i j, x = ix5 0 0 0 i j := ⟨x 3, x 4, by
    have h0 : (x 0).val < 1 := (x 0).isLt
    have h1 : (x 1).val < 1 := (x 1).isLt
    have h2 : (x 2).val < 1 := (x 2).isLt
    funext a
    fin_cases a <;> first | rfl | exact Fin.ext (by simp [ix5] <;> omega)⟩
  subst hk hv
  rw [cellS_apply]
  have e : (Rect.unit (s := S1x8x4x128x256) ![0, b, h, 0, 0] S1x1x1x128x256.size i4).idx (ix5 0 0 0 i j) = ix5 0 ⟨b, hb⟩ ⟨h, hh⟩ i j := by
    funext a
    fin_cases a <;> exact Fin.ext (by simp [ix5])
  rw [e]
  unfold outS key val
  refine congrArg₂ (· + ·) (congrArg₂ (· * ·) (View.ld_unit_apply_of _ _ _ _ _ _ ?_) (View.ld_unit_apply_of _ _ _ _ _ _ ?_)) (congrArg₂ (· * ·) (View.ld_unit_apply_of _ _ _ _ _ _ ?_) (View.ld_unit_apply_of _ _ _ _ _ _ ?_))
  all_goals intro a; fin_cases a <;> simp [ix5, ix3, ix2]

theorem pieceY (b h cq ck cv : ℕ) (hb : b < 8) (hh : h < 4) (hq : cq = h * 128) (hk : ck = 512 + h * 128) (hv : cv = h * 256) (iq i0 i1 i4 i5)
    (x : S1x256.Idx) :
    cellY (View.ld x0 (Rect.unit (s := S8x1024) ![b, cq] S1x128.size iq)) (View.ld x0 (Rect.unit (s := S8x1024) ![b, ck] S1x128.size i0))
        (View.ld x1 (Rect.unit (s := S8x1024) ![b, cv] S1x256.size i1)) (View.ld x2 (Rect.unit (s := S8x1024) ![b, cv] S1x256.size i1))
        (View.ld x3 (Rect.unit (s := S8x1024) ![b, cv] S1x256.size i1))
        (View.ld x4 (Rect.unit (s := S1x8x4x128x256) ![0, b, h, 0, 0] S1x1x1x128x256.size i4)) (View.ld x5 (Rect.unit (s := S4x1x256) ![h, 0, 0] S1x1x256.size i5)) x
      = outYs x0 x1 x2 x3 x4 x5 ((Rect.unit (s := S8x1024) ![b, cv] S1x256.size i1).idx x) := by
  obtain ⟨j, rfl⟩ : ∃ j, x = ix2 0 j := ⟨x 1, by
    have h0 : (x 0).val < 1 := (x 0).isLt
    funext a
    fin_cases a <;> first | rfl | exact Fin.ext (by simp [ix2] <;> omega)⟩
  subst hq hk hv
  rw [cellY_apply]
  have e : (Rect.unit (s := S8x1024) ![b, h * 256] S1x256.size i1).idx (ix2 0 j) = ix2 ⟨b, hb⟩ ⟨h * 256 + j.val, by omega⟩ := by
    funext a
    fin_cases a <;> exact Fin.ext (by simp [ix2])
  rw [e]
  have e' : outYs x0 x1 x2 x3 x4 x5 (ix2 ⟨b, hb⟩ ⟨h * 256 + j.val, by omega⟩) = outY x0 x1 x2 x3 x4 x5 ⟨b, hb⟩ ⟨h, hh⟩ j := by
    refine congrArg₂ (outY x0 x1 x2 x3 x4 x5 ⟨b, hb⟩) (Fin.ext ?_) (Fin.ext ?_)
    · show (h * 256 + j.val) / 256 = h
      omega
    · show (h * 256 + j.val) % 256 = j.val
      omega
  rw [e']
  have hv (z : Vec Ideal S8x1024 .f32) (e : Fin 256) : View.ld z (Rect.unit (s := S8x1024) ![b, h * 256] S1x256.size i1) (ix2 0 e) = val z ⟨b, hb⟩ ⟨h, hh⟩ e := by
    refine View.ld_unit_apply_of _ _ _ _ _ _ ?_
    intro a; fin_cases a <;> simp [ix2]
  have hq (d : Fin 128) : View.ld x0 (Rect.unit (s := S8x1024) ![b, h * 128] S1x128.size iq) (ix2 0 d) = qry x0 ⟨b, hb⟩ ⟨h, hh⟩ d := by
    refine View.ld_unit_apply_of _ _ _ _ _ _ ?_
    intro a; fin_cases a <;> simp [ix2]
  have hk (d : Fin 128) : View.ld x0 (Rect.unit (s := S8x1024) ![b, 512 + h * 128] S1x128.size i0) (ix2 0 d) = key x0 ⟨b, hb⟩ ⟨h, hh⟩ d := by
    refine View.ld_unit_apply_of _ _ _ _ _ _ ?_
    intro a; fin_cases a <;> simp [ix2]
  have hs (d : Fin 128) (e : Fin 256) : View.ld x4 (Rect.unit (s := S1x8x4x128x256) ![0, b, h, 0, 0] S1x1x1x128x256.size i4) (ix5 0 0 0 d e) = x4 (ix5 0 ⟨b, hb⟩ ⟨h, hh⟩ d e) := by
    refine View.ld_unit_apply_of _ _ _ _ _ _ ?_
    intro a; fin_cases a <;> simp [ix5]
  have hg (e : Fin 256) : View.ld x5 (Rect.unit (s := S4x1x256) ![h, 0, 0] S1x1x256.size i5) (ix3 0 0 e) = x5 (ix3 ⟨h, hh⟩ 0 e) := by
    refine View.ld_unit_apply_of _ _ _ _ _ _ ?_
    intro a; fin_cases a <;> simp [ix3]
  simp only [hq, hk, hs, hg]
  unfold outY
  exact congr (congr (congr (congrArg gated (funext fun e => congrArg₂ (· + ·) (congrArg₂ (· * ·) rfl (hv x1 e)) rfl)) (hv x2 j)) (hv x3 j)) rfl

theorem blockS : out0_7 (F := Ideal) x0 x1 x2 x3 x4 x5 = outS x0 x1 x4 x5 := by
  funext y
  unfold out0_7
  refine View.canon_apply_of_pieces (outS x0 x1 x4 x5) _ ?_ y (cover0_7 _ _ _ _ _ _ _ _ _ _ _ _ _ _ _ _ _ _ _ _ _ _ _ _ _ _ _ _ _ _ _ _ y)
  intro pc hpc
  rcases List.mem_cons.mp hpc with rfl | hpc
  · exact fun x => pieceS x0 x1 x4 x5 7 3 896 768 (by decide) (by decide) rfl rfl _ _ _ _ x
  rcases List.mem_cons.mp hpc with rfl | hpc
  · exact fun x => pieceS x0 x1 x4 x5 7 2 768 512 (by decide) (by decide) rfl rfl _ _ _ _ x
  rcases List.mem_cons.mp hpc with rfl | hpc
  · exact fun x => pieceS x0 x1 x4 x5 7 1 640 256 (by decide) (by decide) rfl rfl _ _ _ _ x
  rcases List.mem_cons.mp hpc with rfl | hpc
  · exact fun x => pieceS x0 x1 x4 x5 7 0 512 0 (by decide) (by decide) rfl rfl _ _ _ _ x
  rcases List.mem_cons.mp hpc with rfl | hpc
  · exact fun x => pieceS x0 x1 x4 x5 6 3 896 768 (by decide) (by decide) rfl rfl _ _ _ _ x
  rcases List.mem_cons.mp hpc with rfl | hpc
  · exact fun x => pieceS x0 x1 x4 x5 6 2 768 512 (by decide) (by decide) rfl rfl _ _ _ _ x
  rcases List.mem_cons.mp hpc with rfl | hpc
  · exact fun x => pieceS x0 x1 x4 x5 6 1 640 256 (by decide) (by decide) rfl rfl _ _ _ _ x
  rcases List.mem_cons.mp hpc with rfl | hpc
  · exact fun x => pieceS x0 x1 x4 x5 6 0 512 0 (by decide) (by decide) rfl rfl _ _ _ _ x
  rcases List.mem_cons.mp hpc with rfl | hpc
  · exact fun x => pieceS x0 x1 x4 x5 5 3 896 768 (by decide) (by decide) rfl rfl _ _ _ _ x
  rcases List.mem_cons.mp hpc with rfl | hpc
  · exact fun x => pieceS x0 x1 x4 x5 5 2 768 512 (by decide) (by decide) rfl rfl _ _ _ _ x
  rcases List.mem_cons.mp hpc with rfl | hpc
  · exact fun x => pieceS x0 x1 x4 x5 5 1 640 256 (by decide) (by decide) rfl rfl _ _ _ _ x
  rcases List.mem_cons.mp hpc with rfl | hpc
  · exact fun x => pieceS x0 x1 x4 x5 5 0 512 0 (by decide) (by decide) rfl rfl _ _ _ _ x
  rcases List.mem_cons.mp hpc with rfl | hpc
  · exact fun x => pieceS x0 x1 x4 x5 4 3 896 768 (by decide) (by decide) rfl rfl _ _ _ _ x
  rcases List.mem_cons.mp hpc with rfl | hpc
  · exact fun x => pieceS x0 x1 x4 x5 4 2 768 512 (by decide) (by decide) rfl rfl _ _ _ _ x
  rcases List.mem_cons.mp hpc with rfl | hpc
  · exact fun x => pieceS x0 x1 x4 x5 4 1 640 256 (by decide) (by decide) rfl rfl _ _ _ _ x
  rcases List.mem_cons.mp hpc with rfl | hpc
  · exact fun x => pieceS x0 x1 x4 x5 4 0 512 0 (by decide) (by decide) rfl rfl _ _ _ _ x
  rcases List.mem_cons.mp hpc with rfl | hpc
  · exact fun x => pieceS x0 x1 x4 x5 3 3 896 768 (by decide) (by decide) rfl rfl _ _ _ _ x
  rcases List.mem_cons.mp hpc with rfl | hpc
  · exact fun x => pieceS x0 x1 x4 x5 3 2 768 512 (by decide) (by decide) rfl rfl _ _ _ _ x
  rcases List.mem_cons.mp hpc with rfl | hpc
  · exact fun x => pieceS x0 x1 x4 x5 3 1 640 256 (by decide) (by decide) rfl rfl _ _ _ _ x
  rcases List.mem_cons.mp hpc with rfl | hpc
  · exact fun x => pieceS x0 x1 x4 x5 3 0 512 0 (by decide) (by decide) rfl rfl _ _ _ _ x
  rcases List.mem_cons.mp hpc with rfl | hpc
  · exact fun x => pieceS x0 x1 x4 x5 2 3 896 768 (by decide) (by decide) rfl rfl _ _ _ _ x
  rcases List.mem_cons.mp hpc with rfl | hpc
  · exact fun x => pieceS x0 x1 x4 x5 2 2 768 512 (by decide) (by decide) rfl rfl _ _ _ _ x
  rcases List.mem_cons.mp hpc with rfl | hpc
  · exact fun x => pieceS x0 x1 x4 x5 2 1 640 256 (by decide) (by decide) rfl rfl _ _ _ _ x
  rcases List.mem_cons.mp hpc with rfl | hpc
  · exact fun x => pieceS x0 x1 x4 x5 2 0 512 0 (by decide) (by decide) rfl rfl _ _ _ _ x
  rcases List.mem_cons.mp hpc with rfl | hpc
  · exact fun x => pieceS x0 x1 x4 x5 1 3 896 768 (by decide) (by decide) rfl rfl _ _ _ _ x
  rcases List.mem_cons.mp hpc with rfl | hpc
  · exact fun x => pieceS x0 x1 x4 x5 1 2 768 512 (by decide) (by decide) rfl rfl _ _ _ _ x
  rcases List.mem_cons.mp hpc with rfl | hpc
  · exact fun x => pieceS x0 x1 x4 x5 1 1 640 256 (by decide) (by decide) rfl rfl _ _ _ _ x
  rcases List.mem_cons.mp hpc with rfl | hpc
  · exact fun x => pieceS x0 x1 x4 x5 1 0 512 0 (by decide) (by decide) rfl rfl _ _ _ _ x
  rcases List.mem_cons.mp hpc with rfl | hpc
  · exact fun x => pieceS x0 x1 x4 x5 0 3 896 768 (by decide) (by decide) rfl rfl _ _ _ _ x
  rcases List.mem_cons.mp hpc with rfl | hpc
  · exact fun x => pieceS x0 x1 x4 x5 0 2 768 512 (by decide) (by decide) rfl rfl _ _ _ _ x
  rcases List.mem_cons.mp hpc with rfl | hpc
  · exact fun x => pieceS x0 x1 x4 x5 0 1 640 256 (by decide) (by decide) rfl rfl _ _ _ _ x
  rcases List.mem_cons.mp hpc with rfl | hpc
  · exact fun x => pieceS x0 x1 x4 x5 0 0 512 0 (by decide) (by decide) rfl rfl _ _ _ _ x
  exact absurd hpc List.not_mem_nil

theorem blockY : out0_6 (F := Ideal) x0 x1 x2 x3 x4 x5 = outYs x0 x1 x2 x3 x4 x5 := by
  funext y
  unfold out0_6
  refine View.canon_apply_of_pieces (outYs x0 x1 x2 x3 x4 x5) _ ?_ y (cover0_6 _ _ _ _ _ _ _ _ _ _ _ _ _ _ _ _ _ _ _ _ _ _ _ _ _ _ _ _ _ _ _ _ y)
  intro pc hpc
  rcases List.mem_cons.mp hpc with rfl | hpc
  · exact fun x => pieceY x0 x1 x2 x3 x4 x5 7 3 384 896 768 (by decide) (by decide) rfl rfl rfl _ _ _ _ _ x
  rcases List.mem_cons.mp hpc with rfl | hpc
  · exact fun x => pieceY x0 x1 x2 x3 x4 x5 7 2 256 768 512 (by decide) (by decide) rfl rfl rfl _ _ _ _ _ x
  rcases List.mem_cons.mp hpc with rfl | hpc
  · exact fun x => pieceY x0 x1 x2 x3 x4 x5 7 1 128 640 256 (by decide) (by decide) rfl rfl rfl _ _ _ _ _ x
  rcases List.mem_cons.mp hpc with rfl | hpc
  · exact fun x => pieceY x0 x1 x2 x3 x4 x5 7 0 0 512 0 (by decide) (by decide) rfl rfl rfl _ _ _ _ _ x
  rcases List.mem_cons.mp hpc with rfl | hpc
  · exact fun x => pieceY x0 x1 x2 x3 x4 x5 6 3 384 896 768 (by decide) (by decide) rfl rfl rfl _ _ _ _ _ x
  rcases List.mem_cons.mp hpc with rfl | hpc
  · exact fun x => pieceY x0 x1 x2 x3 x4 x5 6 2 256 768 512 (by decide) (by decide) rfl rfl rfl _ _ _ _ _ x
  rcases List.mem_cons.mp hpc with rfl | hpc
  · exact fun x => pieceY x0 x1 x2 x3 x4 x5 6 1 128 640 256 (by decide) (by decide) rfl rfl rfl _ _ _ _ _ x
  rcases List.mem_cons.mp hpc with rfl | hpc
  · exact fun x => pieceY x0 x1 x2 x3 x4 x5 6 0 0 512 0 (by decide) (by decide) rfl rfl rfl _ _ _ _ _ x
  rcases List.mem_cons.mp hpc with rfl | hpc
  · exact fun x => pieceY x0 x1 x2 x3 x4 x5 5 3 384 896 768 (by decide) (by decide) rfl rfl rfl _ _ _ _ _ x
  rcases List.mem_cons.mp hpc with rfl | hpc
  · exact fun x => pieceY x0 x1 x2 x3 x4 x5 5 2 256 768 512 (by decide) (by decide) rfl rfl rfl _ _ _ _ _ x
  rcases List.mem_cons.mp hpc with rfl | hpc
  · exact fun x => pieceY x0 x1 x2 x3 x4 x5 5 1 128 640 256 (by decide) (by decide) rfl rfl rfl _ _ _ _ _ x
  rcases List.mem_cons.mp hpc with rfl | hpc
  · exact fun x => pieceY x0 x1 x2 x3 x4 x5 5 0 0 512 0 (by decide) (by decide) rfl rfl rfl _ _ _ _ _ x
  rcases List.mem_cons.mp hpc with rfl | hpc
  · exact fun x => pieceY x0 x1 x2 x3 x4 x5 4 3 384 896 768 (by decide) (by decide) rfl rfl rfl _ _ _ _ _ x
  rcases List.mem_cons.mp hpc with rfl | hpc
  · exact fun x => pieceY x0 x1 x2 x3 x4 x5 4 2 256 768 512 (by decide) (by decide) rfl rfl rfl _ _ _ _ _ x
  rcases List.mem_cons.mp hpc with rfl | hpc
  · exact fun x => pieceY x0 x1 x2 x3 x4 x5 4 1 128 640 256 (by decide) (by decide) rfl rfl rfl _ _ _ _ _ x
  rcases List.mem_cons.mp hpc with rfl | hpc
  · exact fun x => pieceY x0 x1 x2 x3 x4 x5 4 0 0 512 0 (by decide) (by decide) rfl rfl rfl _ _ _ _ _ x
  rcases List.mem_cons.mp hpc with rfl | hpc
  · exact fun x => pieceY x0 x1 x2 x3 x4 x5 3 3 384 896 768 (by decide) (by decide) rfl rfl rfl _ _ _ _ _ x
  rcases List.mem_cons.mp hpc with rfl | hpc
  · exact fun x => pieceY x0 x1 x2 x3 x4 x5 3 2 256 768 512 (by decide) (by decide) rfl rfl rfl _ _ _ _ _ x
  rcases List.mem_cons.mp hpc with rfl | hpc
  · exact fun x => pieceY x0 x1 x2 x3 x4 x5 3 1 128 640 256 (by decide) (by decide) rfl rfl rfl _ _ _ _ _ x
  rcases List.mem_cons.mp hpc with rfl | hpc
  · exact fun x => pieceY x0 x1 x2 x3 x4 x5 3 0 0 512 0 (by decide) (by decide) rfl rfl rfl _ _ _ _ _ x
  rcases List.mem_cons.mp hpc with rfl | hpc
  · exact fun x => pieceY x0 x1 x2 x3 x4 x5 2 3 384 896 768 (by decide) (by decide) rfl rfl rfl _ _ _ _ _ x
  rcases List.mem_cons.mp hpc with rfl | hpc
  · exact fun x => pieceY x0 x1 x2 x3 x4 x5 2 2 256 768 512 (by decide) (by decide) rfl rfl rfl _ _ _ _ _ x
  rcases List.mem_cons.mp hpc with rfl | hpc
  · exact fun x => pieceY x0 x1 x2 x3 x4 x5 2 1 128 640 256 (by decide) (by decide) rfl rfl rfl _ _ _ _ _ x
  rcases List.mem_cons.mp hpc with rfl | hpc
  · exact fun x => pieceY x0 x1 x2 x3 x4 x5 2 0 0 512 0 (by decide) (by decide) rfl rfl rfl _ _ _ _ _ x
  rcases List.mem_cons.mp hpc with rfl | hpc
  · exact fun x => pieceY x0 x1 x2 x3 x4 x5 1 3 384 896 768 (by decide) (by decide) rfl rfl rfl _ _ _ _ _ x
  rcases List.mem_cons.mp hpc with rfl | hpc
  · exact fun x => pieceY x0 x1 x2 x3 x4 x5 1 2 256 768 512 (by decide) (by decide) rfl rfl rfl _ _ _ _ _ x
  rcases List.mem_cons.mp hpc with rfl | hpc
  · exact fun x => pieceY x0 x1 x2 x3 x4 x5 1 1 128 640 256 (by decide) (by decide) rfl rfl rfl _ _ _ _ _ x
  rcases List.mem_cons.mp hpc with rfl | hpc
  · exact fun x => pieceY x0 x1 x2 x3 x4 x5 1 0 0 512 0 (by decide) (by decide) rfl rfl rfl _ _ _ _ _ x
  rcases List.mem_cons.mp hpc with rfl | hpc
  · exact fun x => pieceY x0 x1 x2 x3 x4 x5 0 3 384 896 768 (by decide) (by decide) rfl rfl rfl _ _ _ _ _ x
  rcases List.mem_cons.mp hpc with rfl | hpc
  · exact fun x => pieceY x0 x1 x2 x3 x4 x5 0 2 256 768 512 (by decide) (by decide) rfl rfl rfl _ _ _ _ _ x
  rcases List.mem_cons.mp hpc with rfl | hpc
  · exact fun x => pieceY x0 x1 x2 x3 x4 x5 0 1 128 640 256 (by decide) (by decide) rfl rfl rfl _ _ _ _ _ x
  rcases List.mem_cons.mp hpc with rfl | hpc
  · exact fun x => pieceY x0 x1 x2 x3 x4 x5 0 0 0 512 0 (by decide) (by decide) rfl rfl rfl _ _ _ _ _ x
  exact absurd hpc List.not_mem_nil

end Body

variable (m : (ℓ : Loc nD τ sig) → Buf (Elt Ideal) ℓ) (c : Dev nD)

/-- The tile of rows of a grid point. -/
abbrev til (t : Fin cfg0.N) : Fin 16 := grid0.coords t 0

theorem idx : ∀ t : Fin grid0.N,
    win0_0.index t = ![(grid0.coords t 0).val, 0] ∧ win0_1.index t = ![(grid0.coords t 0).val, 1]
    ∧ win0_2.index t = ![(grid0.coords t 0).val, 2] ∧ win0_3.index t = ![(grid0.coords t 0).val, 6]
    ∧ win0_4.index t = ![0, (grid0.coords t 0).val, 0, 0, 0] ∧ win0_5.index t = ![0, 0, 0]
    ∧ win0_6.index t = ![(grid0.coords t 0).val, 0] ∧ win0_7.index t = ![0, (grid0.coords t 0).val, 0, 0, 0] := by
  decide +kernel

/-- Row `r` of tile `t`. -/
def row (t : Fin cfg0.N) (r : Fin 8) : Fin 128 := ⟨(til t).val * 8 + r.val, by omega⟩

/-- The argument arrays. -/
abbrev a0 : S128x8192.Idx → EReal := m ((c : Thread nD τ).loc main_arg0)
abbrev a1 : S1x128x4x128x256.Idx → EReal := m ((c : Thread nD τ).loc main_arg1)

theorem blk0 (t : Fin cfg0.N) (r : Fin 8) (x : Fin 1024) :
    (iblk m c 0 t : S8x1024.Idx → EReal) (ix2 r x) = (V m c main_arg0 : S128x8192.Idx → EReal) (ix2 (row t r) ⟨x.val, by omega⟩) := by
  unfold row
  blk_ext [iblk, idx t, til]

theorem blk1 (t : Fin cfg0.N) (r : Fin 8) (x : Fin 1024) :
    (iblk m c 1 t : S8x1024.Idx → EReal) (ix2 r x) = (V m c main_arg0 : S128x8192.Idx → EReal) (ix2 (row t r) ⟨1024 + x.val, by omega⟩) := by
  unfold row
  blk_ext [iblk, idx t, til]

theorem blk2 (t : Fin cfg0.N) (r : Fin 8) (x : Fin 1024) :
    (iblk m c 2 t : S8x1024.Idx → EReal) (ix2 r x) = (V m c main_arg0 : S128x8192.Idx → EReal) (ix2 (row t r) ⟨2048 + x.val, by omega⟩) := by
  unfold row
  blk_ext [iblk, idx t, til]

theorem blk3 (t : Fin cfg0.N) (r : Fin 8) (x : Fin 1024) :
    (iblk m c 3 t : S8x1024.Idx → EReal) (ix2 r x) = (V m c main_arg0 : S128x8192.Idx → EReal) (ix2 (row t r) ⟨6144 + x.val, by omega⟩) := by
  unfold row
  blk_ext [iblk, idx t, til]

theorem blk4 (t : Fin cfg0.N) (r : Fin 8) (h : Fin 4) (i : Fin 128) (j : Fin 256) :
    (iblk m c 4 t : S1x8x4x128x256.Idx → EReal) (ix5 0 r h i j) = (V m c main_arg1 : S1x128x4x128x256.Idx → EReal) (ix5 0 (row t r) h i j) := by
  unfold row
  blk_ext [iblk, idx t, til]

theorem blk5 (t : Fin cfg0.N) (h : Fin 4) (j : Fin 256) :
    (iblk m c 5 t : S4x1x256.Idx → EReal) (ix3 h 0 j) = (V m c main_v10 : S4x1x256.Idx → EReal) (ix3 h 0 j) := by
  blk_ext [iblk, idx t]

theorem host10 (h : Fin 4) (j : Fin 256) : (V m c main_v10 : S4x1x256.Idx → EReal) (ix3 h 0 j) = decay h := by
  unfold V decay
  simp only [hostOps0, List.flatten_cons, List.flatten_nil, List.cons_append, List.nil_append]
  after_reads_at

/-- The new states, over the arguments. -/
def specS (n : Fin 128) (h : Fin 4) (i : Fin 128) (j : Fin 256) : EReal :=
  stepS (fun k => a0 m c (ix2 n k)) (fun h i j => a1 m c (ix5 0 n h i j)) h i j

/-- The outputs, over the arguments. -/
def specY (n : Fin 128) (x : Fin 1024) : EReal :=
  stepY (fun k => a0 m c (ix2 n k)) (fun h i j => a1 m c (ix5 0 n h i j)) ⟨x.val / 256, by omega⟩ ⟨x.val % 256, by omega⟩

theorem in0 (t : Fin cfg0.N) (r : Fin 8) (x : Fin 1024) : (iblk m c 0 t : S8x1024.Idx → EReal) (ix2 r x) = a0 m c (ix2 (row t r) ⟨x.val, by omega⟩) :=
  (blk0 m c t r x).trans (congrFun (V_main_arg0 m c) _)

theorem in1 (t : Fin cfg0.N) (r : Fin 8) (x : Fin 1024) : (iblk m c 1 t : S8x1024.Idx → EReal) (ix2 r x) = a0 m c (ix2 (row t r) ⟨1024 + x.val, by omega⟩) :=
  (blk1 m c t r x).trans (congrFun (V_main_arg0 m c) _)

theorem in2 (t : Fin cfg0.N) (r : Fin 8) (x : Fin 1024) : (iblk m c 2 t : S8x1024.Idx → EReal) (ix2 r x) = a0 m c (ix2 (row t r) ⟨2048 + x.val, by omega⟩) :=
  (blk2 m c t r x).trans (congrFun (V_main_arg0 m c) _)

theorem in3 (t : Fin cfg0.N) (r : Fin 8) (x : Fin 1024) : (iblk m c 3 t : S8x1024.Idx → EReal) (ix2 r x) = a0 m c (ix2 (row t r) ⟨6144 + x.val, by omega⟩) :=
  (blk3 m c t r x).trans (congrFun (V_main_arg0 m c) _)

theorem in4 (t : Fin cfg0.N) (r : Fin 8) (h : Fin 4) (i : Fin 128) (j : Fin 256) :
    (iblk m c 4 t : S1x8x4x128x256.Idx → EReal) (ix5 0 r h i j) = a1 m c (ix5 0 (row t r) h i j) :=
  (blk4 m c t r h i j).trans (congrFun (V_main_arg1 m c) _)

theorem in5 (t : Fin cfg0.N) (h : Fin 4) (j : Fin 256) : (iblk m c 5 t : S4x1x256.Idx → EReal) (ix3 h 0 j) = decay h :=
  (blk5 m c t h j).trans (host10 m c h j)

theorem entryS (t : Fin cfg0.N) (r : Fin 8) (h : Fin 4) (i : Fin 128) (j : Fin 256) :
    (out0_7 (F := Ideal) (iblk m c 0 t) (iblk m c 1 t) (iblk m c 2 t) (iblk m c 3 t) (iblk m c 4 t) (iblk m c 5 t) : S1x8x4x128x256.Idx → EReal) (ix5 0 r h i j)
      = specS m c (row t r) h i j := by
  refine (congrFun (blockS _ _ _ _ _ _) _).trans ?_
  unfold specS stepS grown rowK rowV
  exact congrArg₂ (· + ·) (congrArg₂ (· * ·) (in4 m c t r h i j) (in5 m c t h j)) (congrArg₂ (· * ·) (in0 m c t r _) (in1 m c t r _))

theorem entryY (t : Fin cfg0.N) (r : Fin 8) (x : Fin 1024) :
    (out0_6 (F := Ideal) (iblk m c 0 t) (iblk m c 1 t) (iblk m c 2 t) (iblk m c 3 t) (iblk m c 4 t) (iblk m c 5 t) : S8x1024.Idx → EReal) (ix2 r x)
      = specY m c (row t r) x := by
  refine (congrFun (blockY _ _ _ _ _ _) _).trans ?_
  unfold specY stepY
  refine congr (congr (congr (congrArg gated (funext fun e => ?_)) (in2 m c t r _)) (in3 m c t r _)) rfl
  refine congrArg₂ (· + ·) (congrArg₂ (· * ·) (Finset.sum_congr rfl fun d _ => congrArg₂ (· * ·) (in0 m c t r _) (in0 m c t r _)) (in1 m c t r _))
    (congrArg₂ (· * ·) (Finset.sum_congr rfl fun d _ => congrArg₂ (· * ·) (in0 m c t r _) (in4 m c t r _ d e)) (in5 m c t _ e))

/-- The array of new states. -/
theorem arrayS : ((dats m 0 c).arrAt 7 cfg0.N : S1x128x4x128x256.Idx → EReal) = fun y => specS m c (y 1) (y 2) (y 3) (y 4) := by
  refine (dats m 0 c).arrAt_eq_of_covers 7 _ (by decide +kernel) fun t hf y => ?_
  blk_simp [idx t]
  rw [after0_7]
  change S1x8x4x128x256.Idx at y
  obtain ⟨r, h, i, j, rfl⟩ : ∃ r h i j, y = ix5 0 r h i j := ⟨y 1, y 2, y 3, y 4, by
    have h0 : (y 0).val < 1 := (y 0).isLt
    funext a
    fin_cases a <;> first | rfl | exact Fin.ext (by simp [ix5] <;> omega)⟩
  have e : (fun y : S1x128x4x128x256.Idx => specS m c (y 1) (y 2) (y 3) (y 4)) (ix5 0 (row t r) h i j) = specS m c (row t r) h i j := rfl
  refine (entryS m c t r h i j).trans (e.symm.trans (congrArg (fun y : S1x128x4x128x256.Idx => specS m c (y 1) (y 2) (y 3) (y 4)) ?_))
  unfold row
  blk_ext [idx t, til]

/-- The array of outputs. -/
theorem arrayY : ((dats m 0 c).arrAt 6 cfg0.N : S128x1024.Idx → EReal) = fun y => specY m c (y 0) (y 1) := by
  refine (dats m 0 c).arrAt_eq_of_covers 6 _ (by decide +kernel) fun t hf y => ?_
  blk_simp [idx t]
  rw [after0_6]
  change S8x1024.Idx at y
  obtain ⟨r, x, rfl⟩ : ∃ r x, y = ix2 r x := ⟨y 0, y 1, by funext a; fin_cases a <;> rfl⟩
  have e : (fun y : S128x1024.Idx => specY m c (y 0) (y 1)) (ix2 (row t r) x) = specY m c (row t r) x := rfl
  refine (entryY m c t r x).trans (e.symm.trans (congrArg (fun y : S128x1024.Idx => specY m c (y 0) (y 1)) ?_))
  unfold row
  blk_ext [idx t, til]

end Cert.Step.Block
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.KernelFfnIdeal.Value
public import proofs.«01_k».proof.Proof.Gen.ReferenceFfnIdeal
public import proofs.«01_k».proof.Proof.Gen.ReferenceFfnIdeal.Run
public import proofs.«01_k».proof.Proof.Gen.ReferenceFfnIdeal.Read
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.KernelProjIdeal.Value
public import proofs.«01_k».proof.Proof.Gen.ReferenceProjIdeal
public import proofs.«01_k».proof.Proof.Gen.ReferenceProjIdeal.Run
public import proofs.«01_k».proof.Proof.Gen.ReferenceProjIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelFfnSample
public import proofs.«01_k».proof.Proof.Gen.KernelFfnSample.Skeleton
public import proofs.«01_k».proof.Proof.Gen.KernelFfnSample.Launch
public import proofs.«01_k».proof.Proof.Gen.KernelFfnSample.Points
public import proofs.«01_k».proof.Proof.Gen.KernelFfnSample.Frame
public import proofs.«01_k».proof.Proof.Gen.KernelFfnSampleIdeal
public import proofs.«01_k».proof.Proof.Gen.KernelFfnSampleIdeal.Skeleton
public import proofs.«01_k».proof.Proof.Gen.KernelFfnSampleIdeal.Launch
public import proofs.«01_k».proof.Proof.Gen.KernelFfnSampleIdeal.Points
public import proofs.«01_k».proof.Proof.Gen.KernelFfnSampleIdeal.Frame
public import proofs.«01_k».proof.Proof.Gen.KernelFfnSampleIdeal.Value
public import proofs.«01_k».proof.Proof.Gen.ReferenceFfnSampleIdeal
public import proofs.«01_k».proof.Proof.Gen.ReferenceFfnSampleIdeal.Run
public import proofs.«01_k».proof.Proof.Gen.ReferenceFfnSampleIdeal.Read
public import proofs.«01_k».proof.Proof.Gen.KernelStep
public import proofs.«01_k».proof.Proof.Gen.KernelStep.Skeleton
public import proofs.«01_k».proof.Proof.Gen.KernelStep.Launch
public import proofs.«01_k».proof.Proof.Gen.KernelStep.Points
public import proofs.«01_k».proof.Proof.Gen.KernelStep.Frame
public import proofs.«01_k».proof.Proof.Gen.KernelStepIdeal
public import proofs.«01_k».proof.Proof.Gen.KernelStepIdeal.Skeleton
public import proofs.«01_k».proof.Proof.Gen.KernelStepIdeal.Launch
public import proofs.«01_k».proof.Proof.Gen.KernelStepIdeal.Points
public import proofs.«01_k».proof.Proof.Gen.KernelStepIdeal.Frame
public import proofs.«01_k».proof.Proof.Gen.KernelStepIdeal.Value
public import proofs.«01_k».proof.Proof.Gen.ReferenceStepIdeal
public import proofs.«01_k».proof.Proof.Gen.ReferenceStepIdeal.Run
public import proofs.«01_k».proof.Proof.Gen.ReferenceStepIdeal.Read
public import proofs.«01_k».proof.Proof.Equation
public import proofs.«01_k».proof.Proof.Reference
public import proofs.«01_k».proof.Proof.Finite
public import proofs.«01_k».proof.Proof.FfnReference
public import proofs.«01_k».proof.Proof.FfnBlock
public import proofs.«01_k».proof.Proof.FfnSampleReference
public import proofs.«01_k».proof.Proof.FfnSampleBlock
public import proofs.«01_k».proof.Proof.ProjReference
public import proofs.«01_k».proof.Proof.ProjBlock
public import proofs.«01_k».proof.Proof.InEquation
public import proofs.«01_k».proof.Proof.StepReference
public import proofs.«01_k».proof.Proof.StepBlock
public import Idealize.ShloMosaic.Adequacy
public import Idealize.ShloMosaic.Init

@[expose] public section

noncomputable section

namespace Cert.Proof

open Idealize.ShloMosaic Idealize.SL.Sem Cert.Kernel

/-- The reference runs: its program declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel computes what the reference computes. -/
theorem algebraic : Cert.algebraic_KernelIdeal_ReferenceIdeal_pre_finite_scores := by
  intro m g m' g' hpre hargs
  refine ⟨fun c => (Cert.KernelIdeal.Gen.dats m 0 c).arrAt 11 Cert.KernelIdeal.cfg0.N,
    Cert.KernelIdeal.Value.run_blocks (F := Ideal) m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5, h6, h7, h8, h9, h10, h11⟩ := hargs c
  obtain ⟨hq, hk, hm⟩ := Cert.Finite.of_pre m hpre c
  refine (Cert.ReferenceIdeal.Read.val_main_v76_eq m' c).trans ?_
  rw [h0, h1, h2, h3, h4, h5, h6, h7, h8, h9, h10, h11]
  refine Eq.trans (funext fun y => ?_) (Cert.KernelIdeal.Equation.array m c hq hk hm).symm
  refine Eq.trans (congrArg _ (Idealize.ShloMosaic.eq_ix3 y)) ?_
  exact Cert.Reference.result _ _ _ _ _ _ _ _ _ _ _ _ (y 0) (y 1) (y 2)

theorem frame_reference_ffn : Cert.quiescent_ReferenceFfnIdeal := fun m g _ =>
  (θ_run Cert.ReferenceFfnIdeal.defs _ _).mono (fun r h => ⟨fun c => (h c).2, sem_eq_zero_of_no_sems (by decide) r.2⟩)
    (Cert.ReferenceFfnIdeal.Value.run (F := Ideal) m g)

theorem frame_reference_proj : Cert.quiescent_ReferenceProjIdeal := fun m g _ =>
  (θ_run Cert.ReferenceProjIdeal.defs _ _).mono (fun r h => ⟨fun c => (h c).2, sem_eq_zero_of_no_sems (by decide) r.2⟩)
    (Cert.ReferenceProjIdeal.Value.run (F := Ideal) m g)

/-- The output projection and the feed-forward block compute what the reference computes. -/
theorem algebraic_ffn : Cert.algebraic_KernelFfnIdeal_ReferenceFfnIdeal := by
  intro m g m' g' _ hargs
  refine ⟨fun c => (Cert.KernelFfnIdeal.Gen.dats m 0 c).arrAt 9 Cert.KernelFfnIdeal.cfg0.N,
    Cert.KernelFfnIdeal.Value.run_blocks (F := Ideal) m g, ?_⟩
  refine (θ_run Cert.ReferenceFfnIdeal.defs _ _).mono (fun r h c => ⟨(h c).1.trans ?_, (h c).2⟩)
    (Cert.ReferenceFfnIdeal.Value.run (F := Ideal) m' g')
  obtain ⟨h0, h1, h2, h3, h4, h5, h6, h7, h8⟩ := hargs c
  refine (Cert.ReferenceFfnIdeal.Read.val_main_v55_eq m' c).trans ?_
  rw [h0, h1, h2, h3, h4, h5, h6, h7, h8]
  refine Eq.trans (funext fun y => ?_) (Cert.Ffn.Block.array m c).symm
  refine Eq.trans (congrArg _ (Idealize.ShloMosaic.eq_ix2 y)) ?_
  exact Cert.Ffn.Reference.result _ _ _ _ _ _ _ _ _ (y 0) (y 1)

/-- The sample's projections are the reference's. -/
theorem algebraic_proj : Cert.algebraic_KernelProjIdeal_ReferenceProjIdeal := by
  intro m g m' g' _ hargs
  refine ⟨fun c => (Cert.KernelProjIdeal.Gen.dats m 0 c).arrAt 5 Cert.KernelProjIdeal.cfg0.N,
    Cert.KernelProjIdeal.Value.run_blocks (F := Ideal) m g, ?_⟩
  refine (θ_run Cert.ReferenceProjIdeal.defs _ _).mono (fun r h c => ⟨(h c).1.trans ?_, (h c).2⟩)
    (Cert.ReferenceProjIdeal.Value.run (F := Ideal) m' g')
  obtain ⟨h0, h1, h2⟩ := hargs c
  refine (Cert.ReferenceProjIdeal.Read.val_main_v91_eq m' c).trans ?_
  rw [h0, h1, h2]
  refine Eq.trans (funext fun y => ?_) (Cert.Proj.Block.array m c).symm
  refine Eq.trans (congrArg _ (Idealize.ShloMosaic.eq_ix2 y)) ?_
  exact Cert.Proj.Reference.result _ _ _ (y 0) (y 1)

theorem frame_reference_in : Cert.quiescent_ReferenceInIdeal := fun m g _ =>
  (θ_run Cert.ReferenceInIdeal.defs _ _).mono (fun r h => ⟨fun c => (h c).2.2.2.2.2.2.2.2, sem_eq_zero_of_no_sems (by decide) r.2⟩)
    (Cert.ReferenceInIdeal.Value.run (F := Ideal) m g)

set_option maxHeartbeats 4000000 in
/-- The prompt's projections are the reference's. -/
theorem algebraic_in : Cert.algebraic_KernelInIdeal_ReferenceInIdeal := by
  intro m g m' g' _ hargs
  refine ⟨fun c => (Cert.KernelInIdeal.Gen.dats m 0 c).arrAt 6 Cert.KernelInIdeal.cfg0.N,
    fun c => (Cert.KernelInIdeal.Gen.dats m 0 c).arrAt 7 Cert.KernelInIdeal.cfg0.N,
    fun c => (Cert.KernelInIdeal.Gen.dats m 0 c).arrAt 8 Cert.KernelInIdeal.cfg0.N,
    fun c => (Cert.KernelInIdeal.Gen.dats m 0 c).arrAt 9 Cert.KernelInIdeal.cfg0.N,
    fun c => (Cert.KernelInIdeal.Gen.dats m 0 c).arrAt 11 Cert.KernelInIdeal.cfg0.N,
    fun c => (Cert.KernelInIdeal.Gen.dats m 0 c).arrAt 13 Cert.KernelInIdeal.cfg0.N,
    fun c => (Cert.KernelInIdeal.Gen.dats m 0 c).arrAt 14 Cert.KernelInIdeal.cfg0.N,
    fun c => (Cert.KernelInIdeal.Gen.dats m 0 c).arrAt 15 Cert.KernelInIdeal.cfg0.N, ?_, ?_⟩
  · refine (θ_run Cert.KernelInIdeal.defs _ _).mono (fun r h c => ?_) (Cert.KernelInIdeal.Value.run_blocks (F := Ideal) m g)
    obtain ⟨h0, h1, h2, h3, _, h5, _, h7, h8, h9, hk⟩ := h c
    exact ⟨h0, h1, h2, h3, h5, h7, h8, h9, hk⟩
  refine (θ_run Cert.ReferenceInIdeal.defs _ _).mono (fun r h c => ?_) (Cert.ReferenceInIdeal.Value.run (F := Ideal) m' g')
  obtain ⟨h0, h1, h2, h3⟩ := hargs c
  obtain ⟨r0, r1, r2, r3, r4, r5, r6, r7, hk⟩ := h c
  refine ⟨r0.trans ?_, r1.trans ?_, r2.trans ?_, r3.trans ?_, r4.trans ?_, r5.trans ?_, r6.trans ?_, r7.trans ?_, hk⟩
  · refine (Cert.ReferenceInIdeal.Read.val_main_v123_eq m' c).trans ?_
    rw [h0, h1, h2]
    exact Cert.In.Equation.eq6 m c
  · refine (Cert.ReferenceInIdeal.Read.val_main_v124_eq m' c).trans ?_
    rw [h0, h1, h2]
    exact Cert.In.Equation.eq7 m c
  · refine (Cert.ReferenceInIdeal.Read.val_main_v125_eq _ _ _).trans ?_
    rw [h0, h1, h2]
    exact Cert.In.Equation.eq8 m c
  · refine (Cert.ReferenceInIdeal.Read.val_main_v104_eq _ _ _).trans ?_
    rw [h0, h1, h2]
    exact Cert.In.Equation.eq9 m c
  · refine (Cert.ReferenceInIdeal.Read.val_main_v126_eq _ _ _).trans ?_
    rw [h0, h1, h2]
    exact Cert.In.Equation.eq11 m c
  · refine (Cert.ReferenceInIdeal.Read.val_main_v120_eq _ _ _).trans ?_
    rw [h0, h1, h2]
    exact Cert.In.Equation.eq13 m c
  · refine (Cert.ReferenceInIdeal.Read.val_main_v122_eq _ _ _).trans ?_
    rw [h0, h1, h2]
    exact Cert.In.Equation.eq14 m c
  · refine (Cert.ReferenceInIdeal.Read.val_main_v118_eq _ _ _ _).trans ?_
    rw [h0, h1, h2, h3]
    exact Cert.In.Equation.eq15 m c

theorem frame_reference_ffn_sample : Cert.quiescent_ReferenceFfnSampleIdeal := fun m g _ =>
  (θ_run Cert.ReferenceFfnSampleIdeal.defs _ _).mono (fun r h => ⟨fun c => (h c).2, sem_eq_zero_of_no_sems (by decide) r.2⟩)
    (Cert.ReferenceFfnSampleIdeal.Value.run (F := Ideal) m g)

/-- The output projection and the feed-forward block compute what the reference computes at the sample. -/
theorem algebraic_ffn_sample : Cert.algebraic_KernelFfnSampleIdeal_ReferenceFfnSampleIdeal := by
  intro m g m' g' _ hargs
  refine ⟨fun c => (Cert.KernelFfnSampleIdeal.Gen.dats m 0 c).arrAt 9 Cert.KernelFfnSampleIdeal.cfg0.N,
    Cert.KernelFfnSampleIdeal.Value.run_blocks (F := Ideal) m g, ?_⟩
  refine (θ_run Cert.ReferenceFfnSampleIdeal.defs _ _).mono (fun r h c => ⟨(h c).1.trans ?_, (h c).2⟩)
    (Cert.ReferenceFfnSampleIdeal.Value.run (F := Ideal) m' g')
  obtain ⟨h0, h1, h2, h3, h4, h5, h6, h7, h8⟩ := hargs c
  refine (Cert.ReferenceFfnSampleIdeal.Read.val_main_v55_eq m' c).trans ?_
  rw [h0, h1, h2, h3, h4, h5, h6, h7, h8]
  refine Eq.trans (funext fun y => ?_) (Cert.FfnSample.Block.array m c).symm
  refine Eq.trans (congrArg _ (Idealize.ShloMosaic.eq_ix2 y)) ?_
  exact Cert.FfnSample.Reference.result _ _ _ _ _ _ _ _ _ (y 0) (y 1)

theorem frame_reference_step : Cert.quiescent_ReferenceStepIdeal := fun m g _ =>
  (θ_run Cert.ReferenceStepIdeal.defs _ _).mono (fun r h => ⟨fun c => (h c).2.2, sem_eq_zero_of_no_sems (by decide) r.2⟩)
    (Cert.ReferenceStepIdeal.Value.run (F := Ideal) m g)

set_option maxHeartbeats 4000000 in
/-- The retention's step computes what the reference computes: the gated output and the new state. -/
theorem algebraic_step : Cert.algebraic_KernelStepIdeal_ReferenceStepIdeal := by
  intro m g m' g' _ hargs
  refine ⟨fun c => (Cert.KernelStepIdeal.Gen.dats m 0 c).arrAt 6 Cert.KernelStepIdeal.cfg0.N,
    fun c => (Cert.KernelStepIdeal.Gen.dats m 0 c).arrAt 7 Cert.KernelStepIdeal.cfg0.N,
    Cert.KernelStepIdeal.Value.run_blocks (F := Ideal) m g, ?_⟩
  refine (θ_run Cert.ReferenceStepIdeal.defs _ _).mono (fun r h c => ?_) (Cert.ReferenceStepIdeal.Value.run (F := Ideal) m' g')
  obtain ⟨h0, h1⟩ := hargs c
  obtain ⟨r0, r1, hk⟩ := h c
  refine ⟨r0.trans ?_, r1.trans ?_, hk⟩
  · refine (Cert.ReferenceStepIdeal.Read.val_main_v91_eq m' c).trans ?_
    rw [h0, h1]
    refine Eq.trans (funext fun y => ?_) (Cert.Step.Block.arrayY m c).symm
    refine Eq.trans (congrArg _ (Idealize.ShloMosaic.eq_ix2 y)) ?_
    exact Cert.Step.Reference.outputs _ _ (y 0) (y 1)
  · refine (Cert.ReferenceStepIdeal.Read.val_main_v92_eq _ _).trans ?_
    rw [h0, h1]
    refine Eq.trans (funext fun y => ?_) (Cert.Step.Block.arrayS m c).symm
    have hy : y = Idealize.ShloMosaic.ix5 (0 : Fin 1) (y 1) (y 2) (y 3) (y 4) :=
      (Idealize.ShloMosaic.eq_ix5 y).trans (congrArg (fun z : Fin 1 => Idealize.ShloMosaic.ix5 z (y 1) (y 2) (y 3) (y 4)) (Subsingleton.elim _ _))
    refine Eq.trans (congrArg _ hy) ?_
    exact Cert.Step.Reference.states _ _ (y 1) (y 2) (y 3) (y 4)

theorem claim : Cert.Claim := ⟨Cert.Kernel.Gen.facts, Cert.KernelIdeal.Gen.facts, Cert.ReferenceIdeal.Gen.facts, Cert.KernelFfn.Gen.facts, Cert.KernelFfnIdeal.Gen.facts, Cert.ReferenceFfnIdeal.Gen.facts, Cert.KernelProj.Gen.facts, Cert.KernelProjIdeal.Gen.facts, Cert.ReferenceProjIdeal.Gen.facts, Cert.KernelIn.Gen.facts, Cert.KernelInIdeal.Gen.facts, Cert.ReferenceInIdeal.Gen.facts, Cert.KernelFfnSample.Gen.facts, Cert.KernelFfnSampleIdeal.Gen.facts, Cert.ReferenceFfnSampleIdeal.Gen.facts, Cert.KernelStep.Gen.facts, Cert.KernelStepIdeal.Gen.facts, Cert.ReferenceStepIdeal.Gen.facts, Cert.Finite.facts,
  fun m g _ => Cert.Kernel.Gen.frame m g,
  fun m g _ => Cert.KernelIdeal.Gen.frame m g,
  fun m g _ => Cert.KernelIdeal.Gen.frame m g,
  frame_reference,
  fun m g _ => frame_reference m g trivial,
  fun m g _ => Cert.KernelFfn.Gen.frame m g,
  fun m g _ => Cert.KernelFfnIdeal.Gen.frame m g,
  frame_reference_ffn,
  fun m g _ => Cert.KernelProj.Gen.frame m g,
  fun m g _ => Cert.KernelProjIdeal.Gen.frame m g,
  frame_reference_proj,
  fun m g _ => Cert.KernelIn.Gen.frame m g,
  fun m g _ => Cert.KernelInIdeal.Gen.frame m g,
  frame_reference_in,
  fun m g _ => Cert.KernelFfnSample.Gen.frame m g,
  fun m g _ => Cert.KernelFfnSampleIdeal.Gen.frame m g,
  frame_reference_ffn_sample,
  fun m g _ => Cert.KernelStep.Gen.frame m g,
  fun m g _ => Cert.KernelStepIdeal.Gen.frame m g,
  frame_reference_step,
  trivial,
  algebraic,
  trivial,
  algebraic_ffn,
  trivial,
  algebraic_proj,
  trivial,
  algebraic_in,
  trivial,
  algebraic_ffn_sample,
  trivial,
  algebraic_step⟩

end Cert.Proof

end
